-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S12x64x2x128 Cert.KernelIdeal.S12x64x1x128
  ∧ IdealRules.bf16_pair.BufferStatement Cert.KernelIdeal.S8x2x1536 Cert.KernelIdeal.S8x1x1536
  ∧ IdealRules.bf16_pair.Statement Cert.KernelIdeal.S1x16x128 Cert.KernelIdeal.S1x8x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S1x2x128 Cert.KernelIdeal.S1x1x128
  ∧ IdealRules.named_const.Statement Cert.KernelIdeal.κ "inv_n" .f32 0x362AAAAB#32 ((1 / 393216 : ℝ) : EReal)
  ∧ IdealRules.named_const.Statement Cert.KernelIdeal.κ "inv_127" .f32 0x3C010204#32 ((1 / 127 : ℝ) : EReal)

def algebraic_KernelIdeal_ReferenceIdeal_on_off_thresholds [hKernelIdeal : Cert.KernelIdeal.Facts] [hReferenceIdeal : Cert.ReferenceIdeal.Facts] [hOn_off_thresholds : Cert.On_off_thresholds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 1024, 12288]⟩ : Shape).Idx, (Cert.On_off_thresholds.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v0_0) i = v0 c i)
          ∧ (∀ i : (⟨3, ![1, 32, 12288]⟩ : Shape).Idx, (Cert.On_off_thresholds.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v0_1) i = v1 c i)
          ∧ (∀ i : (⟨2, ![1, 1]⟩ : Shape).Idx, (Cert.On_off_thresholds.fn (F := Ideal) (m ((c.tc : Thread Cert.KernelIdeal.nD Cert.KernelIdeal.τ).loc Cert.KernelIdeal.main_arg0))).2.2 i = 1#1 → r.2.mem ((c.tc : Thread Cert.KernelIdeal.nD Cert.KernelIdeal.τ).loc Cert.KernelIdeal.main_v0_4) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 1024, 12288]⟩ : Shape).Idx, (Cert.On_off_thresholds.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v49) i = v0 c i)
          ∧ (∀ i : (⟨3, ![1, 32, 12288]⟩ : Shape).Idx, (Cert.On_off_thresholds.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v3) i = v1 c i)
          ∧ (∀ i : (⟨2, ![1, 1]⟩ : Shape).Idx, (Cert.On_off_thresholds.fn (F := Ideal) (m ((c.tc : Thread Cert.KernelIdeal.nD Cert.KernelIdeal.τ).loc Cert.KernelIdeal.main_arg0))).2.2 i = 1#1 → r.2.mem ((c.tc : Thread Cert.ReferenceIdeal.nD Cert.ReferenceIdeal.τ).loc Cert.ReferenceIdeal.main_v52) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_off_thresholds : Cert.On_off_thresholds.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_off_thresholds (hKernelIdeal := hKernelIdeal) (hReferenceIdeal := hReferenceIdeal) (hOn_off_thresholds := hOn_off_thresholds)
-- ==== On_off_thresholds.lean ====
abbrev S1x2048x12288 : Shape := ⟨3, ![1, 2048, 12288]⟩
abbrev S1x32x32x2x12288 : Shape := ⟨5, ![1, 32, 32, 2, 12288]⟩
abbrev S_ : Shape := ⟨0, ![]⟩
abbrev S1x32x12288 : Shape := ⟨3, ![1, 32, 12288]⟩
abbrev S1x32x1x1x12288 : Shape := ⟨5, ![1, 32, 1, 1, 12288]⟩
abbrev S1x32x32x1x12288 : Shape := ⟨5, ![1, 32, 32, 1, 12288]⟩
abbrev S1x32x32x12288 : Shape := ⟨4, ![1, 32, 32, 12288]⟩
abbrev S1x1024x12288 : Shape := ⟨3, ![1, 1024, 12288]⟩
abbrev S1x1 : Shape := ⟨2, ![1, 1]⟩

class Facts : Prop where
  bitsLt_bf16_f32 : FTy.bits .bf16 < FTy.bits .f32
  shapeCasts_S1x2048x12288_S1x32x32x2x12288 : S1x2048x12288.ShapeCasts S1x32x32x2x12288
  reducesTo_S1x32x32x2x12288_S1x32x12288_d2_3 : S1x32x32x2x12288.ReducesTo [2, 3] S1x32x12288
  h_S_ : 0 < S_.numel
  bcast_S_S1x32x12288 : S_.BroadcastsInDim S1x32x12288 (![] : Fin 0 → Fin S1x32x12288.rank)
  bcast_S1x32x12288_S1x32x1x1x12288_0_1_4 : S1x32x12288.BroadcastsInDim S1x32x1x1x12288 (![0, 1, 4] : Fin 3 → Fin S1x32x1x1x12288.rank)
  bcast_S1x32x1x1x12288_S1x32x32x2x12288_0_1_2_3_4 : S1x32x1x1x12288.BroadcastsInDim S1x32x32x2x12288 (![0, 1, 2, 3, 4] : Fin 5 → Fin S1x32x32x2x12288.rank)
  bcast_S_S1x32x32x2x12288 : S_.BroadcastsInDim S1x32x32x2x12288 (![] : Fin 0 → Fin S1x32x32x2x12288.rank)
  slices_S1x32x32x2x12288_S1x32x32x1x12288_0_0_0_0_0 : S1x32x32x2x12288.Slices ![0, 0, 0, 0, 0] S1x32x32x1x12288
  shapeCasts_S1x32x32x1x12288_S1x32x32x12288 : S1x32x32x1x12288.ShapeCasts S1x32x32x12288
  slices_S1x32x32x2x12288_S1x32x32x1x12288_0_0_0_1_0 : S1x32x32x2x12288.Slices ![0, 0, 0, 1, 0] S1x32x32x1x12288
  shapeCasts_S1x32x32x12288_S1x1024x12288 : S1x32x32x12288.ShapeCasts S1x1024x12288
  bcast_S_S1x1 : S_.BroadcastsInDim S1x1 (![] : Fin 0 → Fin S1x1.rank)

variable [Facts]

def fn_where {F : FTy → Type} [FloatOps F] (arg0 : IVec S1x32x12288 1) (arg1 : FVec F S_ .f32) (arg2 : FVec F S1x32x12288 .f32) : FVec F S1x32x12288 .f32 :=
  let v0 : FVec F S1x32x12288 .f32 := broadcastInDim S1x32x12288 ![] bcast_S_S1x32x12288 arg1
  let v1 : FVec F S1x32x12288 .f32 := select arg0 v0 arg2
  v1

def fn_part6 {F : FTy → Type} [FloatOps F] (main_v106 : IVec S1x1024x12288 1) (main_v107 : IVec S1x32x12288 1) (main_c_33 : IVec S_ 1) : IVec S1x1024x12288 1 × IVec S1x32x12288 1 × IVec S1x1 1 :=
  let main_v108 : IVec S1x1 1 := broadcastInDim S1x1 ![] bcast_S_S1x1 main_c_33
  (main_v106, main_v107, main_v108)

def fn_part5 {F : FTy → Type} [FloatOps F] (main_v11 : FVec F S1x32x32x2x12288 .f32) (main_v88 : IVec S1x32x32x2x12288 1) (main_cst_29 : FVec F S_ .f32) : IVec S1x1024x12288 1 × IVec S1x32x12288 1 × IVec S1x1 1 :=
  let main_v89 : FVec F S1x32x32x2x12288 .f32 := broadcastInDim S1x32x32x2x12288 ![] bcast_S_S1x32x32x2x12288 main_cst_29
  let main_v90 : FVec F S1x32x32x2x12288 .f32 := subf main_v11 main_v89
  let main_v91 : FVec F S1x32x32x2x12288 .f32 := Host.absf main_v90
  let main_cst_30 : FVec F S_ .f32 := constant S_ .f32 0x38D1B717#32
  let main_v92 : FVec F S1x32x32x2x12288 .f32 := broadcastInDim S1x32x32x2x12288 ![] bcast_S_S1x32x32x2x12288 main_cst_30
  let main_v93 : IVec S1x32x32x2x12288 1 := cmpf .ogt main_v91 main_v92
  let main_v94 : IVec S1x32x32x2x12288 1 := andi main_v88 main_v93
  let main_cst_31 : FVec F S_ .f32 := constant S_ .f32 0x3F5C89DA#32
  let main_v95 : FVec F S1x32x32x2x12288 .f32 := broadcastInDim S1x32x32x2x12288 ![] bcast_S_S1x32x32x2x12288 main_cst_31
  let main_v96 : FVec F S1x32x32x2x12288 .f32 := subf main_v11 main_v95
  let main_v97 : FVec F S1x32x32x2x12288 .f32 := Host.absf main_v96
  let main_cst_32 : FVec F S_ .f32 := constant S_ .f32 0x360637BD#32
  let main_v98 : FVec F S1x32x32x2x12288 .f32 := broadcastInDim S1x32x32x2x12288 ![] bcast_S_S1x32x32x2x12288 main_cst_32
  let main_v99 : IVec S1x32x32x2x12288 1 := cmpf .ogt main_v97 main_v98
  let main_v100 : IVec S1x32x32x2x12288 1 := andi main_v94 main_v99
  let main_v101 : IVec S1x32x32x1x12288 1 := (extractStridedSlice S1x32x32x1x12288 ![0, 0, 0, 0, 0] · slices_S1x32x32x2x12288_S1x32x32x1x12288_0_0_0_0_0) main_v100
  let main_v102 : IVec S1x32x32x12288 1 := shapeCast S1x32x32x12288 main_v101 shapeCasts_S1x32x32x1x12288_S1x32x32x12288
  let main_v103 : IVec S1x32x32x1x12288 1 := (extractStridedSlice S1x32x32x1x12288 ![0, 0, 0, 1, 0] · slices_S1x32x32x2x12288_S1x32x32x1x12288_0_0_0_1_0) main_v100
  let main_v104 : IVec S1x32x32x12288 1 := shapeCast S1x32x32x12288 main_v103 shapeCasts_S1x32x32x1x12288_S1x32x32x12288
  let main_v105 : IVec S1x32x32x12288 1 := andi main_v102 main_v104
  let main_v106 : IVec S1x1024x12288 1 := shapeCast S1x1024x12288 main_v105 shapeCasts_S1x32x32x12288_S1x1024x12288
  let main_c : IVec S_ 1 := constantI S_ 1 1#1
  let main_v107 : IVec S1x32x12288 1 := broadcastInDim S1x32x12288 ![] bcast_S_S1x32x12288 main_c
  let main_c_33 : IVec S_ 1 := constantI S_ 1 1#1
  fn_part6 (F := F) main_v106 main_v107 main_c_33

def fn_part4 {F : FTy → Type} [FloatOps F] (main_v11 : FVec F S1x32x32x2x12288 .f32) (main_v70 : IVec S1x32x32x2x12288 1) (main_cst_23 : FVec F S_ .f32) : IVec S1x1024x12288 1 × IVec S1x32x12288 1 × IVec S1x1 1 :=
  let main_v71 : FVec F S1x32x32x2x12288 .f32 := broadcastInDim S1x32x32x2x12288 ![] bcast_S_S1x32x32x2x12288 main_cst_23
  let main_v72 : FVec F S1x32x32x2x12288 .f32 := subf main_v11 main_v71
  let main_v73 : FVec F S1x32x32x2x12288 .f32 := Host.absf main_v72
  let main_cst_24 : FVec F S_ .f32 := constant S_ .f32 0x3727C5AC#32
  let main_v74 : FVec F S1x32x32x2x12288 .f32 := broadcastInDim S1x32x32x2x12288 ![] bcast_S_S1x32x32x2x12288 main_cst_24
  let main_v75 : IVec S1x32x32x2x12288 1 := cmpf .ogt main_v73 main_v74
  let main_v76 : IVec S1x32x32x2x12288 1 := andi main_v70 main_v75
  let main_cst_25 : FVec F S_ .f32 := constant S_ .f32 0x3EC753F9#32
  let main_v77 : FVec F S1x32x32x2x12288 .f32 := broadcastInDim S1x32x32x2x12288 ![] bcast_S_S1x32x32x2x12288 main_cst_25
  let main_v78 : FVec F S1x32x32x2x12288 .f32 := subf main_v11 main_v77
  let main_v79 : FVec F S1x32x32x2x12288 .f32 := Host.absf main_v78
  let main_cst_26 : FVec F S_ .f32 := constant S_ .f32 0x37A7C5AC#32
  let main_v80 : FVec F S1x32x32x2x12288 .f32 := broadcastInDim S1x32x32x2x12288 ![] bcast_S_S1x32x32x2x12288 main_cst_26
  let main_v81 : IVec S1x32x32x2x12288 1 := cmpf .ogt main_v79 main_v80
  let main_v82 : IVec S1x32x32x2x12288 1 := andi main_v76 main_v81
  let main_cst_27 : FVec F S_ .f32 := constant S_ .f32 0x3F006D04#32
  let main_v83 : FVec F S1x32x32x2x12288 .f32 := broadcastInDim S1x32x32x2x12288 ![] bcast_S_S1x32x32x2x12288 main_cst_27
  let main_v84 : FVec F S1x32x32x2x12288 .f32 := subf main_v11 main_v83
  let main_v85 : FVec F S1x32x32x2x12288 .f32 := Host.absf main_v84
  let main_cst_28 : FVec F S_ .f32 := constant S_ .f32 0x3A378034#32
  let main_v86 : FVec F S1x32x32x2x12288 .f32 := broadcastInDim S1x32x32x2x12288 ![] bcast_S_S1x32x32x2x12288 main_cst_28
  let main_v87 : IVec S1x32x32x2x12288 1 := cmpf .ogt main_v85 main_v86
  let main_v88 : IVec S1x32x32x2x12288 1 := andi main_v82 main_v87
  let main_cst_29 : FVec F S_ .f32 := constant S_ .f32 0x3F248DAF#32
  fn_part5 (F := F) main_v11 main_v88 main_cst_29

def fn_part3 {F : FTy → Type} [FloatOps F] (main_v11 : FVec F S1x32x32x2x12288 .f32) (main_v52 : IVec S1x32x32x2x12288 1) (main_cst_17 : FVec F S_ .f32) : IVec S1x1024x12288 1 × IVec S1x32x12288 1 × IVec S1x1 1 :=
  let main_v53 : FVec F S1x32x32x2x12288 .f32 := broadcastInDim S1x32x32x2x12288 ![] bcast_S_S1x32x32x2x12288 main_cst_17
  let main_v54 : FVec F S1x32x32x2x12288 .f32 := subf main_v11 main_v53
  let main_v55 : FVec F S1x32x32x2x12288 .f32 := Host.absf main_v54
  let main_cst_18 : FVec F S_ .f32 := constant S_ .f32 0x358637BD#32
  let main_v56 : FVec F S1x32x32x2x12288 .f32 := broadcastInDim S1x32x32x2x12288 ![] bcast_S_S1x32x32x2x12288 main_cst_18
  let main_v57 : IVec S1x32x32x2x12288 1 := cmpf .ogt main_v55 main_v56
  let main_v58 : IVec S1x32x32x2x12288 1 := andi main_v52 main_v57
  let main_cst_19 : FVec F S_ .f32 := constant S_ .f32 0x3DF64862#32
  let main_v59 : FVec F S1x32x32x2x12288 .f32 := broadcastInDim S1x32x32x2x12288 ![] bcast_S_S1x32x32x2x12288 main_cst_19
  let main_v60 : FVec F S1x32x32x2x12288 .f32 := subf main_v11 main_v59
  let main_v61 : FVec F S1x32x32x2x12288 .f32 := Host.absf main_v60
  let main_cst_20 : FVec F S_ .f32 := constant S_ .f32 0x360637BD#32
  let main_v62 : FVec F S1x32x32x2x12288 .f32 := broadcastInDim S1x32x32x2x12288 ![] bcast_S_S1x32x32x2x12288 main_cst_20
  let main_v63 : IVec S1x32x32x2x12288 1 := cmpf .ogt main_v61 main_v62
  let main_v64 : IVec S1x32x32x2x12288 1 := andi main_v58 main_v63
  let main_cst_21 : FVec F S_ .f32 := constant S_ .f32 0x3E5067E0#32
  let main_v65 : FVec F S1x32x32x2x12288 .f32 := broadcastInDim S1x32x32x2x12288 ![] bcast_S_S1x32x32x2x12288 main_cst_21
  let main_v66 : FVec F S1x32x32x2x12288 .f32 := subf main_v11 main_v65
  let main_v67 : FVec F S1x32x32x2x12288 .f32 := Host.absf main_v66
  let main_cst_22 : FVec F S_ .f32 := constant S_ .f32 0x360637BD#32
  let main_v68 : FVec F S1x32x32x2x12288 .f32 := broadcastInDim S1x32x32x2x12288 ![] bcast_S_S1x32x32x2x12288 main_cst_22
  let main_v69 : IVec S1x32x32x2x12288 1 := cmpf .ogt main_v67 main_v68
  let main_v70 : IVec S1x32x32x2x12288 1 := andi main_v64 main_v69
  let main_cst_23 : FVec F S_ .f32 := constant S_ .f32 0x3E9582D4#32
  fn_part4 (F := F) main_v11 main_v70 main_cst_23

def fn_part2 {F : FTy → Type} [FloatOps F] (main_v11 : FVec F S1x32x32x2x12288 .f32) (main_v34 : IVec S1x32x32x2x12288 1) (main_cst_11 : FVec F S_ .f32) : IVec S1x1024x12288 1 × IVec S1x32x12288 1 × IVec S1x1 1 :=
  let main_v35 : FVec F S1x32x32x2x12288 .f32 := broadcastInDim S1x32x32x2x12288 ![] bcast_S_S1x32x32x2x12288 main_cst_11
  let main_v36 : FVec F S1x32x32x2x12288 .f32 := subf main_v11 main_v35
  let main_v37 : FVec F S1x32x32x2x12288 .f32 := Host.absf main_v36
  let main_cst_12 : FVec F S_ .f32 := constant S_ .f32 0x358637BD#32
  let main_v38 : FVec F S1x32x32x2x12288 .f32 := broadcastInDim S1x32x32x2x12288 ![] bcast_S_S1x32x32x2x12288 main_cst_12
  let main_v39 : IVec S1x32x32x2x12288 1 := cmpf .ogt main_v37 main_v38
  let main_v40 : IVec S1x32x32x2x12288 1 := andi main_v34 main_v39
  let main_cst_13 : FVec F S_ .f32 := constant S_ .f32 0xBE0D38BC#32
  let main_v41 : FVec F S1x32x32x2x12288 .f32 := broadcastInDim S1x32x32x2x12288 ![] bcast_S_S1x32x32x2x12288 main_cst_13
  let main_v42 : FVec F S1x32x32x2x12288 .f32 := subf main_v11 main_v41
  let main_v43 : FVec F S1x32x32x2x12288 .f32 := Host.absf main_v42
  let main_cst_14 : FVec F S_ .f32 := constant S_ .f32 0x37A7C5AC#32
  let main_v44 : FVec F S1x32x32x2x12288 .f32 := broadcastInDim S1x32x32x2x12288 ![] bcast_S_S1x32x32x2x12288 main_cst_14
  let main_v45 : IVec S1x32x32x2x12288 1 := cmpf .ogt main_v43 main_v44
  let main_v46 : IVec S1x32x32x2x12288 1 := andi main_v40 main_v45
  let main_cst_15 : FVec F S_ .f32 := constant S_ .f32 0xBD3A7871#32
  let main_v47 : FVec F S1x32x32x2x12288 .f32 := broadcastInDim S1x32x32x2x12288 ![] bcast_S_S1x32x32x2x12288 main_cst_15
  let main_v48 : FVec F S1x32x32x2x12288 .f32 := subf main_v11 main_v47
  let main_v49 : FVec F S1x32x32x2x12288 .f32 := Host.absf main_v48
  let main_cst_16 : FVec F S_ .f32 := constant S_ .f32 0x360637BD#32
  let main_v50 : FVec F S1x32x32x2x12288 .f32 := broadcastInDim S1x32x32x2x12288 ![] bcast_S_S1x32x32x2x12288 main_cst_16
  let main_v51 : IVec S1x32x32x2x12288 1 := cmpf .ogt main_v49 main_v50
  let main_v52 : IVec S1x32x32x2x12288 1 := andi main_v46 main_v51
  let main_cst_17 : FVec F S_ .f32 := constant S_ .f32 0x3D22FAFF#32
  fn_part3 (F := F) main_v11 main_v52 main_cst_17

def fn_part1 {F : FTy → Type} [FloatOps F] (main_v11 : FVec F S1x32x32x2x12288 .f32) (main_v16 : IVec S1x32x32x2x12288 1) (main_cst_5 : FVec F S_ .f32) : IVec S1x1024x12288 1 × IVec S1x32x12288 1 × IVec S1x1 1 :=
  let main_v17 : FVec F S1x32x32x2x12288 .f32 := broadcastInDim S1x32x32x2x12288 ![] bcast_S_S1x32x32x2x12288 main_cst_5
  let main_v18 : FVec F S1x32x32x2x12288 .f32 := subf main_v11 main_v17
  let main_v19 : FVec F S1x32x32x2x12288 .f32 := Host.absf main_v18
  let main_cst_6 : FVec F S_ .f32 := constant S_ .f32 0x368637BD#32
  let main_v20 : FVec F S1x32x32x2x12288 .f32 := broadcastInDim S1x32x32x2x12288 ![] bcast_S_S1x32x32x2x12288 main_cst_6
  let main_v21 : IVec S1x32x32x2x12288 1 := cmpf .ogt main_v19 main_v20
  let main_v22 : IVec S1x32x32x2x12288 1 := andi main_v16 main_v21
  let main_cst_7 : FVec F S_ .f32 := constant S_ .f32 0xBEEB8480#32
  let main_v23 : FVec F S1x32x32x2x12288 .f32 := broadcastInDim S1x32x32x2x12288 ![] bcast_S_S1x32x32x2x12288 main_cst_7
  let main_v24 : FVec F S1x32x32x2x12288 .f32 := subf main_v11 main_v23
  let main_v25 : FVec F S1x32x32x2x12288 .f32 := Host.absf main_v24
  let main_cst_8 : FVec F S_ .f32 := constant S_ .f32 0x3827C5AC#32
  let main_v26 : FVec F S1x32x32x2x12288 .f32 := broadcastInDim S1x32x32x2x12288 ![] bcast_S_S1x32x32x2x12288 main_cst_8
  let main_v27 : IVec S1x32x32x2x12288 1 := cmpf .ogt main_v25 main_v26
  let main_v28 : IVec S1x32x32x2x12288 1 := andi main_v22 main_v27
  let main_cst_9 : FVec F S_ .f32 := constant S_ .f32 0xBEADEA76#32
  let main_v29 : FVec F S1x32x32x2x12288 .f32 := broadcastInDim S1x32x32x2x12288 ![] bcast_S_S1x32x32x2x12288 main_cst_9
  let main_v30 : FVec F S1x32x32x2x12288 .f32 := subf main_v11 main_v29
  let main_v31 : FVec F S1x32x32x2x12288 .f32 := Host.absf main_v30
  let main_cst_10 : FVec F S_ .f32 := constant S_ .f32 0x36A7C5AC#32
  let main_v32 : FVec F S1x32x32x2x12288 .f32 := broadcastInDim S1x32x32x2x12288 ![] bcast_S_S1x32x32x2x12288 main_cst_10
  let main_v33 : IVec S1x32x32x2x12288 1 := cmpf .ogt main_v31 main_v32
  let main_v34 : IVec S1x32x32x2x12288 1 := andi main_v28 main_v33
  let main_cst_11 : FVec F S_ .f32 := constant S_ .f32 0xBE703CEC#32
  fn_part2 (F := F) main_v11 main_v34 main_cst_11

def fn {F : FTy → Type} [FloatOps F] (main_arg0 : FVec F S1x2048x12288 .bf16) : IVec S1x1024x12288 1 × IVec S1x32x12288 1 × IVec S1x1 1 :=
  let main_v0 : FVec F S1x2048x12288 .f32 := (extf .f32 · bitsLt_bf16_f32) main_arg0
  let main_v1 : FVec F S1x32x32x2x12288 .f32 := shapeCast S1x32x32x2x12288 main_v0 shapeCasts_S1x2048x12288_S1x32x32x2x12288
  let main_v2 : FVec F S1x32x32x2x12288 .f32 := Host.absf main_v1
  let main_cst : FVec F S_ .f32 := constant S_ .f32 0xFF800000#32
  let main_v3 : FVec F S1x32x12288 .f32 := (fun x v => Host.reduce FloatOps.maximumf x v reducesTo_S1x32x32x2x12288_S1x32x12288_d2_3 h_S_) main_v2 main_cst
  let main_cst_0 : FVec F S_ .f32 := constant S_ .f32 0x00000000#32
  let main_v4 : FVec F S1x32x12288 .f32 := broadcastInDim S1x32x12288 ![] bcast_S_S1x32x12288 main_cst_0
  let main_v5 : IVec S1x32x12288 1 := cmpf .oeq main_v3 main_v4
  let main_cst_1 : FVec F S_ .f32 := constant S_ .f32 0x3F800000#32
  let main_v6 : FVec F S1x32x12288 .f32 := fn_where (F := F) main_v5 main_cst_1 main_v3
  let main_cst_2 : FVec F S_ .f32 := constant S_ .f32 0x3F800000#32
  let main_v7 : FVec F S1x32x12288 .f32 := broadcastInDim S1x32x12288 ![] bcast_S_S1x32x12288 main_cst_2
  let main_v8 : FVec F S1x32x12288 .f32 := Host.divf main_v7 main_v6
  let main_v9 : FVec F S1x32x1x1x12288 .f32 := broadcastInDim S1x32x1x1x12288 ![0, 1, 4] bcast_S1x32x12288_S1x32x1x1x12288_0_1_4 main_v8
  let main_v10 : FVec F S1x32x32x2x12288 .f32 := broadcastInDim S1x32x32x2x12288 ![0, 1, 2, 3, 4] bcast_S1x32x1x1x12288_S1x32x32x2x12288_0_1_2_3_4 main_v9
  let main_v11 : FVec F S1x32x32x2x12288 .f32 := mulf main_v1 main_v10
  let main_cst_3 : FVec F S_ .f32 := constant S_ .f32 0xBF591CD8#32
  let main_v12 : FVec F S1x32x32x2x12288 .f32 := broadcastInDim S1x32x32x2x12288 ![] bcast_S_S1x32x32x2x12288 main_cst_3
  let main_v13 : FVec F S1x32x32x2x12288 .f32 := subf main_v11 main_v12
  let main_v14 : FVec F S1x32x32x2x12288 .f32 := Host.absf main_v13
  let main_cst_4 : FVec F S_ .f32 := constant S_ .f32 0x3827C5AC#32
  let main_v15 : FVec F S1x32x32x2x12288 .f32 := broadcastInDim S1x32x32x2x12288 ![] bcast_S_S1x32x32x2x12288 main_cst_4
  let main_v16 : IVec S1x32x32x2x12288 1 := cmpf .ogt main_v14 main_v15
  let main_cst_5 : FVec F S_ .f32 := constant S_ .f32 0xBF1C5270#32
  fn_part1 (F := F) main_v11 main_v16 main_cst_5
-- ==== Kernel.lean ====
abbrev S1x2048x12288 : Shape := ⟨3, ![1, 2048, 12288]⟩
abbrev S1x1024x12288 : Shape := ⟨3, ![1, 1024, 12288]⟩
abbrev S1x32x12288 : Shape := ⟨3, ![1, 32, 12288]⟩
abbrev S1536x256 : Shape := ⟨2, ![1536, 256]⟩
abbrev S12x128 : Shape := ⟨2, ![12, 128]⟩
abbrev S1x1 : Shape := ⟨2, ![1, 1]⟩
abbrev S1x256x1536 : Shape := ⟨3, ![1, 256, 1536]⟩
abbrev S1x8x1536 : Shape := ⟨3, ![1, 8, 1536]⟩
abbrev S3x512x1536 : Shape := ⟨3, ![3, 512, 1536]⟩
abbrev S3 : Shape := ⟨1, ![3]⟩
abbrev S12x64x128 : Shape := ⟨3, ![12, 64, 128]⟩
abbrev S32x12288 : Shape := ⟨2, ![32, 12288]⟩
abbrev S8x1536 : Shape := ⟨2, ![8, 1536]⟩
abbrev S384x128 : Shape := ⟨2, ![384, 128]⟩
abbrev S1 : Shape := ⟨1, ![1]⟩
abbrev S_ : Shape := ⟨0, ![]⟩
abbrev S1x512x1536 : Shape := ⟨3, ![1, 512, 1536]⟩
abbrev S512x1536 : Shape := ⟨2, ![512, 1536]⟩
abbrev S3x256x1536 : Shape := ⟨3, ![3, 256, 1536]⟩
abbrev S1x8x128 : Shape := ⟨3, ![1, 8, 128]⟩
abbrev S1x16x128 : Shape := ⟨3, ![1, 16, 128]⟩
abbrev S8x128 : Shape := ⟨2, ![8, 128]⟩
abbrev S16x128 : Shape := ⟨2, ![16, 128]⟩
abbrev S1x128 : Shape := ⟨2, ![1, 128]⟩
abbrev S8x128x1 : Shape := ⟨3, ![8, 128, 1]⟩
abbrev S32x128 : Shape := ⟨2, ![32, 128]⟩
abbrev S1x32x128 : Shape := ⟨3, ![1, 32, 128]⟩
abbrev S1x1x1 : Shape := ⟨3, ![1, 1, 1]⟩
abbrev S8 : Shape := ⟨1, ![8]⟩
abbrev S8x1 : Shape := ⟨2, ![8, 1]⟩
abbrev S128 : Shape := ⟨1, ![128]⟩

abbrev nBuf : Space → Nat
  | .hbm => 6
  | .vmem => 13
  | .smem => 1
  | _ => 0

abbrev bufTy : (tb : Table) → Fin (tcTables nBuf tb) → BufTy
  | .hbm, ⟨0, _⟩ => ⟨S1x2048x12288, .bf16⟩
  | .hbm, ⟨1, _⟩ => ⟨S1x1024x12288, .i8⟩
  | .hbm, ⟨2, _⟩ => ⟨S1x32x12288, .f32⟩
  | .hbm, ⟨3, _⟩ => ⟨S1536x256, .i8⟩
  | .hbm, ⟨4, _⟩ => ⟨S12x128, .f32⟩
  | .hbm, ⟨5, _⟩ => ⟨S1x1, .f32⟩
  | .local _ .vmem, ⟨0, _⟩ => ⟨S1x256x1536, .i8⟩
  | .local _ .vmem, ⟨1, _⟩ => ⟨S1x256x1536, .i8⟩
  | .local _ .vmem, ⟨2, _⟩ => ⟨S1x8x1536, .f32⟩
  | .local _ .vmem, ⟨3, _⟩ => ⟨S1x8x1536, .f32⟩
  | .local _ .vmem, ⟨4, _⟩ => ⟨S1536x256, .i8⟩
  | .local _ .vmem, ⟨5, _⟩ => ⟨S12x128, .f32⟩
  | .local _ .vmem, ⟨6, _⟩ => ⟨S3x512x1536, .bf16⟩
  | .local _ .vmem, ⟨7, _⟩ => ⟨S12x64x128, .i32⟩
  | .local _ .vmem, ⟨8, _⟩ => ⟨S32x12288, .f32⟩
  | .local _ .vmem, ⟨9, _⟩ => ⟨S8x1536, .f32⟩
  | .local _ .vmem, ⟨10, _⟩ => ⟨S8x1536, .i32⟩
  | .local _ .vmem, ⟨11, _⟩ => ⟨S384x128, .i32⟩
  | .local _ .vmem, ⟨12, _⟩ => ⟨S384x128, .i32⟩
  | .local _ .smem, ⟨0, _⟩ => ⟨S1x1, .f32⟩
  | _, _ => ⟨S1x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_67 : BitVec 32 := 0#32
  c0_i32_67
def k0_mult2 : BitVec 32 :=
  let c0_i32_68 : BitVec 32 := 0#32
  c0_i32_68
def k0_mult3 : BitVec 32 :=
  let c0_i32_74 : BitVec 32 := 0#32
  c0_i32_74
def k0_mult4 : BitVec 32 :=
  let c1536_i32_75 : BitVec 32 := 1536#32
  c1536_i32_75
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult5 (i : grid0.Coords) : BitVec 32 :=
  let arg0 : BitVec 32 := BitVec.ofNat 32 (i 0).val
  let c2_i32 : BitVec 32 := 2#32
  let v3 : BitVec 32 := Scalar.addi arg0 c2_i32
  let c0_i32_69 : BitVec 32 := 0#32
  let v150 : BitVec 1 := Scalar.cmpi .sgt v3 c0_i32_69
  let v151 : BitVec 32 := Scalar.extui v150
  let c0_i32_70 : BitVec 32 := 0#32
  let v152 : BitVec 1 := Scalar.cmpi .slt v3 c0_i32_70
  let v153 : BitVec 32 := Scalar.extui v152
  let v154 : BitVec 32 := Scalar.subi v151 v153
  let c8_i32_68 : BitVec 32 := 8#32
  let c0_i32_71 : BitVec 32 := 0#32
  let v155 : BitVec 1 := Scalar.cmpi .sgt c8_i32_68 c0_i32_71
  let v156 : BitVec 32 := Scalar.extui v155
  let c0_i32_72 : BitVec 32 := 0#32
  let v157 : BitVec 1 := Scalar.cmpi .slt c8_i32_68 c0_i32_72
  let v158 : BitVec 32 := Scalar.extui v157
  let v159 : BitVec 32 := Scalar.subi v156 v158
  let v160 : BitVec 1 := Scalar.cmpi .ne v154 v159
  let v161 : BitVec 32 := Scalar.remsi v3 c8_i32_68
  let c0_i32_73 : BitVec 32 := 0#32
  let v162 : BitVec 1 := Scalar.cmpi .ne v161 c0_i32_73
  let v163 : BitVec 1 := Scalar.andi v160 v162
  let v149 : BitVec 32 := Scalar.divsi v3 c8_i32_68
  let c1_i32_74 : BitVec 32 := 1#32
  let v164 : BitVec 32 := Scalar.subi v149 c1_i32_74
  let v165 : BitVec 32 := Scalar.select v163 v164 v149
  let c512_i32_75 : BitVec 32 := 512#32
  let v166 : BitVec 32 := Scalar.muli v165 c512_i32_75
  v166
def k0_mult6 (i : grid0.Coords) : BitVec 32 :=
  let arg0 : BitVec 32 := BitVec.ofNat 32 (i 0).val
  let c2_i32 : BitVec 32 := 2#32
  let v3 : BitVec 32 := Scalar.addi arg0 c2_i32
  let c8_i32_76 : BitVec 32 := 8#32
  let c0_i32_77 : BitVec 32 := 0#32
  let v168 : BitVec 1 := Scalar.cmpi .eq c8_i32_76 c0_i32_77
  let c1_i32_78 : BitVec 32 := 1#32
  let v169 : BitVec 32 := Scalar.select v168 c1_i32_78 c8_i32_76
  let v170 : BitVec 32 := Scalar.remsi v3 v169
  let c0_i32_80 : BitVec 32 := 0#32
  let v172 : BitVec 1 := Scalar.cmpi .slt v170 c0_i32_80
  let c0_i32_81 : BitVec 32 := 0#32
  let v173 : BitVec 1 := Scalar.cmpi .slt v169 c0_i32_81
  let v174 : BitVec 1 := Scalar.xori v172 v173
  let c0_i32_79 : BitVec 32 := 0#32
  let v171 : BitVec 1 := Scalar.cmpi .ne v170 c0_i32_79
  let v175 : BitVec 1 := Scalar.andi v174 v171
  let v176 : BitVec 32 := Scalar.addi v170 v169
  let v177 : BitVec 32 := Scalar.select v175 v176 v170
  let c1536_i32_82 : BitVec 32 := 1536#32
  let v178 : BitVec 32 := Scalar.muli v177 c1536_i32_82
  v178
def k0_off1 (i : grid0.Coords) : Fin 1 → Nat :=
  let arg0 : BitVec 32 := BitVec.ofNat 32 (i 0).val
  let c2_i32 : BitVec 32 := 2#32
  let v3 : BitVec 32 := Scalar.addi arg0 c2_i32
  let c3_i32_67 : BitVec 32 := 3#32
  let v148 : BitVec 32 := Scalar.remsi v3 c3_i32_67
  ![v148.toNat]
def k0_off2 (i : grid0.Coords) : Fin 3 → Nat :=
  let arg0 : BitVec 32 := BitVec.ofNat 32 (i 0).val
  let c2_i32 : BitVec 32 := 2#32
  let v3 : BitVec 32 := Scalar.addi arg0 c2_i32
  let c3_i32_67 : BitVec 32 := 3#32
  let v148 : BitVec 32 := Scalar.remsi v3 c3_i32_67
  let c0_i32_84 : BitVec 32 := 0#32
  let c0_i32_85 : BitVec 32 := 0#32
  ![v148.toNat, 0, 0]
def k0_off3 (i : grid0.Coords) : Fin 3 → Nat :=
  let c0_i32_83 : BitVec 32 := 0#32
  let arg0 : BitVec 32 := BitVec.ofNat 32 (i 0).val
  let c2_i32 : BitVec 32 := 2#32
  let v3 : BitVec 32 := Scalar.addi arg0 c2_i32
  let c0_i32_69 : BitVec 32 := 0#32
  let v150 : BitVec 1 := Scalar.cmpi .sgt v3 c0_i32_69
  let v151 : BitVec 32 := Scalar.extui v150
  let c0_i32_70 : BitVec 32 := 0#32
  let v152 : BitVec 1 := Scalar.cmpi .slt v3 c0_i32_70
  let v153 : BitVec 32 := Scalar.extui v152
  let v154 : BitVec 32 := Scalar.subi v151 v153
  let c8_i32_68 : BitVec 32 := 8#32
  let c0_i32_71 : BitVec 32 := 0#32
  let v155 : BitVec 1 := Scalar.cmpi .sgt c8_i32_68 c0_i32_71
  let v156 : BitVec 32 := Scalar.extui v155
  let c0_i32_72 : BitVec 32 := 0#32
  let v157 : BitVec 1 := Scalar.cmpi .slt c8_i32_68 c0_i32_72
  let v158 : BitVec 32 := Scalar.extui v157
  let v159 : BitVec 32 := Scalar.subi v156 v158
  let v160 : BitVec 1 := Scalar.cmpi .ne v154 v159
  let v161 : BitVec 32 := Scalar.remsi v3 c8_i32_68
  let c0_i32_73 : BitVec 32 := 0#32
  let v162 : BitVec 1 := Scalar.cmpi .ne v161 c0_i32_73
  let v163 : BitVec 1 := Scalar.andi v160 v162
  let v149 : BitVec 32 := Scalar.divsi v3 c8_i32_68
  let c1_i32_74 : BitVec 32 := 1#32
  let v164 : BitVec 32 := Scalar.subi v149 c1_i32_74
  let v165 : BitVec 32 := Scalar.select v163 v164 v149
  let c512_i32_75 : BitVec 32 := 512#32
  let v166 : BitVec 32 := Scalar.muli v165 c512_i32_75
  let v167 : BitVec 32 := v166
  let c8_i32_76 : BitVec 32 := 8#32
  let c0_i32_77 : BitVec 32 := 0#32
  let v168 : BitVec 1 := Scalar.cmpi .eq c8_i32_76 c0_i32_77
  let c1_i32_78 : BitVec 32 := 1#32
  let v169 : BitVec 32 := Scalar.select v168 c1_i32_78 c8_i32_76
  let v170 : BitVec 32 := Scalar.remsi v3 v169
  let c0_i32_80 : BitVec 32 := 0#32
  let v172 : BitVec 1 := Scalar.cmpi .slt v170 c0_i32_80
  let c0_i32_81 : BitVec 32 := 0#32
  let v173 : BitVec 1 := Scalar.cmpi .slt v169 c0_i32_81
  let v174 : BitVec 1 := Scalar.xori v172 v173
  let c0_i32_79 : BitVec 32 := 0#32
  let v171 : BitVec 1 := Scalar.cmpi .ne v170 c0_i32_79
  let v175 : BitVec 1 := Scalar.andi v174 v171
  let v176 : BitVec 32 := Scalar.addi v170 v169
  let v177 : BitVec 32 := Scalar.select v175 v176 v170
  let c1536_i32_82 : BitVec 32 := 1536#32
  let v178 : BitVec 32 := Scalar.muli v177 c1536_i32_82
  let v179 : BitVec 32 := v178
  ![0, v167.toNat, v179.toNat]
def k0_mult7 (i : grid0.Coords) : BitVec 32 :=
  let arg0 : BitVec 32 := BitVec.ofNat 32 (i 0).val
  let c0_i32_2 : BitVec 32 := 0#32
  let v9 : BitVec 1 := Scalar.cmpi .sgt arg0 c0_i32_2
  let v10 : BitVec 32 := Scalar.extui v9
  let c0_i32_3 : BitVec 32 := 0#32
  let v11 : BitVec 1 := Scalar.cmpi .slt arg0 c0_i32_3
  let v12 : BitVec 32 := Scalar.extui v11
  let v13 : BitVec 32 := Scalar.subi v10 v12
  let c8_i32 : BitVec 32 := 8#32
  let c0_i32_4 : BitVec 32 := 0#32
  let v14 : BitVec 1 := Scalar.cmpi .sgt c8_i32 c0_i32_4
  let v15 : BitVec 32 := Scalar.extui v14
  let c0_i32_5 : BitVec 32 := 0#32
  let v16 : BitVec 1 := Scalar.cmpi .slt c8_i32 c0_i32_5
  let v17 : BitVec 32 := Scalar.extui v16
  let v18 : BitVec 32 := Scalar.subi v15 v17
  let v19 : BitVec 1 := Scalar.cmpi .ne v13 v18
  let v20 : BitVec 32 := Scalar.remsi arg0 c8_i32
  let c0_i32_6 : BitVec 32 := 0#32
  let v21 : BitVec 1 := Scalar.cmpi .ne v20 c0_i32_6
  let v22 : BitVec 1 := Scalar.andi v19 v21
  let v8 : BitVec 32 := Scalar.divsi arg0 c8_i32
  let c1_i32 : BitVec 32 := 1#32
  let v23 : BitVec 32 := Scalar.subi v8 c1_i32
  let v24 : BitVec 32 := Scalar.select v22 v23 v8
  let c512_i32 : BitVec 32 := 512#32
  let v25 : BitVec 32 := Scalar.muli v24 c512_i32
  v25
def k0_mult8 (i : grid0.Coords) : BitVec 32 :=
  let arg0 : BitVec 32 := BitVec.ofNat 32 (i 0).val
  let c8_i32_7 : BitVec 32 := 8#32
  let c0_i32_8 : BitVec 32 := 0#32
  let v27 : BitVec 1 := Scalar.cmpi .eq c8_i32_7 c0_i32_8
  let c1_i32_9 : BitVec 32 := 1#32
  let v28 : BitVec 32 := Scalar.select v27 c1_i32_9 c8_i32_7
  let v29 : BitVec 32 := Scalar.remsi arg0 v28
  let c0_i32_11 : BitVec 32 := 0#32
  let v31 : BitVec 1 := Scalar.cmpi .slt v29 c0_i32_11
  let c0_i32_12 : BitVec 32 := 0#32
  let v32 : BitVec 1 := Scalar.cmpi .slt v28 c0_i32_12
  let v33 : BitVec 1 := Scalar.xori v31 v32
  let c0_i32_10 : BitVec 32 := 0#32
  let v30 : BitVec 1 := Scalar.cmpi .ne v29 c0_i32_10
  let v34 : BitVec 1 := Scalar.andi v33 v30
  let v35 : BitVec 32 := Scalar.addi v29 v28
  let v36 : BitVec 32 := Scalar.select v34 v35 v29
  let c1536_i32 : BitVec 32 := 1536#32
  let v37 : BitVec 32 := Scalar.muli v36 c1536_i32
  v37
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_14 : BitVec 32 := 0#32
  let c0_i32_15 : BitVec 32 := 0#32
  ![v7.toNat, 0, 0]
def k0_off6 (i : grid0.Coords) : Fin 3 → Nat :=
  let c0_i32_13 : BitVec 32 := 0#32
  let arg0 : BitVec 32 := BitVec.ofNat 32 (i 0).val
  let c0_i32_2 : BitVec 32 := 0#32
  let v9 : BitVec 1 := Scalar.cmpi .sgt arg0 c0_i32_2
  let v10 : BitVec 32 := Scalar.extui v9
  let c0_i32_3 : BitVec 32 := 0#32
  let v11 : BitVec 1 := Scalar.cmpi .slt arg0 c0_i32_3
  let v12 : BitVec 32 := Scalar.extui v11
  let v13 : BitVec 32 := Scalar.subi v10 v12
  let c8_i32 : BitVec 32 := 8#32
  let c0_i32_4 : BitVec 32 := 0#32
  let v14 : BitVec 1 := Scalar.cmpi .sgt c8_i32 c0_i32_4
  let v15 : BitVec 32 := Scalar.extui v14
  let c0_i32_5 : BitVec 32 := 0#32
  let v16 : BitVec 1 := Scalar.cmpi .slt c8_i32 c0_i32_5
  let v17 : BitVec 32 := Scalar.extui v16
  let v18 : BitVec 32 := Scalar.subi v15 v17
  let v19 : BitVec 1 := Scalar.cmpi .ne v13 v18
  let v20 : BitVec 32 := Scalar.remsi arg0 c8_i32
  let c0_i32_6 : BitVec 32 := 0#32
  let v21 : BitVec 1 := Scalar.cmpi .ne v20 c0_i32_6
  let v22 : BitVec 1 := Scalar.andi v19 v21
  let v8 : BitVec 32 := Scalar.divsi arg0 c8_i32
  let c1_i32 : BitVec 32 := 1#32
  let v23 : BitVec 32 := Scalar.subi v8 c1_i32
  let v24 : BitVec 32 := Scalar.select v22 v23 v8
  let c512_i32 : BitVec 32 := 512#32
  let v25 : BitVec 32 := Scalar.muli v24 c512_i32
  let v26 : BitVec 32 := v25
  let c8_i32_7 : BitVec 32 := 8#32
  let c0_i32_8 : BitVec 32 := 0#32
  let v27 : BitVec 1 := Scalar.cmpi .eq c8_i32_7 c0_i32_8
  let c1_i32_9 : BitVec 32 := 1#32
  let v28 : BitVec 32 := Scalar.select v27 c1_i32_9 c8_i32_7
  let v29 : BitVec 32 := Scalar.remsi arg0 v28
  let c0_i32_11 : BitVec 32 := 0#32
  let v31 : BitVec 1 := Scalar.cmpi .slt v29 c0_i32_11
  let c0_i32_12 : BitVec 32 := 0#32
  let v32 : BitVec 1 := Scalar.cmpi .slt v28 c0_i32_12
  let v33 : BitVec 1 := Scalar.xori v31 v32
  let c0_i32_10 : BitVec 32 := 0#32
  let v30 : BitVec 1 := Scalar.cmpi .ne v29 c0_i32_10
  let v34 : BitVec 1 := Scalar.andi v33 v30
  let v35 : BitVec 32 := Scalar.addi v29 v28
  let v36 : BitVec 32 := Scalar.select v34 v35 v29
  let c1536_i32 : BitVec 32 := 1536#32
  let v37 : BitVec 32 := Scalar.muli v36 c1536_i32
  let v38 : BitVec 32 := v37
  ![0, v26.toNat, v38.toNat]
def k0_mult9 (i : grid0.Coords) : BitVec 32 :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .slt arg0 c0_i32_18
  let v49 : BitVec 32 := Scalar.extui v48
  let v50 : BitVec 32 := Scalar.subi v47 v49
  let c8_i32_16 : BitVec 32 := 8#32
  let c0_i32_19 : BitVec 32 := 0#32
  let v51 : BitVec 1 := Scalar.cmpi .sgt c8_i32_16 c0_i32_19
  let v52 : BitVec 32 := Scalar.extui v51
  let c0_i32_20 : BitVec 32 := 0#32
  let v53 : BitVec 1 := Scalar.cmpi .slt c8_i32_16 c0_i32_20
  let v54 : BitVec 32 := Scalar.extui v53
  let v55 : BitVec 32 := Scalar.subi v52 v54
  let v56 : BitVec 1 := Scalar.cmpi .ne v50 v55
  let v57 : BitVec 32 := Scalar.remsi arg0 c8_i32_16
  let c0_i32_21 : BitVec 32 := 0#32
  let v58 : BitVec 1 := Scalar.cmpi .ne v57 c0_i32_21
  let v59 : BitVec 1 := Scalar.andi v56 v58
  let v45 : BitVec 32 := Scalar.divsi arg0 c8_i32_16
  let c1_i32_22 : BitVec 32 := 1#32
  let v60 : BitVec 32 := Scalar.subi v45 c1_i32_22
  let v61 : BitVec 32 := Scalar.select v59 v60 v45
  let c8_i32_30 : BitVec 32 := 8#32
  let v73 : BitVec 32 := Scalar.muli v61 c8_i32_30
  v73
@[reducible] def k0_t1_loop : Scf.Loop 32 :=
  let c0_i32_31 : BitVec 32 := 0#32
  let c12_i32 : BitVec 32 := 12#32
  let v75 : BitVec 32 := Scalar.addi c0_i32_31 c12_i32
  let c1_i32_32 : BitVec 32 := 1#32
  ⟨c0_i32_31, v75, c1_i32_32⟩
def k0_mult10 (k0_t1 : Fin k0_t1_loop.trips) : BitVec 32 :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  v150
def k0_off7 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v153 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v154 : Index := Scalar.indexCast v151
  ![v153.toNat, 0, v154.toNat]
def k0_off8 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v160 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v161 : Index := Scalar.indexCast v151
  ![v160.toNat, 16, v161.toNat]
def k0_off9 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v168 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v169 : Index := Scalar.indexCast v151
  ![v168.toNat, 32, v169.toNat]
def k0_off10 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v176 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v177 : Index := Scalar.indexCast v151
  ![v176.toNat, 48, v177.toNat]
def k0_off11 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v184 : Index := Scalar.indexCast v149
  let c0_69 : Index := 0#32
  let c0_70 : Index := 0#32
  ![v184.toNat, 0, 0]
def k0_off12 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v189 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v190 : Index := Scalar.indexCast v151
  ![v189.toNat, 64, v190.toNat]
def k0_off13 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v196 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v197 : Index := Scalar.indexCast v151
  ![v196.toNat, 80, v197.toNat]
def k0_off14 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v204 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v205 : Index := Scalar.indexCast v151
  ![v204.toNat, 96, v205.toNat]
def k0_off15 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v212 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v213 : Index := Scalar.indexCast v151
  ![v212.toNat, 112, v213.toNat]
def k0_off16 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v220 : Index := Scalar.indexCast v149
  let c1 : Index := 1#32
  let c0_71 : Index := 0#32
  ![v220.toNat, 1, 0]
def k0_off17 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v225 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v226 : Index := Scalar.indexCast v151
  ![v225.toNat, 128, v226.toNat]
def k0_off18 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v232 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v233 : Index := Scalar.indexCast v151
  ![v232.toNat, 144, v233.toNat]
def k0_off19 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v240 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v241 : Index := Scalar.indexCast v151
  ![v240.toNat, 160, v241.toNat]
def k0_off20 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v248 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v249 : Index := Scalar.indexCast v151
  ![v248.toNat, 176, v249.toNat]
def k0_off21 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v256 : Index := Scalar.indexCast v149
  let c2 : Index := 2#32
  let c0_72 : Index := 0#32
  ![v256.toNat, 2, 0]
def k0_off22 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v261 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v262 : Index := Scalar.indexCast v151
  ![v261.toNat, 192, v262.toNat]
def k0_off23 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v268 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v269 : Index := Scalar.indexCast v151
  ![v268.toNat, 208, v269.toNat]
def k0_off24 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v276 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v277 : Index := Scalar.indexCast v151
  ![v276.toNat, 224, v277.toNat]
def k0_off25 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v284 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v285 : Index := Scalar.indexCast v151
  ![v284.toNat, 240, v285.toNat]
def k0_off26 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v292 : Index := Scalar.indexCast v149
  let c3 : Index := 3#32
  let c0_73 : Index := 0#32
  ![v292.toNat, 3, 0]
def k0_off27 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v297 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v298 : Index := Scalar.indexCast v151
  ![v297.toNat, 256, v298.toNat]
def k0_off28 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v304 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v305 : Index := Scalar.indexCast v151
  ![v304.toNat, 272, v305.toNat]
def k0_off29 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v312 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v313 : Index := Scalar.indexCast v151
  ![v312.toNat, 288, v313.toNat]
def k0_off30 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v320 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v321 : Index := Scalar.indexCast v151
  ![v320.toNat, 304, v321.toNat]
def k0_off31 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v328 : Index := Scalar.indexCast v149
  let c4 : Index := 4#32
  let c0_74 : Index := 0#32
  ![v328.toNat, 4, 0]
def k0_off32 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v333 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v334 : Index := Scalar.indexCast v151
  ![v333.toNat, 320, v334.toNat]
def k0_off33 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v340 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v341 : Index := Scalar.indexCast v151
  ![v340.toNat, 336, v341.toNat]
def k0_off34 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v348 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v349 : Index := Scalar.indexCast v151
  ![v348.toNat, 352, v349.toNat]
def k0_off35 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v356 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v357 : Index := Scalar.indexCast v151
  ![v356.toNat, 368, v357.toNat]
def k0_off36 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v364 : Index := Scalar.indexCast v149
  let c5 : Index := 5#32
  let c0_75 : Index := 0#32
  ![v364.toNat, 5, 0]
def k0_off37 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v369 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v370 : Index := Scalar.indexCast v151
  ![v369.toNat, 384, v370.toNat]
def k0_off38 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v376 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v377 : Index := Scalar.indexCast v151
  ![v376.toNat, 400, v377.toNat]
def k0_off39 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v384 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v385 : Index := Scalar.indexCast v151
  ![v384.toNat, 416, v385.toNat]
def k0_off40 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v392 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v393 : Index := Scalar.indexCast v151
  ![v392.toNat, 432, v393.toNat]
def k0_off41 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v400 : Index := Scalar.indexCast v149
  let c6 : Index := 6#32
  let c0_76 : Index := 0#32
  ![v400.toNat, 6, 0]
def k0_off42 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v405 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v406 : Index := Scalar.indexCast v151
  ![v405.toNat, 448, v406.toNat]
def k0_off43 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v412 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v413 : Index := Scalar.indexCast v151
  ![v412.toNat, 464, v413.toNat]
def k0_off44 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v420 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v421 : Index := Scalar.indexCast v151
  ![v420.toNat, 480, v421.toNat]
def k0_off45 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v428 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v429 : Index := Scalar.indexCast v151
  ![v428.toNat, 496, v429.toNat]
def k0_off46 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v436 : Index := Scalar.indexCast v149
  let c7 : Index := 7#32
  let c0_77 : Index := 0#32
  ![v436.toNat, 7, 0]
def k0_off47 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v440 : Index := Scalar.indexCast v149
  let c0_78 : Index := 0#32
  let c0_79 : Index := 0#32
  ![v440.toNat, 0, 0]
def k0_off48 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v444 : Index := Scalar.indexCast v149
  let c8_80 : Index := 8#32
  let c0_81 : Index := 0#32
  ![v444.toNat, 8, 0]
def k0_off49 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v449 : Index := Scalar.indexCast v149
  let c16_82 : Index := 16#32
  let c0_83 : Index := 0#32
  ![v449.toNat, 16, 0]
def k0_off50 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v454 : Index := Scalar.indexCast v149
  let c24_84 : Index := 24#32
  let c0_85 : Index := 0#32
  ![v454.toNat, 24, 0]
def k0_off51 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v459 : Index := Scalar.indexCast v149
  let c32_86 : Index := 32#32
  let c0_87 : Index := 0#32
  ![v459.toNat, 32, 0]
def k0_off52 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v464 : Index := Scalar.indexCast v149
  let c40_88 : Index := 40#32
  let c0_89 : Index := 0#32
  ![v464.toNat, 40, 0]
def k0_off53 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v469 : Index := Scalar.indexCast v149
  let c48_90 : Index := 48#32
  let c0_91 : Index := 0#32
  ![v469.toNat, 48, 0]
def k0_off54 (k0_t1 : Fin k0_t1_loop.trips) : Fin 3 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v474 : Index := Scalar.indexCast v149
  let c56_92 : Index := 56#32
  let c0_93 : Index := 0#32
  ![v474.toNat, 56, 0]
def k0_mult11 (k0_t1 : Fin k0_t1_loop.trips) : BitVec 32 :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_94 : BitVec 32 := 128#32
  let v487 : BitVec 32 := Scalar.muli v149 c128_i32_94
  v487
def k0_off55 (k0_t1 : Fin k0_t1_loop.trips) : Fin 3 → Nat :=
  let c0_95 : Index := 0#32
  let c0_96 : Index := 0#32
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_94 : BitVec 32 := 128#32
  let v487 : BitVec 32 := Scalar.muli v149 c128_i32_94
  let v488 : BitVec 32 := v487
  let v489 : Index := Scalar.indexCast v488
  ![0, 0, v489.toNat]
def k0_mult12 (i : grid0.Coords) (k0_t1 : Fin k0_t1_loop.trips) : BitVec 32 :=
  let arg0 : BitVec 32 := BitVec.ofNat 32 (i 0).val
  let c8_i32_23 : BitVec 32 := 8#32
  let c0_i32_24 : BitVec 32 := 0#32
  let v62 : BitVec 1 := Scalar.cmpi .eq c8_i32_23 c0_i32_24
  let c1_i32_25 : BitVec 32 := 1#32
  let v63 : BitVec 32 := Scalar.select v62 c1_i32_25 c8_i32_23
  let v64 : BitVec 32 := Scalar.remsi arg0 v63
  let c0_i32_27 : BitVec 32 := 0#32
  let v66 : BitVec 1 := Scalar.cmpi .slt v64 c0_i32_27
  let c0_i32_28 : BitVec 32 := 0#32
  let v67 : BitVec 1 := Scalar.cmpi .slt v63 c0_i32_28
  let v68 : BitVec 1 := Scalar.xori v66 v67
  let c0_i32_26 : BitVec 32 := 0#32
  let v65 : BitVec 1 := Scalar.cmpi .ne v64 c0_i32_26
  let v69 : BitVec 1 := Scalar.andi v68 v65
  let v70 : BitVec 32 := Scalar.addi v64 v63
  let v71 : BitVec 32 := Scalar.select v69 v70 v64
  let c1536_i32_29 : BitVec 32 := 1536#32
  let v72 : BitVec 32 := Scalar.muli v71 c1536_i32_29
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_97 : BitVec 32 := 128#32
  let v493 : BitVec 32 := Scalar.muli v149 c128_i32_97
  let v494 : BitVec 32 := Scalar.addi v72 v493
  v494
def k0_off56 (i : grid0.Coords) (k0_t1 : Fin k0_t1_loop.trips) : Fin 2 → Nat :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .slt arg0 c0_i32_18
  let v49 : BitVec 32 := Scalar.extui v48
  let v50 : BitVec 32 := Scalar.subi v47 v49
  let c8_i32_16 : BitVec 32 := 8#32
  let c0_i32_19 : BitVec 32 := 0#32
  let v51 : BitVec 1 := Scalar.cmpi .sgt c8_i32_16 c0_i32_19
  let v52 : BitVec 32 := Scalar.extui v51
  let c0_i32_20 : BitVec 32 := 0#32
  let v53 : BitVec 1 := Scalar.cmpi .slt c8_i32_16 c0_i32_20
  let v54 : BitVec 32 := Scalar.extui v53
  let v55 : BitVec 32 := Scalar.subi v52 v54
  let v56 : BitVec 1 := Scalar.cmpi .ne v50 v55
  let v57 : BitVec 32 := Scalar.remsi arg0 c8_i32_16
  let c0_i32_21 : BitVec 32 := 0#32
  let v58 : BitVec 1 := Scalar.cmpi .ne v57 c0_i32_21
  let v59 : BitVec 1 := Scalar.andi v56 v58
  let v45 : BitVec 32 := Scalar.divsi arg0 c8_i32_16
  let c1_i32_22 : BitVec 32 := 1#32
  let v60 : BitVec 32 := Scalar.subi v45 c1_i32_22
  let v61 : BitVec 32 := Scalar.select v59 v60 v45
  let c8_i32_30 : BitVec 32 := 8#32
  let v73 : BitVec 32 := Scalar.muli v61 c8_i32_30
  let v74 : BitVec 32 := v73
  let v496 : Index := Scalar.indexCast v74
  let c8_i32_23 : BitVec 32 := 8#32
  let c0_i32_24 : BitVec 32 := 0#32
  let v62 : BitVec 1 := Scalar.cmpi .eq c8_i32_23 c0_i32_24
  let c1_i32_25 : BitVec 32 := 1#32
  let v63 : BitVec 32 := Scalar.select v62 c1_i32_25 c8_i32_23
  let v64 : BitVec 32 := Scalar.remsi arg0 v63
  let c0_i32_27 : BitVec 32 := 0#32
  let v66 : BitVec 1 := Scalar.cmpi .slt v64 c0_i32_27
  let c0_i32_28 : BitVec 32 := 0#32
  let v67 : BitVec 1 := Scalar.cmpi .slt v63 c0_i32_28
  let v68 : BitVec 1 := Scalar.xori v66 v67
  let c0_i32_26 : BitVec 32 := 0#32
  let v65 : BitVec 1 := Scalar.cmpi .ne v64 c0_i32_26
  let v69 : BitVec 1 := Scalar.andi v68 v65
  let v70 : BitVec 32 := Scalar.addi v64 v63
  let v71 : BitVec 32 := Scalar.select v69 v70 v64
  let c1536_i32_29 : BitVec 32 := 1536#32
  let v72 : BitVec 32 := Scalar.muli v71 c1536_i32_29
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_97 : BitVec 32 := 128#32
  let v493 : BitVec 32 := Scalar.muli v149 c128_i32_97
  let v494 : BitVec 32 := Scalar.addi v72 v493
  let v495 : BitVec 32 := v494
  let v497 : Index := Scalar.indexCast v495
  ![v496.toNat, v497.toNat]
def k0_off57 (k0_t1 : Fin k0_t1_loop.trips) : Fin 2 → Nat :=
  let c0_101 : Index := 0#32
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_94 : BitVec 32 := 128#32
  let v487 : BitVec 32 := Scalar.muli v149 c128_i32_94
  let v488 : BitVec 32 := v487
  let v507 : Index := Scalar.indexCast v488
  ![0, v507.toNat]
@[reducible] def k0_t2_loop : Scf.Loop 32 :=
  let c0_i32_62 : BitVec 32 := 0#32
  let c12_i32_63 : BitVec 32 := 12#32
  let v144 : BitVec 32 := Scalar.addi c0_i32_62 c12_i32_63
  let c1_i32_64 : BitVec 32 := 1#32
  ⟨c0_i32_62, v144, c1_i32_64⟩
def k0_mult13 (k0_t2 : Fin k0_t2_loop.trips) : BitVec 32 :=
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  v148
def k0_off58 (k0_t2 : Fin k0_t2_loop.trips) : Fin 2 → Nat :=
  let c0 : Index := 0#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v150 : Index := Scalar.indexCast v149
  ![0, v150.toNat]
def k0_off59 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v160 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v161 : Index := Scalar.indexCast v149
  ![v160.toNat, 0, v161.toNat]
def k0_off60 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v210 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v211 : Index := Scalar.indexCast v149
  ![v210.toNat, 16, v211.toNat]
def k0_off61 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v294 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v295 : Index := Scalar.indexCast v149
  ![v294.toNat, 32, v295.toNat]
def k0_off62 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v344 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v345 : Index := Scalar.indexCast v149
  ![v344.toNat, 48, v345.toNat]
def k0_off63 (k0_t2 : Fin k0_t2_loop.trips) : Fin 3 → Nat :=
  let c0_110 : Index := 0#32
  let c0_111 : Index := 0#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v429 : Index := Scalar.indexCast v149
  ![0, 0, v429.toNat]
def k0_off64 (k0_t2 : Fin k0_t2_loop.trips) : Fin 2 → Nat :=
  let c1 : Index := 1#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v433 : Index := Scalar.indexCast v149
  ![1, v433.toNat]
def k0_off65 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v443 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v444 : Index := Scalar.indexCast v149
  ![v443.toNat, 64, v444.toNat]
def k0_off66 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v493 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v494 : Index := Scalar.indexCast v149
  ![v493.toNat, 80, v494.toNat]
def k0_off67 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v577 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v578 : Index := Scalar.indexCast v149
  ![v577.toNat, 96, v578.toNat]
def k0_off68 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v627 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v628 : Index := Scalar.indexCast v149
  ![v627.toNat, 112, v628.toNat]
def k0_off69 (k0_t2 : Fin k0_t2_loop.trips) : Fin 3 → Nat :=
  let c0_159 : Index := 0#32
  let c32_160 : Index := 32#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v712 : Index := Scalar.indexCast v149
  ![0, 32, v712.toNat]
def k0_off70 (k0_t2 : Fin k0_t2_loop.trips) : Fin 2 → Nat :=
  let c2 : Index := 2#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v716 : Index := Scalar.indexCast v149
  ![2, v716.toNat]
def k0_off71 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v726 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v727 : Index := Scalar.indexCast v149
  ![v726.toNat, 128, v727.toNat]
def k0_off72 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v776 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v777 : Index := Scalar.indexCast v149
  ![v776.toNat, 144, v777.toNat]
def k0_off73 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v860 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v861 : Index := Scalar.indexCast v149
  ![v860.toNat, 160, v861.toNat]
def k0_off74 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v910 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v911 : Index := Scalar.indexCast v149
  ![v910.toNat, 176, v911.toNat]
def k0_off75 (k0_t2 : Fin k0_t2_loop.trips) : Fin 3 → Nat :=
  let c0_208 : Index := 0#32
  let c64_209 : Index := 64#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v995 : Index := Scalar.indexCast v149
  ![0, 64, v995.toNat]
def k0_off76 (k0_t2 : Fin k0_t2_loop.trips) : Fin 2 → Nat :=
  let c3 : Index := 3#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v999 : Index := Scalar.indexCast v149
  ![3, v999.toNat]
def k0_off77 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1009 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1010 : Index := Scalar.indexCast v149
  ![v1009.toNat, 192, v1010.toNat]
def k0_off78 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1059 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1060 : Index := Scalar.indexCast v149
  ![v1059.toNat, 208, v1060.toNat]
def k0_off79 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1143 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1144 : Index := Scalar.indexCast v149
  ![v1143.toNat, 224, v1144.toNat]
def k0_off80 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1193 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1194 : Index := Scalar.indexCast v149
  ![v1193.toNat, 240, v1194.toNat]
def k0_off81 (k0_t2 : Fin k0_t2_loop.trips) : Fin 3 → Nat :=
  let c0_257 : Index := 0#32
  let c96_258 : Index := 96#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1278 : Index := Scalar.indexCast v149
  ![0, 96, v1278.toNat]
def k0_off82 (k0_t2 : Fin k0_t2_loop.trips) : Fin 2 → Nat :=
  let c4 : Index := 4#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1282 : Index := Scalar.indexCast v149
  ![4, v1282.toNat]
def k0_off83 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1292 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1293 : Index := Scalar.indexCast v149
  ![v1292.toNat, 256, v1293.toNat]
def k0_off84 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1342 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1343 : Index := Scalar.indexCast v149
  ![v1342.toNat, 272, v1343.toNat]
def k0_off85 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1426 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1427 : Index := Scalar.indexCast v149
  ![v1426.toNat, 288, v1427.toNat]
def k0_off86 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1476 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1477 : Index := Scalar.indexCast v149
  ![v1476.toNat, 304, v1477.toNat]
def k0_off87 (k0_t2 : Fin k0_t2_loop.trips) : Fin 3 → Nat :=
  let c0_306 : Index := 0#32
  let c128_307 : Index := 128#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1561 : Index := Scalar.indexCast v149
  ![0, 128, v1561.toNat]
def k0_off88 (k0_t2 : Fin k0_t2_loop.trips) : Fin 2 → Nat :=
  let c5 : Index := 5#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1565 : Index := Scalar.indexCast v149
  ![5, v1565.toNat]
def k0_off89 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1575 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1576 : Index := Scalar.indexCast v149
  ![v1575.toNat, 320, v1576.toNat]
def k0_off90 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1625 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1626 : Index := Scalar.indexCast v149
  ![v1625.toNat, 336, v1626.toNat]
def k0_off91 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1709 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1710 : Index := Scalar.indexCast v149
  ![v1709.toNat, 352, v1710.toNat]
def k0_off92 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1759 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1760 : Index := Scalar.indexCast v149
  ![v1759.toNat, 368, v1760.toNat]
def k0_off93 (k0_t2 : Fin k0_t2_loop.trips) : Fin 3 → Nat :=
  let c0_355 : Index := 0#32
  let c160_356 : Index := 160#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1844 : Index := Scalar.indexCast v149
  ![0, 160, v1844.toNat]
def k0_off94 (k0_t2 : Fin k0_t2_loop.trips) : Fin 2 → Nat :=
  let c6 : Index := 6#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1848 : Index := Scalar.indexCast v149
  ![6, v1848.toNat]
def k0_off95 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1858 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1859 : Index := Scalar.indexCast v149
  ![v1858.toNat, 384, v1859.toNat]
def k0_off96 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1908 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1909 : Index := Scalar.indexCast v149
  ![v1908.toNat, 400, v1909.toNat]
def k0_off97 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1992 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1993 : Index := Scalar.indexCast v149
  ![v1992.toNat, 416, v1993.toNat]
def k0_off98 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2042 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2043 : Index := Scalar.indexCast v149
  ![v2042.toNat, 432, v2043.toNat]
def k0_off99 (k0_t2 : Fin k0_t2_loop.trips) : Fin 3 → Nat :=
  let c0_404 : Index := 0#32
  let c192_405 : Index := 192#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2127 : Index := Scalar.indexCast v149
  ![0, 192, v2127.toNat]
def k0_off100 (k0_t2 : Fin k0_t2_loop.trips) : Fin 2 → Nat :=
  let c7 : Index := 7#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2131 : Index := Scalar.indexCast v149
  ![7, v2131.toNat]
def k0_off101 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2141 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2142 : Index := Scalar.indexCast v149
  ![v2141.toNat, 448, v2142.toNat]
def k0_off102 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2191 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2192 : Index := Scalar.indexCast v149
  ![v2191.toNat, 464, v2192.toNat]
def k0_off103 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2275 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2276 : Index := Scalar.indexCast v149
  ![v2275.toNat, 480, v2276.toNat]
def k0_off104 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2325 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2326 : Index := Scalar.indexCast v149
  ![v2325.toNat, 496, v2326.toNat]
def k0_off105 (k0_t2 : Fin k0_t2_loop.trips) : Fin 3 → Nat :=
  let c0_453 : Index := 0#32
  let c224_454 : Index := 224#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2410 : Index := Scalar.indexCast v149
  ![0, 224, v2410.toNat]
def k0_cond3 (i : grid0.Coords) : BitVec 1 :=
  let arg0 : BitVec 32 := BitVec.ofNat 32 (i 0).val
  let c31_i32 : BitVec 32 := 31#32
  let v145 : BitVec 1 := Scalar.cmpi .eq arg0 c31_i32
  let v146 : BitVec 32 := Scalar.extui v145
  let c0_i32_66 : BitVec 32 := 0#32
  let v147 : BitVec 1 := Scalar.cmpi .ne v146 c0_i32_66
  v147

@[reducible] def k0_t3_loop : Scf.Loop 32 :=
  let c0_i32_68 : BitVec 32 := 0#32
  let c96_i32 : BitVec 32 := 96#32
  let v149 : BitVec 32 := Scalar.addi c0_i32_68 c96_i32
  let c1_i32_69 : BitVec 32 := 1#32
  ⟨c0_i32_68, v149, c1_i32_69⟩
def k0_mult14 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32 : BitVec 32 := 128#32
  let v581 : BitVec 32 := Scalar.muli arg15 c128_i32
  v581
def k0_off106 (k0_t3 : Fin k0_t3_loop.trips) : Fin 2 → Nat :=
  let c0_459 : Index := 0#32
  let c0_i32_68 : BitVec 32 := 0#32
  let c1_i32_69 : BitVec 32 := 1#32
  let arg15 : BitVec 32 := Scf.iv c0_i32_68 c1_i32_69 k0_t3
  let c128_i32 : BitVec 32 := 128#32
  let v581 : BitVec 32 := Scalar.muli arg15 c128_i32
  let v582 : BitVec 32 := v581
  let v583 : Index := Scalar.indexCast v582
  ![0, v583.toNat]
def k0_mult15 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32_460 : BitVec 32 := 128#32
  let v586 : BitVec 32 := Scalar.muli arg15 c128_i32_460
  v586
def k0_off107 (k0_t3 : Fin k0_t3_loop.trips) : Fin 2 → Nat :=
  let c8_461 : Index := 8#32
  let c0_i32_68 : BitVec 32 := 0#32
  let c1_i32_69 : BitVec 32 := 1#32
  let arg15 : BitVec 32 := Scf.iv c0_i32_68 c1_i32_69 k0_t3
  let c128_i32_460 : BitVec 32 := 128#32
  let v586 : BitVec 32 := Scalar.muli arg15 c128_i32_460
  let v587 : BitVec 32 := v586
  let v588 : Index := Scalar.indexCast v587
  ![8, v588.toNat]
def k0_mult16 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32_462 : BitVec 32 := 128#32
  let v591 : BitVec 32 := Scalar.muli arg15 c128_i32_462
  v591
def k0_off108 (k0_t3 : Fin k0_t3_loop.trips) : Fin 2 → Nat :=
  let c16_463 : Index := 16#32
  let c0_i32_68 : BitVec 32 := 0#32
  let c1_i32_69 : BitVec 32 := 1#32
  let arg15 : BitVec 32 := Scf.iv c0_i32_68 c1_i32_69 k0_t3
  let c128_i32_462 : BitVec 32 := 128#32
  let v591 : BitVec 32 := Scalar.muli arg15 c128_i32_462
  let v592 : BitVec 32 := v591
  let v593 : Index := Scalar.indexCast v592
  ![16, v593.toNat]
def k0_mult17 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32_464 : BitVec 32 := 128#32
  let v596 : BitVec 32 := Scalar.muli arg15 c128_i32_464
  v596
def k0_off109 (k0_t3 : Fin k0_t3_loop.trips) : Fin 2 → Nat :=
  let c24_465 : Index := 24#32
  let c0_i32_68 : BitVec 32 := 0#32
  let c1_i32_69 : BitVec 32 := 1#32
  let arg15 : BitVec 32 := Scf.iv c0_i32_68 c1_i32_69 k0_t3
  let c128_i32_464 : BitVec 32 := 128#32
  let v596 : BitVec 32 := Scalar.muli arg15 c128_i32_464
  let v597 : BitVec 32 := v596
  let v598 : Index := Scalar.indexCast v597
  ![24, v598.toNat]
@[reducible] def k0_t4_loop : Scf.Loop 32 :=
  let c0_i32_75 : BitVec 32 := 0#32
  let c12_i32_76 : BitVec 32 := 12#32
  let v162 : BitVec 32 := Scalar.addi c0_i32_75 c12_i32_76
  let c1_i32_77 : BitVec 32 := 1#32
  ⟨c0_i32_75, v162, c1_i32_77⟩
def k0_mult18 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off110 (k0_t4 : Fin k0_t4_loop.trips) (c0_i32_460 : BitVec 32) : Fin 2 → Nat :=
  let c0_461 : Index := 0#32
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![0, v585.toNat]
def k0_mult19 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off111 (k0_t4 : Fin k0_t4_loop.trips) (c0_i32_460 : BitVec 32) : Fin 2 → Nat :=
  let c0_463 : Index := 0#32
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![0, v592.toNat]
def k0_mult20 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult21 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult22 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult23 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult24 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult25 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off112 (k0_t4 : Fin k0_t4_loop.trips) : Fin 2 → Nat :=
  let c0_i32_512 : BitVec 32 := 0#32
  let c0_i32_75 : BitVec 32 := 0#32
  let c1_i32_77 : BitVec 32 := 1#32
  let arg15 : BitVec 32 := Scf.iv c0_i32_75 c1_i32_77 k0_t4
  let v773 : BitVec 32 := Scalar.addi c0_i32_512 arg15
  let v775 : Index := Scalar.indexCast v773
  let c0_513 : Index := 0#32
  ![v775.toNat, 0]
@[reducible] def k0_t5_loop : Scf.Loop 32 :=
  let c0_i32_95 : BitVec 32 := 0#32
  let c12_i32_96 : BitVec 32 := 12#32
  let v195 : BitVec 32 := Scalar.addi c0_i32_95 c12_i32_96
  let c1_i32_97 : BitVec 32 := 1#32
  ⟨c0_i32_95, v195, c1_i32_97⟩
def k0_mult26 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off113 (k0_t5 : Fin k0_t5_loop.trips) (c0_i32_460 : BitVec 32) : Fin 2 → Nat :=
  let c8_461 : Index := 8#32
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![8, v585.toNat]
def k0_mult27 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off114 (k0_t5 : Fin k0_t5_loop.trips) (c0_i32_460 : BitVec 32) : Fin 2 → Nat :=
  let c8_463 : Index := 8#32
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![8, v592.toNat]
def k0_mult28 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult29 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult30 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult31 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult32 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult33 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off115 (k0_t5 : Fin k0_t5_loop.trips) : Fin 2 → Nat :=
  let c96_i32_512 : BitVec 32 := 96#32
  let c0_i32_95 : BitVec 32 := 0#32
  let c1_i32_97 : BitVec 32 := 1#32
  let arg15 : BitVec 32 := Scf.iv c0_i32_95 c1_i32_97 k0_t5
  let v773 : BitVec 32 := Scalar.addi c96_i32_512 arg15
  let v775 : Index := Scalar.indexCast v773
  let c0_513 : Index := 0#32
  ![v775.toNat, 0]
@[reducible] def k0_t6_loop : Scf.Loop 32 :=
  let c0_i32_116 : BitVec 32 := 0#32
  let c12_i32_117 : BitVec 32 := 12#32
  let v228 : BitVec 32 := Scalar.addi c0_i32_116 c12_i32_117
  let c1_i32_118 : BitVec 32 := 1#32
  ⟨c0_i32_116, v228, c1_i32_118⟩
def k0_mult34 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off116 (k0_t6 : Fin k0_t6_loop.trips) (c0_i32_460 : BitVec 32) : Fin 2 → Nat :=
  let c16_461 : Index := 16#32
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![16, v585.toNat]
def k0_mult35 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off117 (k0_t6 : Fin k0_t6_loop.trips) (c0_i32_460 : BitVec 32) : Fin 2 → Nat :=
  let c16_463 : Index := 16#32
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![16, v592.toNat]
def k0_mult36 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult37 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult38 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult39 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult40 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult41 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off118 (k0_t6 : Fin k0_t6_loop.trips) : Fin 2 → Nat :=
  let c192_i32 : BitVec 32 := 192#32
  let c0_i32_116 : BitVec 32 := 0#32
  let c1_i32_118 : BitVec 32 := 1#32
  let arg15 : BitVec 32 := Scf.iv c0_i32_116 c1_i32_118 k0_t6
  let v773 : BitVec 32 := Scalar.addi c192_i32 arg15
  let v775 : Index := Scalar.indexCast v773
  let c0_512 : Index := 0#32
  ![v775.toNat, 0]
@[reducible] def k0_t7_loop : Scf.Loop 32 :=
  let c0_i32_137 : BitVec 32 := 0#32
  let c12_i32_138 : BitVec 32 := 12#32
  let v261 : BitVec 32 := Scalar.addi c0_i32_137 c12_i32_138
  let c1_i32_139 : BitVec 32 := 1#32
  ⟨c0_i32_137, v261, c1_i32_139⟩
def k0_mult42 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off119 (k0_t7 : Fin k0_t7_loop.trips) (c0_i32_460 : BitVec 32) : Fin 2 → Nat :=
  let c24_461 : Index := 24#32
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![24, v585.toNat]
def k0_mult43 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off120 (k0_t7 : Fin k0_t7_loop.trips) (c0_i32_460 : BitVec 32) : Fin 2 → Nat :=
  let c24_463 : Index := 24#32
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![24, v592.toNat]
def k0_mult44 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult45 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult46 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult47 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult48 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult49 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off121 (k0_t7 : Fin k0_t7_loop.trips) : Fin 2 → Nat :=
  let c288_i32 : BitVec 32 := 288#32
  let c0_i32_137 : BitVec 32 := 0#32
  let c1_i32_139 : BitVec 32 := 1#32
  let arg15 : BitVec 32 := Scf.iv c0_i32_137 c1_i32_139 k0_t7
  let v773 : BitVec 32 := Scalar.addi c288_i32 arg15
  let v775 : Index := Scalar.indexCast v773
  let c0_512 : Index := 0#32
  ![v775.toNat, 0]
def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
abbrev S1x2048x12288 : Shape := ⟨3, ![1, 2048, 12288]⟩
abbrev S1x1024x12288 : Shape := ⟨3, ![1, 1024, 12288]⟩
abbrev S1x32x12288 : Shape := ⟨3, ![1, 32, 12288]⟩
abbrev S1536x256 : Shape := ⟨2, ![1536, 256]⟩
abbrev S12x128 : Shape := ⟨2, ![12, 128]⟩
abbrev S1x1 : Shape := ⟨2, ![1, 1]⟩
abbrev S1x256x1536 : Shape := ⟨3, ![1, 256, 1536]⟩
abbrev S1x8x1536 : Shape := ⟨3, ![1, 8, 1536]⟩
abbrev S3x512x1536 : Shape := ⟨3, ![3, 512, 1536]⟩
abbrev S3 : Shape := ⟨1, ![3]⟩
abbrev S12x64x128 : Shape := ⟨3, ![12, 64, 128]⟩
abbrev S12x64x2x128 : Shape := ⟨4, ![12, 64, 2, 128]⟩
abbrev S12x64x1x128 : Shape := ⟨4, ![12, 64, 1, 128]⟩
abbrev S32x12288 : Shape := ⟨2, ![32, 12288]⟩
abbrev S8x1536 : Shape := ⟨2, ![8, 1536]⟩
abbrev S8x2x1536 : Shape := ⟨3, ![8, 2, 1536]⟩
abbrev S8x1x1536 : Shape := ⟨3, ![8, 1, 1536]⟩
abbrev S384x128 : Shape := ⟨2, ![384, 128]⟩
abbrev S1 : Shape := ⟨1, ![1]⟩
abbrev S_ : Shape := ⟨0, ![]⟩
abbrev S1x512x1536 : Shape := ⟨3, ![1, 512, 1536]⟩
abbrev S512x1536 : Shape := ⟨2, ![512, 1536]⟩
abbrev S3x256x1536 : Shape := ⟨3, ![3, 256, 1536]⟩
abbrev S1x8x128 : Shape := ⟨3, ![1, 8, 128]⟩
abbrev S1x16x128 : Shape := ⟨3, ![1, 16, 128]⟩
abbrev S8x128 : Shape := ⟨2, ![8, 128]⟩
abbrev S16x128 : Shape := ⟨2, ![16, 128]⟩
abbrev S1x8x2x128 : Shape := ⟨4, ![1, 8, 2, 128]⟩
abbrev S1x8x1x128 : Shape := ⟨4, ![1, 8, 1, 128]⟩
abbrev S8x2x128 : Shape := ⟨3, ![8, 2, 128]⟩
abbrev S8x1x128 : Shape := ⟨3, ![8, 1, 128]⟩
abbrev S1x128 : Shape := ⟨2, ![1, 128]⟩
abbrev S1x2x128 : Shape := ⟨3, ![1, 2, 128]⟩
abbrev S1x1x128 : Shape := ⟨3, ![1, 1, 128]⟩
abbrev S8x128x1 : Shape := ⟨3, ![8, 128, 1]⟩
abbrev S32x128 : Shape := ⟨2, ![32, 128]⟩
abbrev S1x32x128 : Shape := ⟨3, ![1, 32, 128]⟩
abbrev S1x1x1 : Shape := ⟨3, ![1, 1, 1]⟩
abbrev S8 : Shape := ⟨1, ![8]⟩
abbrev S8x1 : Shape := ⟨2, ![8, 1]⟩
abbrev S128 : Shape := ⟨1, ![128]⟩

abbrev nBuf : Space → Nat
  | .hbm => 6
  | .vmem => 13
  | .smem => 1
  | _ => 0

abbrev bufTy : (tb : Table) → Fin (tcTables nBuf tb) → BufTy
  | .hbm, ⟨0, _⟩ => ⟨S1x2048x12288, .bf16⟩
  | .hbm, ⟨1, _⟩ => ⟨S1x1024x12288, .i8⟩
  | .hbm, ⟨2, _⟩ => ⟨S1x32x12288, .f32⟩
  | .hbm, ⟨3, _⟩ => ⟨S1536x256, .i8⟩
  | .hbm, ⟨4, _⟩ => ⟨S12x128, .f32⟩
  | .hbm, ⟨5, _⟩ => ⟨S1x1, .f32⟩
  | .local _ .vmem, ⟨0, _⟩ => ⟨S1x256x1536, .i8⟩
  | .local _ .vmem, ⟨1, _⟩ => ⟨S1x256x1536, .i8⟩
  | .local _ .vmem, ⟨2, _⟩ => ⟨S1x8x1536, .f32⟩
  | .local _ .vmem, ⟨3, _⟩ => ⟨S1x8x1536, .f32⟩
  | .local _ .vmem, ⟨4, _⟩ => ⟨S1536x256, .i8⟩
  | .local _ .vmem, ⟨5, _⟩ => ⟨S12x128, .f32⟩
  | .local _ .vmem, ⟨6, _⟩ => ⟨S3x512x1536, .bf16⟩
  | .local _ .vmem, ⟨7, _⟩ => ⟨S12x64x2x128, .bf16⟩
  | .local _ .vmem, ⟨8, _⟩ => ⟨S32x12288, .f32⟩
  | .local _ .vmem, ⟨9, _⟩ => ⟨S8x1536, .f32⟩
  | .local _ .vmem, ⟨10, _⟩ => ⟨S8x2x1536, .bf16⟩
  | .local _ .vmem, ⟨11, _⟩ => ⟨S384x128, .i32⟩
  | .local _ .vmem, ⟨12, _⟩ => ⟨S384x128, .i32⟩
  | .local _ .smem, ⟨0, _⟩ => ⟨S1x1, .f32⟩
  | _, _ => ⟨S1x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F] [Named F]

def κ : String → Option EReal := fun
  | "inv_127" => some ((1 / 127 : ℝ) : EReal)
  | "inv_n" => some ((1 / 393216 : ℝ) : EReal)
  | _ => none

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_67 : BitVec 32 := 0#32
  c0_i32_67
def k0_mult2 : BitVec 32 :=
  let c0_i32_68 : BitVec 32 := 0#32
  c0_i32_68
def k0_mult3 : BitVec 32 :=
  let c0_i32_74 : BitVec 32 := 0#32
  c0_i32_74
def k0_mult4 : BitVec 32 :=
  let c1536_i32_75 : BitVec 32 := 1536#32
  c1536_i32_75
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult5 (i : grid0.Coords) : BitVec 32 :=
  let arg0 : BitVec 32 := BitVec.ofNat 32 (i 0).val
  let c2_i32 : BitVec 32 := 2#32
  let v3 : BitVec 32 := Scalar.addi arg0 c2_i32
  let c0_i32_69 : BitVec 32 := 0#32
  let v150 : BitVec 1 := Scalar.cmpi .sgt v3 c0_i32_69
  let v151 : BitVec 32 := Scalar.extui v150
  let c0_i32_70 : BitVec 32 := 0#32
  let v152 : BitVec 1 := Scalar.cmpi .slt v3 c0_i32_70
  let v153 : BitVec 32 := Scalar.extui v152
  let v154 : BitVec 32 := Scalar.subi v151 v153
  let c8_i32_68 : BitVec 32 := 8#32
  let c0_i32_71 : BitVec 32 := 0#32
  let v155 : BitVec 1 := Scalar.cmpi .sgt c8_i32_68 c0_i32_71
  let v156 : BitVec 32 := Scalar.extui v155
  let c0_i32_72 : BitVec 32 := 0#32
  let v157 : BitVec 1 := Scalar.cmpi .slt c8_i32_68 c0_i32_72
  let v158 : BitVec 32 := Scalar.extui v157
  let v159 : BitVec 32 := Scalar.subi v156 v158
  let v160 : BitVec 1 := Scalar.cmpi .ne v154 v159
  let v161 : BitVec 32 := Scalar.remsi v3 c8_i32_68
  let c0_i32_73 : BitVec 32 := 0#32
  let v162 : BitVec 1 := Scalar.cmpi .ne v161 c0_i32_73
  let v163 : BitVec 1 := Scalar.andi v160 v162
  let v149 : BitVec 32 := Scalar.divsi v3 c8_i32_68
  let c1_i32_74 : BitVec 32 := 1#32
  let v164 : BitVec 32 := Scalar.subi v149 c1_i32_74
  let v165 : BitVec 32 := Scalar.select v163 v164 v149
  let c512_i32_75 : BitVec 32 := 512#32
  let v166 : BitVec 32 := Scalar.muli v165 c512_i32_75
  v166
def k0_mult6 (i : grid0.Coords) : BitVec 32 :=
  let arg0 : BitVec 32 := BitVec.ofNat 32 (i 0).val
  let c2_i32 : BitVec 32 := 2#32
  let v3 : BitVec 32 := Scalar.addi arg0 c2_i32
  let c8_i32_76 : BitVec 32 := 8#32
  let c0_i32_77 : BitVec 32 := 0#32
  let v168 : BitVec 1 := Scalar.cmpi .eq c8_i32_76 c0_i32_77
  let c1_i32_78 : BitVec 32 := 1#32
  let v169 : BitVec 32 := Scalar.select v168 c1_i32_78 c8_i32_76
  let v170 : BitVec 32 := Scalar.remsi v3 v169
  let c0_i32_80 : BitVec 32 := 0#32
  let v172 : BitVec 1 := Scalar.cmpi .slt v170 c0_i32_80
  let c0_i32_81 : BitVec 32 := 0#32
  let v173 : BitVec 1 := Scalar.cmpi .slt v169 c0_i32_81
  let v174 : BitVec 1 := Scalar.xori v172 v173
  let c0_i32_79 : BitVec 32 := 0#32
  let v171 : BitVec 1 := Scalar.cmpi .ne v170 c0_i32_79
  let v175 : BitVec 1 := Scalar.andi v174 v171
  let v176 : BitVec 32 := Scalar.addi v170 v169
  let v177 : BitVec 32 := Scalar.select v175 v176 v170
  let c1536_i32_82 : BitVec 32 := 1536#32
  let v178 : BitVec 32 := Scalar.muli v177 c1536_i32_82
  v178
def k0_off1 (i : grid0.Coords) : Fin 1 → Nat :=
  let arg0 : BitVec 32 := BitVec.ofNat 32 (i 0).val
  let c2_i32 : BitVec 32 := 2#32
  let v3 : BitVec 32 := Scalar.addi arg0 c2_i32
  let c3_i32_67 : BitVec 32 := 3#32
  let v148 : BitVec 32 := Scalar.remsi v3 c3_i32_67
  ![v148.toNat]
def k0_off2 (i : grid0.Coords) : Fin 3 → Nat :=
  let arg0 : BitVec 32 := BitVec.ofNat 32 (i 0).val
  let c2_i32 : BitVec 32 := 2#32
  let v3 : BitVec 32 := Scalar.addi arg0 c2_i32
  let c3_i32_67 : BitVec 32 := 3#32
  let v148 : BitVec 32 := Scalar.remsi v3 c3_i32_67
  let c0_i32_84 : BitVec 32 := 0#32
  let c0_i32_85 : BitVec 32 := 0#32
  ![v148.toNat, 0, 0]
def k0_off3 (i : grid0.Coords) : Fin 3 → Nat :=
  let c0_i32_83 : BitVec 32 := 0#32
  let arg0 : BitVec 32 := BitVec.ofNat 32 (i 0).val
  let c2_i32 : BitVec 32 := 2#32
  let v3 : BitVec 32 := Scalar.addi arg0 c2_i32
  let c0_i32_69 : BitVec 32 := 0#32
  let v150 : BitVec 1 := Scalar.cmpi .sgt v3 c0_i32_69
  let v151 : BitVec 32 := Scalar.extui v150
  let c0_i32_70 : BitVec 32 := 0#32
  let v152 : BitVec 1 := Scalar.cmpi .slt v3 c0_i32_70
  let v153 : BitVec 32 := Scalar.extui v152
  let v154 : BitVec 32 := Scalar.subi v151 v153
  let c8_i32_68 : BitVec 32 := 8#32
  let c0_i32_71 : BitVec 32 := 0#32
  let v155 : BitVec 1 := Scalar.cmpi .sgt c8_i32_68 c0_i32_71
  let v156 : BitVec 32 := Scalar.extui v155
  let c0_i32_72 : BitVec 32 := 0#32
  let v157 : BitVec 1 := Scalar.cmpi .slt c8_i32_68 c0_i32_72
  let v158 : BitVec 32 := Scalar.extui v157
  let v159 : BitVec 32 := Scalar.subi v156 v158
  let v160 : BitVec 1 := Scalar.cmpi .ne v154 v159
  let v161 : BitVec 32 := Scalar.remsi v3 c8_i32_68
  let c0_i32_73 : BitVec 32 := 0#32
  let v162 : BitVec 1 := Scalar.cmpi .ne v161 c0_i32_73
  let v163 : BitVec 1 := Scalar.andi v160 v162
  let v149 : BitVec 32 := Scalar.divsi v3 c8_i32_68
  let c1_i32_74 : BitVec 32 := 1#32
  let v164 : BitVec 32 := Scalar.subi v149 c1_i32_74
  let v165 : BitVec 32 := Scalar.select v163 v164 v149
  let c512_i32_75 : BitVec 32 := 512#32
  let v166 : BitVec 32 := Scalar.muli v165 c512_i32_75
  let v167 : BitVec 32 := v166
  let c8_i32_76 : BitVec 32 := 8#32
  let c0_i32_77 : BitVec 32 := 0#32
  let v168 : BitVec 1 := Scalar.cmpi .eq c8_i32_76 c0_i32_77
  let c1_i32_78 : BitVec 32 := 1#32
  let v169 : BitVec 32 := Scalar.select v168 c1_i32_78 c8_i32_76
  let v170 : BitVec 32 := Scalar.remsi v3 v169
  let c0_i32_80 : BitVec 32 := 0#32
  let v172 : BitVec 1 := Scalar.cmpi .slt v170 c0_i32_80
  let c0_i32_81 : BitVec 32 := 0#32
  let v173 : BitVec 1 := Scalar.cmpi .slt v169 c0_i32_81
  let v174 : BitVec 1 := Scalar.xori v172 v173
  let c0_i32_79 : BitVec 32 := 0#32
  let v171 : BitVec 1 := Scalar.cmpi .ne v170 c0_i32_79
  let v175 : BitVec 1 := Scalar.andi v174 v171
  let v176 : BitVec 32 := Scalar.addi v170 v169
  let v177 : BitVec 32 := Scalar.select v175 v176 v170
  let c1536_i32_82 : BitVec 32 := 1536#32
  let v178 : BitVec 32 := Scalar.muli v177 c1536_i32_82
  let v179 : BitVec 32 := v178
  ![0, v167.toNat, v179.toNat]
def k0_mult7 (i : grid0.Coords) : BitVec 32 :=
  let arg0 : BitVec 32 := BitVec.ofNat 32 (i 0).val
  let c0_i32_2 : BitVec 32 := 0#32
  let v9 : BitVec 1 := Scalar.cmpi .sgt arg0 c0_i32_2
  let v10 : BitVec 32 := Scalar.extui v9
  let c0_i32_3 : BitVec 32 := 0#32
  let v11 : BitVec 1 := Scalar.cmpi .slt arg0 c0_i32_3
  let v12 : BitVec 32 := Scalar.extui v11
  let v13 : BitVec 32 := Scalar.subi v10 v12
  let c8_i32 : BitVec 32 := 8#32
  let c0_i32_4 : BitVec 32 := 0#32
  let v14 : BitVec 1 := Scalar.cmpi .sgt c8_i32 c0_i32_4
  let v15 : BitVec 32 := Scalar.extui v14
  let c0_i32_5 : BitVec 32 := 0#32
  let v16 : BitVec 1 := Scalar.cmpi .slt c8_i32 c0_i32_5
  let v17 : BitVec 32 := Scalar.extui v16
  let v18 : BitVec 32 := Scalar.subi v15 v17
  let v19 : BitVec 1 := Scalar.cmpi .ne v13 v18
  let v20 : BitVec 32 := Scalar.remsi arg0 c8_i32
  let c0_i32_6 : BitVec 32 := 0#32
  let v21 : BitVec 1 := Scalar.cmpi .ne v20 c0_i32_6
  let v22 : BitVec 1 := Scalar.andi v19 v21
  let v8 : BitVec 32 := Scalar.divsi arg0 c8_i32
  let c1_i32 : BitVec 32 := 1#32
  let v23 : BitVec 32 := Scalar.subi v8 c1_i32
  let v24 : BitVec 32 := Scalar.select v22 v23 v8
  let c512_i32 : BitVec 32 := 512#32
  let v25 : BitVec 32 := Scalar.muli v24 c512_i32
  v25
def k0_mult8 (i : grid0.Coords) : BitVec 32 :=
  let arg0 : BitVec 32 := BitVec.ofNat 32 (i 0).val
  let c8_i32_7 : BitVec 32 := 8#32
  let c0_i32_8 : BitVec 32 := 0#32
  let v27 : BitVec 1 := Scalar.cmpi .eq c8_i32_7 c0_i32_8
  let c1_i32_9 : BitVec 32 := 1#32
  let v28 : BitVec 32 := Scalar.select v27 c1_i32_9 c8_i32_7
  let v29 : BitVec 32 := Scalar.remsi arg0 v28
  let c0_i32_11 : BitVec 32 := 0#32
  let v31 : BitVec 1 := Scalar.cmpi .slt v29 c0_i32_11
  let c0_i32_12 : BitVec 32 := 0#32
  let v32 : BitVec 1 := Scalar.cmpi .slt v28 c0_i32_12
  let v33 : BitVec 1 := Scalar.xori v31 v32
  let c0_i32_10 : BitVec 32 := 0#32
  let v30 : BitVec 1 := Scalar.cmpi .ne v29 c0_i32_10
  let v34 : BitVec 1 := Scalar.andi v33 v30
  let v35 : BitVec 32 := Scalar.addi v29 v28
  let v36 : BitVec 32 := Scalar.select v34 v35 v29
  let c1536_i32 : BitVec 32 := 1536#32
  let v37 : BitVec 32 := Scalar.muli v36 c1536_i32
  v37
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_14 : BitVec 32 := 0#32
  let c0_i32_15 : BitVec 32 := 0#32
  ![v7.toNat, 0, 0]
def k0_off6 (i : grid0.Coords) : Fin 3 → Nat :=
  let c0_i32_13 : BitVec 32 := 0#32
  let arg0 : BitVec 32 := BitVec.ofNat 32 (i 0).val
  let c0_i32_2 : BitVec 32 := 0#32
  let v9 : BitVec 1 := Scalar.cmpi .sgt arg0 c0_i32_2
  let v10 : BitVec 32 := Scalar.extui v9
  let c0_i32_3 : BitVec 32 := 0#32
  let v11 : BitVec 1 := Scalar.cmpi .slt arg0 c0_i32_3
  let v12 : BitVec 32 := Scalar.extui v11
  let v13 : BitVec 32 := Scalar.subi v10 v12
  let c8_i32 : BitVec 32 := 8#32
  let c0_i32_4 : BitVec 32 := 0#32
  let v14 : BitVec 1 := Scalar.cmpi .sgt c8_i32 c0_i32_4
  let v15 : BitVec 32 := Scalar.extui v14
  let c0_i32_5 : BitVec 32 := 0#32
  let v16 : BitVec 1 := Scalar.cmpi .slt c8_i32 c0_i32_5
  let v17 : BitVec 32 := Scalar.extui v16
  let v18 : BitVec 32 := Scalar.subi v15 v17
  let v19 : BitVec 1 := Scalar.cmpi .ne v13 v18
  let v20 : BitVec 32 := Scalar.remsi arg0 c8_i32
  let c0_i32_6 : BitVec 32 := 0#32
  let v21 : BitVec 1 := Scalar.cmpi .ne v20 c0_i32_6
  let v22 : BitVec 1 := Scalar.andi v19 v21
  let v8 : BitVec 32 := Scalar.divsi arg0 c8_i32
  let c1_i32 : BitVec 32 := 1#32
  let v23 : BitVec 32 := Scalar.subi v8 c1_i32
  let v24 : BitVec 32 := Scalar.select v22 v23 v8
  let c512_i32 : BitVec 32 := 512#32
  let v25 : BitVec 32 := Scalar.muli v24 c512_i32
  let v26 : BitVec 32 := v25
  let c8_i32_7 : BitVec 32 := 8#32
  let c0_i32_8 : BitVec 32 := 0#32
  let v27 : BitVec 1 := Scalar.cmpi .eq c8_i32_7 c0_i32_8
  let c1_i32_9 : BitVec 32 := 1#32
  let v28 : BitVec 32 := Scalar.select v27 c1_i32_9 c8_i32_7
  let v29 : BitVec 32 := Scalar.remsi arg0 v28
  let c0_i32_11 : BitVec 32 := 0#32
  let v31 : BitVec 1 := Scalar.cmpi .slt v29 c0_i32_11
  let c0_i32_12 : BitVec 32 := 0#32
  let v32 : BitVec 1 := Scalar.cmpi .slt v28 c0_i32_12
  let v33 : BitVec 1 := Scalar.xori v31 v32
  let c0_i32_10 : BitVec 32 := 0#32
  let v30 : BitVec 1 := Scalar.cmpi .ne v29 c0_i32_10
  let v34 : BitVec 1 := Scalar.andi v33 v30
  let v35 : BitVec 32 := Scalar.addi v29 v28
  let v36 : BitVec 32 := Scalar.select v34 v35 v29
  let c1536_i32 : BitVec 32 := 1536#32
  let v37 : BitVec 32 := Scalar.muli v36 c1536_i32
  let v38 : BitVec 32 := v37
  ![0, v26.toNat, v38.toNat]
def k0_mult9 (i : grid0.Coords) : BitVec 32 :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .slt arg0 c0_i32_18
  let v49 : BitVec 32 := Scalar.extui v48
  let v50 : BitVec 32 := Scalar.subi v47 v49
  let c8_i32_16 : BitVec 32 := 8#32
  let c0_i32_19 : BitVec 32 := 0#32
  let v51 : BitVec 1 := Scalar.cmpi .sgt c8_i32_16 c0_i32_19
  let v52 : BitVec 32 := Scalar.extui v51
  let c0_i32_20 : BitVec 32 := 0#32
  let v53 : BitVec 1 := Scalar.cmpi .slt c8_i32_16 c0_i32_20
  let v54 : BitVec 32 := Scalar.extui v53
  let v55 : BitVec 32 := Scalar.subi v52 v54
  let v56 : BitVec 1 := Scalar.cmpi .ne v50 v55
  let v57 : BitVec 32 := Scalar.remsi arg0 c8_i32_16
  let c0_i32_21 : BitVec 32 := 0#32
  let v58 : BitVec 1 := Scalar.cmpi .ne v57 c0_i32_21
  let v59 : BitVec 1 := Scalar.andi v56 v58
  let v45 : BitVec 32 := Scalar.divsi arg0 c8_i32_16
  let c1_i32_22 : BitVec 32 := 1#32
  let v60 : BitVec 32 := Scalar.subi v45 c1_i32_22
  let v61 : BitVec 32 := Scalar.select v59 v60 v45
  let c8_i32_30 : BitVec 32 := 8#32
  let v73 : BitVec 32 := Scalar.muli v61 c8_i32_30
  v73
@[reducible] def k0_t1_loop : Scf.Loop 32 :=
  let c0_i32_31 : BitVec 32 := 0#32
  let c12_i32 : BitVec 32 := 12#32
  let v75 : BitVec 32 := Scalar.addi c0_i32_31 c12_i32
  let c1_i32_32 : BitVec 32 := 1#32
  ⟨c0_i32_31, v75, c1_i32_32⟩
def k0_mult10 (k0_t1 : Fin k0_t1_loop.trips) : BitVec 32 :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  v150
def k0_off7 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v153 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v154 : Index := Scalar.indexCast v151
  ![v153.toNat, 0, v154.toNat]
def k0_off8 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v160 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v161 : Index := Scalar.indexCast v151
  ![v160.toNat, 16, v161.toNat]
def k0_off9 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v168 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v169 : Index := Scalar.indexCast v151
  ![v168.toNat, 32, v169.toNat]
def k0_off10 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v176 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v177 : Index := Scalar.indexCast v151
  ![v176.toNat, 48, v177.toNat]
def k0_off11 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v184 : Index := Scalar.indexCast v149
  let c0_69 : Index := 0#32
  let c0_70 : Index := 0#32
  ![v184.toNat, 0, 0, 0]
def k0_off12 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v189 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v190 : Index := Scalar.indexCast v151
  ![v189.toNat, 64, v190.toNat]
def k0_off13 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v196 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v197 : Index := Scalar.indexCast v151
  ![v196.toNat, 80, v197.toNat]
def k0_off14 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v204 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v205 : Index := Scalar.indexCast v151
  ![v204.toNat, 96, v205.toNat]
def k0_off15 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v212 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v213 : Index := Scalar.indexCast v151
  ![v212.toNat, 112, v213.toNat]
def k0_off16 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v220 : Index := Scalar.indexCast v149
  let c1 : Index := 1#32
  let c0_71 : Index := 0#32
  ![v220.toNat, 1, 0, 0]
def k0_off17 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v225 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v226 : Index := Scalar.indexCast v151
  ![v225.toNat, 128, v226.toNat]
def k0_off18 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v232 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v233 : Index := Scalar.indexCast v151
  ![v232.toNat, 144, v233.toNat]
def k0_off19 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v240 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v241 : Index := Scalar.indexCast v151
  ![v240.toNat, 160, v241.toNat]
def k0_off20 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v248 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v249 : Index := Scalar.indexCast v151
  ![v248.toNat, 176, v249.toNat]
def k0_off21 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v256 : Index := Scalar.indexCast v149
  let c2 : Index := 2#32
  let c0_72 : Index := 0#32
  ![v256.toNat, 2, 0, 0]
def k0_off22 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v261 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v262 : Index := Scalar.indexCast v151
  ![v261.toNat, 192, v262.toNat]
def k0_off23 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v268 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v269 : Index := Scalar.indexCast v151
  ![v268.toNat, 208, v269.toNat]
def k0_off24 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v276 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v277 : Index := Scalar.indexCast v151
  ![v276.toNat, 224, v277.toNat]
def k0_off25 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v284 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v285 : Index := Scalar.indexCast v151
  ![v284.toNat, 240, v285.toNat]
def k0_off26 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v292 : Index := Scalar.indexCast v149
  let c3 : Index := 3#32
  let c0_73 : Index := 0#32
  ![v292.toNat, 3, 0, 0]
def k0_off27 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v297 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v298 : Index := Scalar.indexCast v151
  ![v297.toNat, 256, v298.toNat]
def k0_off28 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v304 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v305 : Index := Scalar.indexCast v151
  ![v304.toNat, 272, v305.toNat]
def k0_off29 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v312 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v313 : Index := Scalar.indexCast v151
  ![v312.toNat, 288, v313.toNat]
def k0_off30 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v320 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v321 : Index := Scalar.indexCast v151
  ![v320.toNat, 304, v321.toNat]
def k0_off31 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v328 : Index := Scalar.indexCast v149
  let c4 : Index := 4#32
  let c0_74 : Index := 0#32
  ![v328.toNat, 4, 0, 0]
def k0_off32 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v333 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v334 : Index := Scalar.indexCast v151
  ![v333.toNat, 320, v334.toNat]
def k0_off33 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v340 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v341 : Index := Scalar.indexCast v151
  ![v340.toNat, 336, v341.toNat]
def k0_off34 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v348 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v349 : Index := Scalar.indexCast v151
  ![v348.toNat, 352, v349.toNat]
def k0_off35 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v356 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v357 : Index := Scalar.indexCast v151
  ![v356.toNat, 368, v357.toNat]
def k0_off36 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v364 : Index := Scalar.indexCast v149
  let c5 : Index := 5#32
  let c0_75 : Index := 0#32
  ![v364.toNat, 5, 0, 0]
def k0_off37 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v369 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v370 : Index := Scalar.indexCast v151
  ![v369.toNat, 384, v370.toNat]
def k0_off38 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v376 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v377 : Index := Scalar.indexCast v151
  ![v376.toNat, 400, v377.toNat]
def k0_off39 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v384 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v385 : Index := Scalar.indexCast v151
  ![v384.toNat, 416, v385.toNat]
def k0_off40 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v392 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v393 : Index := Scalar.indexCast v151
  ![v392.toNat, 432, v393.toNat]
def k0_off41 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v400 : Index := Scalar.indexCast v149
  let c6 : Index := 6#32
  let c0_76 : Index := 0#32
  ![v400.toNat, 6, 0, 0]
def k0_off42 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v405 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v406 : Index := Scalar.indexCast v151
  ![v405.toNat, 448, v406.toNat]
def k0_off43 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v412 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v413 : Index := Scalar.indexCast v151
  ![v412.toNat, 464, v413.toNat]
def k0_off44 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v420 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v421 : Index := Scalar.indexCast v151
  ![v420.toNat, 480, v421.toNat]
def k0_off45 (i : grid0.Coords) (k0_t1 : Fin k0_t1_loop.trips) : Fin 3 → Nat :=
  let arg0 : BitVec 32 := BitVec.ofNat 32 (i 0).val
  let c3_i32 : BitVec 32 := 3#32
  let v7 : BitVec 32 := Scalar.remsi arg0 c3_i32
  let v428 : Index := Scalar.indexCast v7
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32 : BitVec 32 := 128#32
  let v150 : BitVec 32 := Scalar.muli v149 c128_i32
  let v151 : BitVec 32 := v150
  let v429 : Index := Scalar.indexCast v151
  ![v428.toNat, 496, v429.toNat]
def k0_off46 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v436 : Index := Scalar.indexCast v149
  let c7 : Index := 7#32
  let c0_77 : Index := 0#32
  ![v436.toNat, 7, 0, 0]
def k0_off47 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v440 : Index := Scalar.indexCast v149
  let c0_78 : Index := 0#32
  let c0_79 : Index := 0#32
  ![v440.toNat, 0, 0, 0]
def k0_off48 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v444 : Index := Scalar.indexCast v149
  let c8_80 : Index := 8#32
  let c0_81 : Index := 0#32
  ![v444.toNat, 8, 0, 0]
def k0_off49 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v449 : Index := Scalar.indexCast v149
  let c16_82 : Index := 16#32
  let c0_83 : Index := 0#32
  ![v449.toNat, 16, 0, 0]
def k0_off50 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v454 : Index := Scalar.indexCast v149
  let c24_84 : Index := 24#32
  let c0_85 : Index := 0#32
  ![v454.toNat, 24, 0, 0]
def k0_off51 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v459 : Index := Scalar.indexCast v149
  let c32_86 : Index := 32#32
  let c0_87 : Index := 0#32
  ![v459.toNat, 32, 0, 0]
def k0_off52 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v464 : Index := Scalar.indexCast v149
  let c40_88 : Index := 40#32
  let c0_89 : Index := 0#32
  ![v464.toNat, 40, 0, 0]
def k0_off53 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v469 : Index := Scalar.indexCast v149
  let c48_90 : Index := 48#32
  let c0_91 : Index := 0#32
  ![v469.toNat, 48, 0, 0]
def k0_off54 (k0_t1 : Fin k0_t1_loop.trips) : Fin 4 → Nat :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let v474 : Index := Scalar.indexCast v149
  let c56_92 : Index := 56#32
  let c0_93 : Index := 0#32
  ![v474.toNat, 56, 0, 0]
def k0_mult11 (k0_t1 : Fin k0_t1_loop.trips) : BitVec 32 :=
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_94 : BitVec 32 := 128#32
  let v487 : BitVec 32 := Scalar.muli v149 c128_i32_94
  v487
def k0_off55 (k0_t1 : Fin k0_t1_loop.trips) : Fin 3 → Nat :=
  let c0_95 : Index := 0#32
  let c0_96 : Index := 0#32
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_94 : BitVec 32 := 128#32
  let v487 : BitVec 32 := Scalar.muli v149 c128_i32_94
  let v488 : BitVec 32 := v487
  let v489 : Index := Scalar.indexCast v488
  ![0, 0, v489.toNat]
def k0_mult12 (i : grid0.Coords) (k0_t1 : Fin k0_t1_loop.trips) : BitVec 32 :=
  let arg0 : BitVec 32 := BitVec.ofNat 32 (i 0).val
  let c8_i32_23 : BitVec 32 := 8#32
  let c0_i32_24 : BitVec 32 := 0#32
  let v62 : BitVec 1 := Scalar.cmpi .eq c8_i32_23 c0_i32_24
  let c1_i32_25 : BitVec 32 := 1#32
  let v63 : BitVec 32 := Scalar.select v62 c1_i32_25 c8_i32_23
  let v64 : BitVec 32 := Scalar.remsi arg0 v63
  let c0_i32_27 : BitVec 32 := 0#32
  let v66 : BitVec 1 := Scalar.cmpi .slt v64 c0_i32_27
  let c0_i32_28 : BitVec 32 := 0#32
  let v67 : BitVec 1 := Scalar.cmpi .slt v63 c0_i32_28
  let v68 : BitVec 1 := Scalar.xori v66 v67
  let c0_i32_26 : BitVec 32 := 0#32
  let v65 : BitVec 1 := Scalar.cmpi .ne v64 c0_i32_26
  let v69 : BitVec 1 := Scalar.andi v68 v65
  let v70 : BitVec 32 := Scalar.addi v64 v63
  let v71 : BitVec 32 := Scalar.select v69 v70 v64
  let c1536_i32_29 : BitVec 32 := 1536#32
  let v72 : BitVec 32 := Scalar.muli v71 c1536_i32_29
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_97 : BitVec 32 := 128#32
  let v493 : BitVec 32 := Scalar.muli v149 c128_i32_97
  let v494 : BitVec 32 := Scalar.addi v72 v493
  v494
def k0_off56 (i : grid0.Coords) (k0_t1 : Fin k0_t1_loop.trips) : Fin 2 → Nat :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .slt arg0 c0_i32_18
  let v49 : BitVec 32 := Scalar.extui v48
  let v50 : BitVec 32 := Scalar.subi v47 v49
  let c8_i32_16 : BitVec 32 := 8#32
  let c0_i32_19 : BitVec 32 := 0#32
  let v51 : BitVec 1 := Scalar.cmpi .sgt c8_i32_16 c0_i32_19
  let v52 : BitVec 32 := Scalar.extui v51
  let c0_i32_20 : BitVec 32 := 0#32
  let v53 : BitVec 1 := Scalar.cmpi .slt c8_i32_16 c0_i32_20
  let v54 : BitVec 32 := Scalar.extui v53
  let v55 : BitVec 32 := Scalar.subi v52 v54
  let v56 : BitVec 1 := Scalar.cmpi .ne v50 v55
  let v57 : BitVec 32 := Scalar.remsi arg0 c8_i32_16
  let c0_i32_21 : BitVec 32 := 0#32
  let v58 : BitVec 1 := Scalar.cmpi .ne v57 c0_i32_21
  let v59 : BitVec 1 := Scalar.andi v56 v58
  let v45 : BitVec 32 := Scalar.divsi arg0 c8_i32_16
  let c1_i32_22 : BitVec 32 := 1#32
  let v60 : BitVec 32 := Scalar.subi v45 c1_i32_22
  let v61 : BitVec 32 := Scalar.select v59 v60 v45
  let c8_i32_30 : BitVec 32 := 8#32
  let v73 : BitVec 32 := Scalar.muli v61 c8_i32_30
  let v74 : BitVec 32 := v73
  let v496 : Index := Scalar.indexCast v74
  let c8_i32_23 : BitVec 32 := 8#32
  let c0_i32_24 : BitVec 32 := 0#32
  let v62 : BitVec 1 := Scalar.cmpi .eq c8_i32_23 c0_i32_24
  let c1_i32_25 : BitVec 32 := 1#32
  let v63 : BitVec 32 := Scalar.select v62 c1_i32_25 c8_i32_23
  let v64 : BitVec 32 := Scalar.remsi arg0 v63
  let c0_i32_27 : BitVec 32 := 0#32
  let v66 : BitVec 1 := Scalar.cmpi .slt v64 c0_i32_27
  let c0_i32_28 : BitVec 32 := 0#32
  let v67 : BitVec 1 := Scalar.cmpi .slt v63 c0_i32_28
  let v68 : BitVec 1 := Scalar.xori v66 v67
  let c0_i32_26 : BitVec 32 := 0#32
  let v65 : BitVec 1 := Scalar.cmpi .ne v64 c0_i32_26
  let v69 : BitVec 1 := Scalar.andi v68 v65
  let v70 : BitVec 32 := Scalar.addi v64 v63
  let v71 : BitVec 32 := Scalar.select v69 v70 v64
  let c1536_i32_29 : BitVec 32 := 1536#32
  let v72 : BitVec 32 := Scalar.muli v71 c1536_i32_29
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_97 : BitVec 32 := 128#32
  let v493 : BitVec 32 := Scalar.muli v149 c128_i32_97
  let v494 : BitVec 32 := Scalar.addi v72 v493
  let v495 : BitVec 32 := v494
  let v497 : Index := Scalar.indexCast v495
  ![v496.toNat, v497.toNat]
def k0_off57 (k0_t1 : Fin k0_t1_loop.trips) : Fin 2 → Nat :=
  let c0_101 : Index := 0#32
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_94 : BitVec 32 := 128#32
  let v487 : BitVec 32 := Scalar.muli v149 c128_i32_94
  let v488 : BitVec 32 := v487
  let v507 : Index := Scalar.indexCast v488
  ![0, v507.toNat]
def k0_off58 (k0_t1 : Fin k0_t1_loop.trips) : Fin 3 → Nat :=
  let c0_103 : Index := 0#32
  let c0_i32_68 : BitVec 32 := 0#32
  let c0_i32_31 : BitVec 32 := 0#32
  let c1_i32_32 : BitVec 32 := 1#32
  let arg15 : BitVec 32 := Scf.iv c0_i32_31 c1_i32_32 k0_t1
  let c1_i32_67 : BitVec 32 := 1#32
  let v148 : BitVec 32 := Scalar.muli arg15 c1_i32_67
  let v149 : BitVec 32 := Scalar.addi c0_i32_68 v148
  let c128_i32_94 : BitVec 32 := 128#32
  let v487 : BitVec 32 := Scalar.muli v149 c128_i32_94
  let v488 : BitVec 32 := v487
  let v514 : Index := Scalar.indexCast v488
  ![0, 0, v514.toNat]
@[reducible] def k0_t2_loop : Scf.Loop 32 :=
  let c0_i32_62 : BitVec 32 := 0#32
  let c12_i32_63 : BitVec 32 := 12#32
  let v144 : BitVec 32 := Scalar.addi c0_i32_62 c12_i32_63
  let c1_i32_64 : BitVec 32 := 1#32
  ⟨c0_i32_62, v144, c1_i32_64⟩
def k0_mult13 (k0_t2 : Fin k0_t2_loop.trips) : BitVec 32 :=
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  v148
def k0_off59 (k0_t2 : Fin k0_t2_loop.trips) : Fin 2 → Nat :=
  let c0 : Index := 0#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v150 : Index := Scalar.indexCast v149
  ![0, v150.toNat]
def k0_off60 (k0_t2 : Fin k0_t2_loop.trips) : Fin 3 → Nat :=
  let c0_67 : Index := 0#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v154 : Index := Scalar.indexCast v149
  ![0, 0, v154.toNat]
def k0_off61 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v160 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v161 : Index := Scalar.indexCast v149
  ![v160.toNat, 0, v161.toNat]
def k0_off62 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v210 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v211 : Index := Scalar.indexCast v149
  ![v210.toNat, 16, v211.toNat]
def k0_off63 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v294 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v295 : Index := Scalar.indexCast v149
  ![v294.toNat, 32, v295.toNat]
def k0_off64 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v344 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v345 : Index := Scalar.indexCast v149
  ![v344.toNat, 48, v345.toNat]
def k0_off65 (k0_t2 : Fin k0_t2_loop.trips) : Fin 3 → Nat :=
  let c0_110 : Index := 0#32
  let c0_111 : Index := 0#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v429 : Index := Scalar.indexCast v149
  ![0, 0, v429.toNat]
def k0_off66 (k0_t2 : Fin k0_t2_loop.trips) : Fin 2 → Nat :=
  let c1 : Index := 1#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v433 : Index := Scalar.indexCast v149
  ![1, v433.toNat]
def k0_off67 (k0_t2 : Fin k0_t2_loop.trips) : Fin 3 → Nat :=
  let c1_112 : Index := 1#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v437 : Index := Scalar.indexCast v149
  ![1, 0, v437.toNat]
def k0_off68 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v443 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v444 : Index := Scalar.indexCast v149
  ![v443.toNat, 64, v444.toNat]
def k0_off69 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v493 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v494 : Index := Scalar.indexCast v149
  ![v493.toNat, 80, v494.toNat]
def k0_off70 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v577 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v578 : Index := Scalar.indexCast v149
  ![v577.toNat, 96, v578.toNat]
def k0_off71 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v627 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v628 : Index := Scalar.indexCast v149
  ![v627.toNat, 112, v628.toNat]
def k0_off72 (k0_t2 : Fin k0_t2_loop.trips) : Fin 3 → Nat :=
  let c0_159 : Index := 0#32
  let c32_160 : Index := 32#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v712 : Index := Scalar.indexCast v149
  ![0, 32, v712.toNat]
def k0_off73 (k0_t2 : Fin k0_t2_loop.trips) : Fin 2 → Nat :=
  let c2 : Index := 2#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v716 : Index := Scalar.indexCast v149
  ![2, v716.toNat]
def k0_off74 (k0_t2 : Fin k0_t2_loop.trips) : Fin 3 → Nat :=
  let c2_161 : Index := 2#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v720 : Index := Scalar.indexCast v149
  ![2, 0, v720.toNat]
def k0_off75 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v726 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v727 : Index := Scalar.indexCast v149
  ![v726.toNat, 128, v727.toNat]
def k0_off76 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v776 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v777 : Index := Scalar.indexCast v149
  ![v776.toNat, 144, v777.toNat]
def k0_off77 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v860 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v861 : Index := Scalar.indexCast v149
  ![v860.toNat, 160, v861.toNat]
def k0_off78 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v910 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v911 : Index := Scalar.indexCast v149
  ![v910.toNat, 176, v911.toNat]
def k0_off79 (k0_t2 : Fin k0_t2_loop.trips) : Fin 3 → Nat :=
  let c0_208 : Index := 0#32
  let c64_209 : Index := 64#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v995 : Index := Scalar.indexCast v149
  ![0, 64, v995.toNat]
def k0_off80 (k0_t2 : Fin k0_t2_loop.trips) : Fin 2 → Nat :=
  let c3 : Index := 3#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v999 : Index := Scalar.indexCast v149
  ![3, v999.toNat]
def k0_off81 (k0_t2 : Fin k0_t2_loop.trips) : Fin 3 → Nat :=
  let c3_210 : Index := 3#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1003 : Index := Scalar.indexCast v149
  ![3, 0, v1003.toNat]
def k0_off82 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1009 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1010 : Index := Scalar.indexCast v149
  ![v1009.toNat, 192, v1010.toNat]
def k0_off83 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1059 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1060 : Index := Scalar.indexCast v149
  ![v1059.toNat, 208, v1060.toNat]
def k0_off84 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1143 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1144 : Index := Scalar.indexCast v149
  ![v1143.toNat, 224, v1144.toNat]
def k0_off85 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1193 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1194 : Index := Scalar.indexCast v149
  ![v1193.toNat, 240, v1194.toNat]
def k0_off86 (k0_t2 : Fin k0_t2_loop.trips) : Fin 3 → Nat :=
  let c0_257 : Index := 0#32
  let c96_258 : Index := 96#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1278 : Index := Scalar.indexCast v149
  ![0, 96, v1278.toNat]
def k0_off87 (k0_t2 : Fin k0_t2_loop.trips) : Fin 2 → Nat :=
  let c4 : Index := 4#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1282 : Index := Scalar.indexCast v149
  ![4, v1282.toNat]
def k0_off88 (k0_t2 : Fin k0_t2_loop.trips) : Fin 3 → Nat :=
  let c4_259 : Index := 4#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1286 : Index := Scalar.indexCast v149
  ![4, 0, v1286.toNat]
def k0_off89 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1292 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1293 : Index := Scalar.indexCast v149
  ![v1292.toNat, 256, v1293.toNat]
def k0_off90 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1342 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1343 : Index := Scalar.indexCast v149
  ![v1342.toNat, 272, v1343.toNat]
def k0_off91 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1426 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1427 : Index := Scalar.indexCast v149
  ![v1426.toNat, 288, v1427.toNat]
def k0_off92 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1476 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1477 : Index := Scalar.indexCast v149
  ![v1476.toNat, 304, v1477.toNat]
def k0_off93 (k0_t2 : Fin k0_t2_loop.trips) : Fin 3 → Nat :=
  let c0_306 : Index := 0#32
  let c128_307 : Index := 128#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1561 : Index := Scalar.indexCast v149
  ![0, 128, v1561.toNat]
def k0_off94 (k0_t2 : Fin k0_t2_loop.trips) : Fin 2 → Nat :=
  let c5 : Index := 5#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1565 : Index := Scalar.indexCast v149
  ![5, v1565.toNat]
def k0_off95 (k0_t2 : Fin k0_t2_loop.trips) : Fin 3 → Nat :=
  let c5_308 : Index := 5#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1569 : Index := Scalar.indexCast v149
  ![5, 0, v1569.toNat]
def k0_off96 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1575 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1576 : Index := Scalar.indexCast v149
  ![v1575.toNat, 320, v1576.toNat]
def k0_off97 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1625 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1626 : Index := Scalar.indexCast v149
  ![v1625.toNat, 336, v1626.toNat]
def k0_off98 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1709 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1710 : Index := Scalar.indexCast v149
  ![v1709.toNat, 352, v1710.toNat]
def k0_off99 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1759 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1760 : Index := Scalar.indexCast v149
  ![v1759.toNat, 368, v1760.toNat]
def k0_off100 (k0_t2 : Fin k0_t2_loop.trips) : Fin 3 → Nat :=
  let c0_355 : Index := 0#32
  let c160_356 : Index := 160#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1844 : Index := Scalar.indexCast v149
  ![0, 160, v1844.toNat]
def k0_off101 (k0_t2 : Fin k0_t2_loop.trips) : Fin 2 → Nat :=
  let c6 : Index := 6#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1848 : Index := Scalar.indexCast v149
  ![6, v1848.toNat]
def k0_off102 (k0_t2 : Fin k0_t2_loop.trips) : Fin 3 → Nat :=
  let c6_357 : Index := 6#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1852 : Index := Scalar.indexCast v149
  ![6, 0, v1852.toNat]
def k0_off103 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1858 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1859 : Index := Scalar.indexCast v149
  ![v1858.toNat, 384, v1859.toNat]
def k0_off104 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1908 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1909 : Index := Scalar.indexCast v149
  ![v1908.toNat, 400, v1909.toNat]
def k0_off105 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v1992 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v1993 : Index := Scalar.indexCast v149
  ![v1992.toNat, 416, v1993.toNat]
def k0_off106 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2042 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2043 : Index := Scalar.indexCast v149
  ![v2042.toNat, 432, v2043.toNat]
def k0_off107 (k0_t2 : Fin k0_t2_loop.trips) : Fin 3 → Nat :=
  let c0_404 : Index := 0#32
  let c192_405 : Index := 192#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2127 : Index := Scalar.indexCast v149
  ![0, 192, v2127.toNat]
def k0_off108 (k0_t2 : Fin k0_t2_loop.trips) : Fin 2 → Nat :=
  let c7 : Index := 7#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2131 : Index := Scalar.indexCast v149
  ![7, v2131.toNat]
def k0_off109 (k0_t2 : Fin k0_t2_loop.trips) : Fin 3 → Nat :=
  let c7_406 : Index := 7#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2135 : Index := Scalar.indexCast v149
  ![7, 0, v2135.toNat]
def k0_off110 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2141 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2142 : Index := Scalar.indexCast v149
  ![v2141.toNat, 448, v2142.toNat]
def k0_off111 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2191 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2192 : Index := Scalar.indexCast v149
  ![v2191.toNat, 464, v2192.toNat]
def k0_off112 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2275 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2276 : Index := Scalar.indexCast v149
  ![v2275.toNat, 480, v2276.toNat]
def k0_off113 (i : grid0.Coords) (k0_t2 : Fin k0_t2_loop.trips) : Fin 3 → Nat :=
  let arg0 : BitVec 32 := BitVec.ofNat 32 (i 0).val
  let c3_i32 : BitVec 32 := 3#32
  let v7 : BitVec 32 := Scalar.remsi arg0 c3_i32
  let v2325 : Index := Scalar.indexCast v7
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2326 : Index := Scalar.indexCast v149
  ![v2325.toNat, 496, v2326.toNat]
def k0_off114 (k0_t2 : Fin k0_t2_loop.trips) : Fin 3 → Nat :=
  let c0_453 : Index := 0#32
  let c224_454 : Index := 224#32
  let c0_i32_62 : BitVec 32 := 0#32
  let c1_i32_64 : BitVec 32 := 1#32
  let arg15 : BitVec 32 := Scf.iv c0_i32_62 c1_i32_64 k0_t2
  let c128_i32 : BitVec 32 := 128#32
  let v148 : BitVec 32 := Scalar.muli arg15 c128_i32
  let v149 : BitVec 32 := v148
  let v2410 : Index := Scalar.indexCast v149
  ![0, 224, v2410.toNat]
def k0_cond3 (i : grid0.Coords) : BitVec 1 :=
  let arg0 : BitVec 32 := BitVec.ofNat 32 (i 0).val
  let c31_i32 : BitVec 32 := 31#32
  let v145 : BitVec 1 := Scalar.cmpi .eq arg0 c31_i32
  let v146 : BitVec 32 := Scalar.extui v145
  let c0_i32_66 : BitVec 32 := 0#32
  let v147 : BitVec 1 := Scalar.cmpi .ne v146 c0_i32_66
  v147

@[reducible] def k0_t3_loop : Scf.Loop 32 :=
  let c0_i32_68 : BitVec 32 := 0#32
  let c96_i32 : BitVec 32 := 96#32
  let v149 : BitVec 32 := Scalar.addi c0_i32_68 c96_i32
  let c1_i32_69 : BitVec 32 := 1#32
  ⟨c0_i32_68, v149, c1_i32_69⟩
def k0_mult14 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32 : BitVec 32 := 128#32
  let v581 : BitVec 32 := Scalar.muli arg15 c128_i32
  v581
def k0_off115 (k0_t3 : Fin k0_t3_loop.trips) : Fin 2 → Nat :=
  let c0_459 : Index := 0#32
  let c0_i32_68 : BitVec 32 := 0#32
  let c1_i32_69 : BitVec 32 := 1#32
  let arg15 : BitVec 32 := Scf.iv c0_i32_68 c1_i32_69 k0_t3
  let c128_i32 : BitVec 32 := 128#32
  let v581 : BitVec 32 := Scalar.muli arg15 c128_i32
  let v582 : BitVec 32 := v581
  let v583 : Index := Scalar.indexCast v582
  ![0, v583.toNat]
def k0_mult15 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32_460 : BitVec 32 := 128#32
  let v586 : BitVec 32 := Scalar.muli arg15 c128_i32_460
  v586
def k0_off116 (k0_t3 : Fin k0_t3_loop.trips) : Fin 2 → Nat :=
  let c8_461 : Index := 8#32
  let c0_i32_68 : BitVec 32 := 0#32
  let c1_i32_69 : BitVec 32 := 1#32
  let arg15 : BitVec 32 := Scf.iv c0_i32_68 c1_i32_69 k0_t3
  let c128_i32_460 : BitVec 32 := 128#32
  let v586 : BitVec 32 := Scalar.muli arg15 c128_i32_460
  let v587 : BitVec 32 := v586
  let v588 : Index := Scalar.indexCast v587
  ![8, v588.toNat]
def k0_mult16 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32_462 : BitVec 32 := 128#32
  let v591 : BitVec 32 := Scalar.muli arg15 c128_i32_462
  v591
def k0_off117 (k0_t3 : Fin k0_t3_loop.trips) : Fin 2 → Nat :=
  let c16_463 : Index := 16#32
  let c0_i32_68 : BitVec 32 := 0#32
  let c1_i32_69 : BitVec 32 := 1#32
  let arg15 : BitVec 32 := Scf.iv c0_i32_68 c1_i32_69 k0_t3
  let c128_i32_462 : BitVec 32 := 128#32
  let v591 : BitVec 32 := Scalar.muli arg15 c128_i32_462
  let v592 : BitVec 32 := v591
  let v593 : Index := Scalar.indexCast v592
  ![16, v593.toNat]
def k0_mult17 (k0_t3 : Fin k0_t3_loop.trips) : BitVec 32 :=
  let c0_i32_68 : BitVec 32 := 0#32
  let c1_i32_69 : BitVec 32 := 1#32
  let arg15 : BitVec 32 := Scf.iv c0_i32_68 c1_i32_69 k0_t3
  let c128_i32_464 : BitVec 32 := 128#32
  let v596 : BitVec 32 := Scalar.muli arg15 c128_i32_464
  v596
def k0_off118 (k0_t3 : Fin k0_t3_loop.trips) : Fin 2 → Nat :=
  let c24_465 : Index := 24#32
  let c0_i32_68 : BitVec 32 := 0#32
  let c1_i32_69 : BitVec 32 := 1#32
  let arg15 : BitVec 32 := Scf.iv c0_i32_68 c1_i32_69 k0_t3
  let c128_i32_464 : BitVec 32 := 128#32
  let v596 : BitVec 32 := Scalar.muli arg15 c128_i32_464
  let v597 : BitVec 32 := v596
  let v598 : Index := Scalar.indexCast v597
  ![24, v598.toNat]
@[reducible] def k0_t4_loop : Scf.Loop 32 :=
  let c0_i32_75 : BitVec 32 := 0#32
  let c12_i32_76 : BitVec 32 := 12#32
  let v162 : BitVec 32 := Scalar.addi c0_i32_75 c12_i32_76
  let c1_i32_77 : BitVec 32 := 1#32
  ⟨c0_i32_75, v162, c1_i32_77⟩
def k0_mult18 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off119 (k0_t4 : Fin k0_t4_loop.trips) (c0_i32_460 : BitVec 32) : Fin 2 → Nat :=
  let c0_461 : Index := 0#32
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![0, v585.toNat]
def k0_mult19 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off120 (k0_t4 : Fin k0_t4_loop.trips) (c0_i32_460 : BitVec 32) : Fin 2 → Nat :=
  let c0_463 : Index := 0#32
  let c0_i32_75 : BitVec 32 := 0#32
  let c1_i32_77 : BitVec 32 := 1#32
  let arg15 : BitVec 32 := Scf.iv c0_i32_75 c1_i32_77 k0_t4
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![0, v592.toNat]
def k0_mult20 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult21 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult22 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult23 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult24 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult25 (k0_t4 : Fin k0_t4_loop.trips) : BitVec 32 :=
  let c0_i32_75 : BitVec 32 := 0#32
  let c1_i32_77 : BitVec 32 := 1#32
  let arg15 : BitVec 32 := Scf.iv c0_i32_75 c1_i32_77 k0_t4
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off121 (k0_t4 : Fin k0_t4_loop.trips) : Fin 2 → Nat :=
  let c0_i32_512 : BitVec 32 := 0#32
  let c0_i32_75 : BitVec 32 := 0#32
  let c1_i32_77 : BitVec 32 := 1#32
  let arg15 : BitVec 32 := Scf.iv c0_i32_75 c1_i32_77 k0_t4
  let v773 : BitVec 32 := Scalar.addi c0_i32_512 arg15
  let v775 : Index := Scalar.indexCast v773
  let c0_513 : Index := 0#32
  ![v775.toNat, 0]
@[reducible] def k0_t5_loop : Scf.Loop 32 :=
  let c0_i32_95 : BitVec 32 := 0#32
  let c12_i32_96 : BitVec 32 := 12#32
  let v195 : BitVec 32 := Scalar.addi c0_i32_95 c12_i32_96
  let c1_i32_97 : BitVec 32 := 1#32
  ⟨c0_i32_95, v195, c1_i32_97⟩
def k0_mult26 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off122 (k0_t5 : Fin k0_t5_loop.trips) (c0_i32_460 : BitVec 32) : Fin 2 → Nat :=
  let c8_461 : Index := 8#32
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![8, v585.toNat]
def k0_mult27 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off123 (k0_t5 : Fin k0_t5_loop.trips) (c0_i32_460 : BitVec 32) : Fin 2 → Nat :=
  let c8_463 : Index := 8#32
  let c0_i32_95 : BitVec 32 := 0#32
  let c1_i32_97 : BitVec 32 := 1#32
  let arg15 : BitVec 32 := Scf.iv c0_i32_95 c1_i32_97 k0_t5
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![8, v592.toNat]
def k0_mult28 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult29 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult30 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult31 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult32 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult33 (k0_t5 : Fin k0_t5_loop.trips) : BitVec 32 :=
  let c0_i32_95 : BitVec 32 := 0#32
  let c1_i32_97 : BitVec 32 := 1#32
  let arg15 : BitVec 32 := Scf.iv c0_i32_95 c1_i32_97 k0_t5
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off124 (k0_t5 : Fin k0_t5_loop.trips) : Fin 2 → Nat :=
  let c96_i32_512 : BitVec 32 := 96#32
  let c0_i32_95 : BitVec 32 := 0#32
  let c1_i32_97 : BitVec 32 := 1#32
  let arg15 : BitVec 32 := Scf.iv c0_i32_95 c1_i32_97 k0_t5
  let v773 : BitVec 32 := Scalar.addi c96_i32_512 arg15
  let v775 : Index := Scalar.indexCast v773
  let c0_513 : Index := 0#32
  ![v775.toNat, 0]
@[reducible] def k0_t6_loop : Scf.Loop 32 :=
  let c0_i32_116 : BitVec 32 := 0#32
  let c12_i32_117 : BitVec 32 := 12#32
  let v228 : BitVec 32 := Scalar.addi c0_i32_116 c12_i32_117
  let c1_i32_118 : BitVec 32 := 1#32
  ⟨c0_i32_116, v228, c1_i32_118⟩
def k0_mult34 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off125 (k0_t6 : Fin k0_t6_loop.trips) (c0_i32_460 : BitVec 32) : Fin 2 → Nat :=
  let c16_461 : Index := 16#32
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![16, v585.toNat]
def k0_mult35 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off126 (k0_t6 : Fin k0_t6_loop.trips) (c0_i32_460 : BitVec 32) : Fin 2 → Nat :=
  let c16_463 : Index := 16#32
  let c0_i32_116 : BitVec 32 := 0#32
  let c1_i32_118 : BitVec 32 := 1#32
  let arg15 : BitVec 32 := Scf.iv c0_i32_116 c1_i32_118 k0_t6
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![16, v592.toNat]
def k0_mult36 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult37 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult38 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult39 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult40 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult41 (k0_t6 : Fin k0_t6_loop.trips) : BitVec 32 :=
  let c0_i32_116 : BitVec 32 := 0#32
  let c1_i32_118 : BitVec 32 := 1#32
  let arg15 : BitVec 32 := Scf.iv c0_i32_116 c1_i32_118 k0_t6
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off127 (k0_t6 : Fin k0_t6_loop.trips) : Fin 2 → Nat :=
  let c192_i32 : BitVec 32 := 192#32
  let c0_i32_116 : BitVec 32 := 0#32
  let c1_i32_118 : BitVec 32 := 1#32
  let arg15 : BitVec 32 := Scf.iv c0_i32_116 c1_i32_118 k0_t6
  let v773 : BitVec 32 := Scalar.addi c192_i32 arg15
  let v775 : Index := Scalar.indexCast v773
  let c0_512 : Index := 0#32
  ![v775.toNat, 0]
@[reducible] def k0_t7_loop : Scf.Loop 32 :=
  let c0_i32_137 : BitVec 32 := 0#32
  let c12_i32_138 : BitVec 32 := 12#32
  let v261 : BitVec 32 := Scalar.addi c0_i32_137 c12_i32_138
  let c1_i32_139 : BitVec 32 := 1#32
  ⟨c0_i32_137, v261, c1_i32_139⟩
def k0_mult42 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let c0_i32_460 : BitVec 32 := 0#32
  let v582 : BitVec 32 := Scalar.addi v581 c0_i32_460
  let c256_i32 : BitVec 32 := 256#32
  let v583 : BitVec 32 := Scalar.muli v582 c256_i32
  v583
def k0_off128 (k0_t7 : Fin k0_t7_loop.trips) (c0_i32_460 : BitVec 32) : Fin 2 → Nat :=
  let c24_461 : Index := 24#32
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let v582 : BitVec 32 := Scalar.addi v581 c0_i32_460
  let c256_i32 : BitVec 32 := 256#32
  let v583 : BitVec 32 := Scalar.muli v582 c256_i32
  let v584 : BitVec 32 := v583
  let v585 : Index := Scalar.indexCast v584
  ![24, v585.toNat]
def k0_mult43 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let c0_i32_460 : BitVec 32 := 0#32
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  v590
def k0_off129 (k0_t7 : Fin k0_t7_loop.trips) (c0_i32_460 : BitVec 32) : Fin 2 → Nat :=
  let c24_463 : Index := 24#32
  let c0_i32_137 : BitVec 32 := 0#32
  let c1_i32_139 : BitVec 32 := 1#32
  let arg15 : BitVec 32 := Scf.iv c0_i32_137 c1_i32_139 k0_t7
  let c4_i32_459 : BitVec 32 := 4#32
  let v581 : BitVec 32 := Scalar.muli arg15 c4_i32_459
  let v582 : BitVec 32 := Scalar.addi v581 c0_i32_460
  let c256_i32_462 : BitVec 32 := 256#32
  let v589 : BitVec 32 := Scalar.muli v582 c256_i32_462
  let c128_i32 : BitVec 32 := 128#32
  let v590 : BitVec 32 := Scalar.addi v589 c128_i32
  let v591 : BitVec 32 := v590
  let v592 : Index := Scalar.indexCast v591
  ![24, v592.toNat]
def k0_mult44 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_470 : BitVec 32 := 4#32
  let v629 : BitVec 32 := Scalar.muli arg15 c4_i32_470
  let c1_i32_471 : BitVec 32 := 1#32
  let v630 : BitVec 32 := Scalar.addi v629 c1_i32_471
  let c256_i32_472 : BitVec 32 := 256#32
  let v631 : BitVec 32 := Scalar.muli v630 c256_i32_472
  v631
def k0_mult45 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_470 : BitVec 32 := 4#32
  let v629 : BitVec 32 := Scalar.muli arg15 c4_i32_470
  let c1_i32_471 : BitVec 32 := 1#32
  let v630 : BitVec 32 := Scalar.addi v629 c1_i32_471
  let c256_i32_474 : BitVec 32 := 256#32
  let v637 : BitVec 32 := Scalar.muli v630 c256_i32_474
  let c128_i32_475 : BitVec 32 := 128#32
  let v638 : BitVec 32 := Scalar.addi v637 c128_i32_475
  v638
def k0_mult46 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_484 : BitVec 32 := 4#32
  let v677 : BitVec 32 := Scalar.muli arg15 c4_i32_484
  let c2_i32_485 : BitVec 32 := 2#32
  let v678 : BitVec 32 := Scalar.addi v677 c2_i32_485
  let c256_i32_486 : BitVec 32 := 256#32
  let v679 : BitVec 32 := Scalar.muli v678 c256_i32_486
  v679
def k0_mult47 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_484 : BitVec 32 := 4#32
  let v677 : BitVec 32 := Scalar.muli arg15 c4_i32_484
  let c2_i32_485 : BitVec 32 := 2#32
  let v678 : BitVec 32 := Scalar.addi v677 c2_i32_485
  let c256_i32_488 : BitVec 32 := 256#32
  let v685 : BitVec 32 := Scalar.muli v678 c256_i32_488
  let c128_i32_489 : BitVec 32 := 128#32
  let v686 : BitVec 32 := Scalar.addi v685 c128_i32_489
  v686
def k0_mult48 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_498 : BitVec 32 := 4#32
  let v725 : BitVec 32 := Scalar.muli arg15 c4_i32_498
  let c3_i32_499 : BitVec 32 := 3#32
  let v726 : BitVec 32 := Scalar.addi v725 c3_i32_499
  let c256_i32_500 : BitVec 32 := 256#32
  let v727 : BitVec 32 := Scalar.muli v726 c256_i32_500
  v727
def k0_mult49 (k0_t7 : Fin k0_t7_loop.trips) : BitVec 32 :=
  let c0_i32_137 : BitVec 32 := 0#32
  let c1_i32_139 : BitVec 32 := 1#32
  let arg15 : BitVec 32 := Scf.iv c0_i32_137 c1_i32_139 k0_t7
  let c4_i32_498 : BitVec 32 := 4#32
  let v725 : BitVec 32 := Scalar.muli arg15 c4_i32_498
  let c3_i32_499 : BitVec 32 := 3#32
  let v726 : BitVec 32 := Scalar.addi v725 c3_i32_499
  let c256_i32_502 : BitVec 32 := 256#32
  let v733 : BitVec 32 := Scalar.muli v726 c256_i32_502
  let c128_i32_503 : BitVec 32 := 128#32
  let v734 : BitVec 32 := Scalar.addi v733 c128_i32_503
  v734
def k0_off130 (k0_t7 : Fin k0_t7_loop.trips) : Fin 2 → Nat :=
  let c288_i32 : BitVec 32 := 288#32
  let c0_i32_137 : BitVec 32 := 0#32
  let c1_i32_139 : BitVec 32 := 1#32
  let arg15 : BitVec 32 := Scf.iv c0_i32_137 c1_i32_139 k0_t7
  let v773 : BitVec 32 := Scalar.addi c288_i32 arg15
  let v775 : Index := Scalar.indexCast v773
  let c0_512 : Index := 0#32
  ![v775.toNat, 0]
def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x2048x12288 : Shape := ⟨3, ![1, 2048, 12288]⟩
abbrev S1x32x32x2x12288 : Shape := ⟨5, ![1, 32, 32, 2, 12288]⟩
abbrev S_ : Shape := ⟨0, ![]⟩
abbrev S1x32x12288 : Shape := ⟨3, ![1, 32, 12288]⟩
abbrev S1x32x1x1x12288 : Shape := ⟨5, ![1, 32, 1, 1, 12288]⟩
abbrev S1x32x32x1x12288 : Shape := ⟨5, ![1, 32, 32, 1, 12288]⟩
abbrev S1x32x32x12288 : Shape := ⟨4, ![1, 32, 32, 12288]⟩
abbrev S1x1024x12288 : Shape := ⟨3, ![1, 1024, 12288]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S1x2048x12288, .bf16⟩
  | .hbm, ⟨1, _⟩ => ⟨S1x2048x12288, .f32⟩
  | .hbm, ⟨2, _⟩ => ⟨S1x32x32x2x12288, .f32⟩
  | .hbm, ⟨3, _⟩ => ⟨S1x32x32x2x12288, .f32⟩
  | .hbm, ⟨4, _⟩ => ⟨S_, .f32⟩
  | .hbm, ⟨5, _⟩ => ⟨S1x32x12288, .f32⟩
  | .hbm, ⟨6, _⟩ => ⟨S_, .f32⟩
  | .hbm, ⟨7, _⟩ => ⟨S1x32x12288, .f32⟩
  | .hbm, ⟨8, _⟩ => ⟨S1x32x12288, .i1⟩
  | .hbm, ⟨9, _⟩ => ⟨S_, .f32⟩
  | .hbm, ⟨10, _⟩ => ⟨S1x32x12288, .f32⟩
  | .hbm, ⟨11, _⟩ => ⟨S1x32x12288, .f32⟩
  | .hbm, ⟨12, _⟩ => ⟨S_, .f32⟩
  | .hbm, ⟨13, _⟩ => ⟨S1x32x12288, .f32⟩
  | .hbm, ⟨14, _⟩ => ⟨S1x32x12288, .f32⟩
  | .hbm, ⟨15, _⟩ => ⟨S1x32x1x1x12288, .f32⟩
  | .hbm, ⟨16, _⟩ => ⟨S1x32x32x2x12288, .f32⟩
  | .hbm, ⟨17, _⟩ => ⟨S1x32x32x2x12288, .f32⟩
  | .hbm, ⟨18, _⟩ => ⟨S_, .f32⟩
  | .hbm, ⟨19, _⟩ => ⟨S1x32x32x2x12288, .f32⟩
  | .hbm, ⟨20, _⟩ => ⟨S1x32x32x2x12288, .i1⟩
  | .hbm, ⟨21, _⟩ => ⟨S_, .f32⟩
  | .hbm, ⟨22, _⟩ => ⟨S_, .f32⟩
  | .hbm, ⟨23, _⟩ => ⟨S1x32x32x2x12288, .f32⟩
  | .hbm, ⟨24, _⟩ => ⟨S1x32x32x2x12288, .f32⟩
  | .hbm, ⟨25, _⟩ => ⟨S1x32x32x2x12288, .f32⟩
  | .hbm, ⟨26, _⟩ => ⟨S1x32x32x2x12288, .i1⟩
  | .hbm, ⟨27, _⟩ => ⟨S_, .f32⟩
  | .hbm, ⟨28, _⟩ => ⟨S_, .f32⟩
  | .hbm, ⟨29, _⟩ => ⟨S1x32x32x2x12288, .f32⟩
  | .hbm, ⟨30, _⟩ => ⟨S1x32x32x2x12288, .f32⟩
  | .hbm, ⟨31, _⟩ => ⟨S1x32x32x2x12288, .f32⟩
  | .hbm, ⟨32, _⟩ => ⟨S_, .f32⟩
  | .hbm, ⟨33, _⟩ => ⟨S_, .f32⟩
  | .hbm, ⟨34, _⟩ => ⟨S1x32x32x2x12288, .f32⟩
  | .hbm, ⟨35, _⟩ => ⟨S1x32x32x2x12288, .f32⟩
  | .hbm, ⟨36, _⟩ => ⟨S1x32x32x2x12288, .f32⟩
  | .hbm, ⟨37, _⟩ => ⟨S1x32x32x2x12288, .f32⟩
  | .hbm, ⟨38, _⟩ => ⟨S1x32x32x2x12288, .i1⟩
  | .hbm, ⟨39, _⟩ => ⟨S_, .f32⟩
  | .hbm, ⟨40, _⟩ => ⟨S_, .f32⟩
  | .hbm, ⟨41, _⟩ => ⟨S1x32x32x2x12288, .f32⟩
  | .hbm, ⟨42, _⟩ => ⟨S1x32x32x2x12288, .f32⟩
  | .hbm, ⟨43, _⟩ => ⟨S1x32x32x2x12288, .f32⟩
  | .hbm, ⟨44, _⟩ => ⟨S_, .f32⟩
  | .hbm, ⟨45, _⟩ => ⟨S_, .f32⟩
  | .hbm, ⟨46, _⟩ => ⟨S1x32x32x2x12288, .f32⟩
  | .hbm, ⟨47, _⟩ => ⟨S1x32x32x2x12288, .f32⟩
  | .hbm, ⟨48, _⟩ => ⟨S1x32x32x2x12288, .f32⟩
  | .hbm, ⟨49, _⟩ => ⟨S1x32x32x2x12288, .f32⟩
  | .hbm, ⟨50, _⟩ => ⟨S_, .f32⟩
  | .hbm, ⟨51, _⟩ => ⟨S_, .f32⟩
  | .hbm, ⟨52, _⟩ => ⟨S1x32x32x2x12288, .f32⟩
  | .hbm, ⟨53, _⟩ => ⟨S1x32x32x2x12288, .f32⟩
  | .hbm, ⟨54, _⟩ => ⟨S1x32x32x2x12288, .f32⟩
  | .hbm, ⟨55, _⟩ => ⟨S_, .f32⟩
  | .hbm, ⟨56, _⟩ => ⟨S_, .f32⟩
  | .hbm, ⟨57, _⟩ => ⟨S1x32x32x2x12288, .f32⟩
  | .hbm, ⟨58, _⟩ => ⟨S1x32x32x2x12288, .f32⟩
  | .hbm, ⟨59, _⟩ => ⟨S1x32x32x2x12288, .f32⟩
  | .hbm, ⟨60, _⟩ => ⟨S1x32x32x2x12288, .f32⟩
  | .hbm, ⟨61, _⟩ => ⟨S1x32x32x2x12288, .f32⟩
  | .hbm, ⟨62, _⟩ => ⟨S1x32x32x2x12288, .i1⟩
  | .hbm, ⟨63, _⟩ => ⟨S1x32x32x2x12288, .i32⟩
  | .hbm, ⟨64, _⟩ => ⟨S_, .i32⟩
  | .hbm, ⟨65, _⟩ => ⟨S1x32x32x2x12288, .i32⟩
  | .hbm, ⟨66, _⟩ => ⟨S1x32x32x2x12288, .i32⟩
  | .hbm, ⟨67, _⟩ => ⟨S1x32x32x2x12288, .i32⟩
  | .hbm, ⟨68, _⟩ => ⟨S_, .i32⟩
  | .hbm, ⟨69, _⟩ => ⟨S1x32x32x2x12288, .i32⟩
  | .hbm, ⟨70, _⟩ => ⟨S1x32x32x2x12288, .i32⟩
  | .hbm, ⟨71, _⟩ => ⟨S1x32x32x2x12288, .i32⟩
  | .hbm, ⟨72, _⟩ => ⟨S1x32x32x2x12288, .i32⟩
  | .hbm, ⟨73, _⟩ => ⟨S_, .i32⟩
  | .hbm, ⟨74, _⟩ => ⟨S1x32x32x2x12288, .i32⟩
  | .hbm, ⟨75, _⟩ => ⟨S1x32x32x2x12288, .i32⟩
  | .hbm, ⟨76, _⟩ => ⟨S1x32x32x2x12288, .i32⟩
  | .hbm, ⟨77, _⟩ => ⟨S1x32x32x2x12288, .i32⟩
  | .hbm, ⟨78, _⟩ => ⟨S1x32x32x2x12288, .i32⟩
  | .hbm, ⟨79, _⟩ => ⟨S1x32x32x1x12288, .i32⟩
  | .hbm, ⟨80, _⟩ => ⟨S1x32x32x12288, .i32⟩
  | .hbm, ⟨81, _⟩ => ⟨S_, .i32⟩
  | .hbm, ⟨82, _⟩ => ⟨S1x32x32x12288, .i32⟩
  | .hbm, ⟨83, _⟩ => ⟨S1x32x32x12288, .i32⟩
  | .hbm, ⟨84, _⟩ => ⟨S1x32x32x1x12288, .i32⟩
  | .hbm, ⟨85, _⟩ => ⟨S1x32x32x12288, .i32⟩
  | .hbm, ⟨86, _⟩ => ⟨S1x32x32x12288, .i32⟩
  | .hbm, ⟨87, _⟩ => ⟨S1x32x32x12288, .i8⟩
  | .hbm, ⟨88, _⟩ => ⟨S1x1024x12288, .i8⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1x1, .f32⟩
  | _, _ => ⟨S1x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_cst_5 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_cst_7 : Ref sig .tc := ⟨.hbm, 28, rfl⟩
abbrev main_call2_v0 : Ref sig .tc := ⟨.hbm, 29, rfl⟩
abbrev main_call2_v1 : Ref sig .tc := ⟨.hbm, 30, rfl⟩
abbrev main_v16 : Ref sig .tc := ⟨.hbm, 31, rfl⟩
abbrev main_cst_8 : Ref sig .tc := ⟨.hbm, 32, rfl⟩
abbrev main_cst_9 : Ref sig .tc := ⟨.hbm, 33, rfl⟩
abbrev main_call3_v0 : Ref sig .tc := ⟨.hbm, 34, rfl⟩
abbrev main_call3_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_10 : Ref sig .tc := ⟨.hbm, 39, rfl⟩
abbrev main_cst_11 : Ref sig .tc := ⟨.hbm, 40, rfl⟩
abbrev main_call5_v0 : Ref sig .tc := ⟨.hbm, 41, rfl⟩
abbrev main_call5_v1 : Ref sig .tc := ⟨.hbm, 42, rfl⟩
abbrev main_v20 : Ref sig .tc := ⟨.hbm, 43, rfl⟩
abbrev main_cst_12 : Ref sig .tc := ⟨.hbm, 44, rfl⟩
abbrev main_cst_13 : Ref sig .tc := ⟨.hbm, 45, rfl⟩
abbrev main_call6_v0 : Ref sig .tc := ⟨.hbm, 46, rfl⟩
abbrev main_call6_v1 : Ref sig .tc := ⟨.hbm, 47, rfl⟩
abbrev main_v21 : Ref sig .tc := ⟨.hbm, 48, rfl⟩
abbrev main_v22 : Ref sig .tc := ⟨.hbm, 49, rfl⟩
abbrev main_cst_14 : Ref sig .tc := ⟨.hbm, 50, rfl⟩
abbrev main_cst_15 : Ref sig .tc := ⟨.hbm, 51, rfl⟩
abbrev main_call8_v0 : Ref sig .tc := ⟨.hbm, 52, rfl⟩
abbrev main_call8_v1 : Ref sig .tc := ⟨.hbm, 53, rfl⟩
abbrev main_v23 : Ref sig .tc := ⟨.hbm, 54, rfl⟩
abbrev main_cst_16 : Ref sig .tc := ⟨.hbm, 55, rfl⟩
abbrev main_cst_17 : Ref sig .tc := ⟨.hbm, 56, rfl⟩
abbrev main_call9_v0 : Ref sig .tc := ⟨.hbm, 57, rfl⟩
abbrev main_call9_v1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_18 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_19 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_20 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_21 : Ref sig .tc := ⟨.hbm, 89, rfl⟩
abbrev main_v50 : Ref sig .tc := ⟨.hbm, 90, rfl⟩
abbrev main_cst_22 : Ref sig .tc := ⟨.hbm, 91, rfl⟩
abbrev main_v51 : Ref sig .tc := ⟨.hbm, 92, rfl⟩
abbrev main_v52 : Ref sig .tc := ⟨.hbm, 93, rfl⟩

abbrev nD : Nat := 1
abbrev τ : Topo := Topo.v7x

variable {F : FTy → Type} [FloatOps F]
-- ==== Proof.IRing.lean ====
/- The idealized program's streaming ring: its operand block by block through three slots, the families the
   invariant is stated over, and the names the body's transfers take at a point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The frame claim's post from the frame run's -/

/-- The frame from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post . -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points before point 30 — decided over the grid. -/
theorem hcond0_1 : ∀ t : Fin cfg0.N, cond0_1 (grid0.coords t) ↔ t.val < 30 :=
  (by decide +kernel : ∀ t : Fin grid0.N, cond0_1 (grid0.coords t) ↔ t.val < 30)

/-- The condition of the body's last branch. -/
abbrev cond0_2 (i : grid0.Coords) : Prop := k0_cond3 i = 1#1
/-- It holds at the last point only. -/
theorem hcond0_2 : ∀ t : Fin cfg0.N, cond0_2 (grid0.coords t) ↔ t.val = 31 :=
  (by decide +kernel : ∀ t : Fin grid0.N, cond0_2 (grid0.coords t) ↔ t.val = 31)

/-! ## The kernel body on any staging memrefs: a subtype the run finds -/

/-- Each window's current staging memref at point `t`. -/
abbrev ms0_0 (t : Fin cfg0.N) : Memref sig .tc .vmem S1x256x1536 .i8 := win0_0.stage (cfg0.slots t 0)
abbrev ms0_1 (t : Fin cfg0.N) : Memref sig .tc .vmem S1x8x1536 .f32 := win0_1.stage (cfg0.slots t 1)
abbrev ms0_2 (t : Fin cfg0.N) : Memref sig .tc .vmem S1536x256 .i8 := win0_2.stage (cfg0.slots t 2)
abbrev ms0_3 (t : Fin cfg0.N) : Memref sig .tc .vmem S12x128 .f32 := win0_3.stage (cfg0.slots t 3)
abbrev ms0_4 (t : Fin cfg0.N) : Memref sig .tc .smem S1x1 .f32 := win0_4.stage (cfg0.slots t 4)
/-- The scratch operands: whole scoped buffers of the kernel's own. -/
abbrev scM0_0 : Memref sig .tc .vmem S3x512x1536 .bf16 := Memref.whole cc0_scratch0
abbrev scM0_1 : Memref sig .tc .vmem S12x64x2x128 .bf16 := Memref.whole cc0_scratch2
abbrev scM0_2 : Memref sig .tc .vmem S32x12288 .f32 := Memref.whole cc0_scratch3
abbrev scM0_3 : Memref sig .tc .vmem S8x1536 .f32 := Memref.whole cc0_scratch4
abbrev scM0_4 : Memref sig .tc .vmem S8x2x1536 .bf16 := Memref.whole cc0_scratch5
abbrev scM0_5 : Memref sig .tc .vmem S384x128 .i32 := Memref.whole cc0_scratch6
abbrev scM0_6 : Memref sig .tc .vmem S384x128 .i32 := Memref.whole cc0_scratch7
/-- The operands left in HBM that the body copies into scratch itself, whole. -/
abbrev hbM0_0 : Memref sig .tc .hbm S1x2048x12288 .bf16 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 7, SemLoc.dma 8, SemLoc.dma 9] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg0))) := by
  rw [Pipeline.ΦD_eq, scopedRest0_eq, ownSems00_eq, hbmPts0_eq]; simp only [scM0_0, scM0_1, scM0_2, scM0_3, scM0_4, scM0_5, scM0_6, owns_whole]; try rfl

/-! ## Ring 0 of kernel 0: `main_arg0` streamed through the 3 slots of `cc0_scratch0` on the cells of `cc0_scratch1`, 2 block ahead, in 32 steps -/

instance : NeZero grid0.N := ⟨by rw [N_0]; decide⟩
theorem inb_slot0_0 (s : Fin 3) : ∀ a, (![s.val, 0, 0] : Fin 3 → Nat) a + S1x512x1536.size a ≤ S3x512x1536.size a := by
  have := s.isLt; intro a; fin_cases a <;> simp <;> omega
theorem inb_src0_0 (b : Fin 32) : ∀ a, (![0, 512 * (b.val / 8), 1536 * (b.val % 8)] : Fin 3 → Nat) a + S1x512x1536.size a ≤ S1x2048x12288.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S512x1536 .bf16 :=
  (scM0_0.slice (Rect.unit (s := S3x512x1536) ![s.val, 0, 0] S1x512x1536.size (inb_slot0_0 s)) (fun _ => rfl)).squeeze S512x1536 squeezes_S1x512x1536_S512x1536
/-- Block `b` of the operand (the block step `b` waits), spelt as the transfers spell their source, at offsets in `b`. -/
def srcB0_0 (b : Fin 32) : Memref sig .tc .hbm S512x1536 .bf16 :=
  (hbM0_0.slice (Rect.unit (s := S1x2048x12288) ![0, 512 * (b.val / 8), 1536 * (b.val % 8)] S1x512x1536.size (inb_src0_0 b)) (fun _ => rfl)).squeeze S512x1536 squeezes_S1x512x1536_S512x1536
/-- Cell `s` of `cc0_scratch1`, spelt as the body spells a cell; its number in the pool. -/
def cellA0_0 (s : Fin 3) : DmaSems sig S_ := (cc0_scratch1.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 7 := by decide
theorem cellR0_0_1 : cellR0_0 1 = SemLoc.dma 8 := by decide
theorem cellR0_0_2 : cellR0_0 2 = SemLoc.dma 9 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 32) : sProp 𝕄 := (srcB0_0 b).view.loc (c : Thread nD τ) ↦[(srcB0_0 b).view.set]{qs0_0 s} W
/-- (a `def`: no run reads this rest, and folded it stays out of the executor's table of held buffers) -/
def restP0_0 (s : Fin 3) (b : Fin 32) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 32) (f : HbBuf0 (F := F) c (rslot0_0 s)) : HbBuf0 (F := F) c (rslot0_0 s) :=
  (rslot0_0 s).view.writes (Elt F) f [⟨Rect.whole S512x1536, ReadAs.same.apply ((srcB0_0 b).view.read (Elt F) W)⟩]
abbrev flightP0_0 (s : Fin 3) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 32) (f : HbBuf0 (F := F) c (rslot0_0 s)) : sProp 𝕄 := iprop(flightP0_0 c W s b f ∗ restP0_0 c W s b)
abbrev noHome0_0 (b : Fin 32) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 7) 0 := congrArg (fun x => (semVal ((c : Thread nD τ), x) 0 : sProp 𝕄)) cellR0_0_0
omit [FloatOps F] in
theorem cellP0_0_1 : cellP0_0 (F := F) c 1 = semVal ((c : Thread nD τ), SemLoc.dma 8) 0 := congrArg (fun x => (semVal ((c : Thread nD τ), x) 0 : sProp 𝕄)) cellR0_0_1
omit [FloatOps F] in
theorem cellP0_0_2 : cellP0_0 (F := F) c 2 = semVal ((c : Thread nD τ), SemLoc.dma 9) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x512x1536.Idx := (Rect.unit (s := S3x512x1536) ![s.val, 0, 0] S1x512x1536.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x512x1536) (0 : Fin 3) 1 (fun s : Fin 3 => (![s.val, 0, 0] : Fin 3 → Nat)) S1x512x1536.size inb_slot0_0 (fun s => by simp) rfl s s' h
theorem slots0_0_cover : Finset.univ.biUnion slotSet0_0 = Finset.univ :=
  Ring.lead_cover (s := S3x512x1536) (0 : Fin 3) 1 (fun s : Fin 3 => (![s.val, 0, 0] : Fin 3 → Nat)) S1x512x1536.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 32) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ (∃ f, slotP0_0 (F := F) c 1 f) ∗ ∃ f, slotP0_0 (F := F) c 2 f) : sProp 𝕄) := by
  simp only [scM0_0, owns_whole]
  exact Ring.slots3_split (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- Into the ring: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 7) 0 ∗ semVal ((c : Thread nD τ), SemLoc.dma 8) 0 ∗ semVal ((c : Thread nD τ), SemLoc.dma 9) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- Out of the ring: after the last step (every slot kept or free: the kept blocks forgotten) those pieces again. -/
theorem ring0_0_out (c : Dev nD) :
    ringAt0_0 c (V m c main_arg0) 32
      ⊢ iprop((∃ d, owns (c : Thread nD τ) scM0_0 fullShare d) ∗ (semVal ((c : Thread nD τ), SemLoc.dma 7) 0 ∗ semVal ((c : Thread nD τ), SemLoc.dma 8) 0 ∗ semVal ((c : Thread nD τ), SemLoc.dma 9) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 2 < 32 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ 32 ≤ t.val + 2 ∧ t.val < 32 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) :
    (scM0_0.slice (Rect.unit (s := S3x512x1536) ![0, 0, 0] S1x512x1536.size inb_S3x512x1536_S1x512x1536_0_0_0) (fun _ => rfl)).squeeze S512x1536 squeezes_S1x512x1536_S512x1536 = rslot0_0 (Ring.sl 3 t.val) :=
  congrArg (fun M : Memref sig .tc .vmem S1x512x1536 .bf16 => M.squeeze S512x1536 squeezes_S1x512x1536_S512x1536) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) :
    (cc0_scratch1.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0, 0] : Fin 3 → Nat) = ![0, 512 * ((Ring.bk 32 t.val).val / 8), 1536 * ((Ring.bk 32 t.val).val % 8)] := by decide +kernel
@[sl_canon] theorem canon0_0_3 (t : Fin grid0.N) (h0 : cond0_0 (grid0.coords t)) (h1 : cond0_1 (grid0.coords t)) :
    (hbM0_0.slice (Rect.unit (s := S1x2048x12288) ![0, 0, 0] S1x512x1536.size inb_S1x2048x12288_S1x512x1536_0_0_0) (fun _ => rfl)).squeeze S512x1536 squeezes_S1x512x1536_S512x1536 = srcB0_0 (Ring.bk 32 t.val) :=
  congrArg (fun M : Memref sig .tc .hbm S1x512x1536 .bf16 => M.squeeze S512x1536 squeezes_S1x512x1536_S512x1536) (Memref.slice_unit_congr _ (coff0_0_3 t h0 h1) _ _ (fun _ => rfl) (fun _ => rfl))
set_option synthInstance.maxSize 4096 in
theorem coff0_0_4 : ∀ t : Fin grid0.N, cond0_0 (grid0.coords t) → cond0_1 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) :
    (scM0_0.slice (Rect.unit (s := S3x512x1536) ![1, 0, 0] S1x512x1536.size inb_S3x512x1536_S1x512x1536_1_0_0) (fun _ => rfl)).squeeze S512x1536 squeezes_S1x512x1536_S512x1536 = rslot0_0 (Ring.sl 3 (t.val + 1)) :=
  congrArg (fun M : Memref sig .tc .vmem S1x512x1536 .bf16 => M.squeeze S512x1536 squeezes_S1x512x1536_S512x1536) (Memref.slice_unit_congr _ (coff0_0_4 t h0 h1) _ _ (fun _ => rfl) (fun _ => rfl))
set_option synthInstance.maxSize 4096 in
theorem coff0_0_5 : ∀ t : Fin grid0.N, cond0_0 (grid0.coords t) → cond0_1 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) :
    (cc0_scratch1.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1) _ _)
set_option synthInstance.maxSize 4096 in
theorem coff0_0_6 : ∀ t : Fin grid0.N, cond0_0 (grid0.coords t) → cond0_1 (grid0.coords t) → (![0, 0, 1536] : Fin 3 → Nat) = ![0, 512 * ((Ring.bk 32 (t.val + 1)).val / 8), 1536 * ((Ring.bk 32 (t.val + 1)).val % 8)] := by decide +kernel
@[sl_canon] theorem canon0_0_6 (t : Fin grid0.N) (h0 : cond0_0 (grid0.coords t)) (h1 : cond0_1 (grid0.coords t)) :
    (hbM0_0.slice (Rect.unit (s := S1x2048x12288) ![0, 0, 1536] S1x512x1536.size inb_S1x2048x12288_S1x512x1536_0_0_1536) (fun _ => rfl)).squeeze S512x1536 squeezes_S1x512x1536_S512x1536 = srcB0_0 (Ring.bk 32 (t.val + 1)) :=
  congrArg (fun M : Memref sig .tc .hbm S1x512x1536 .bf16 => M.squeeze S512x1536 squeezes_S1x512x1536_S512x1536) (Memref.slice_unit_congr _ (coff0_0_6 t h0 h1) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_0.slice (Rect.unit (s := S3x512x1536) (k0_off2 (grid0.coords t)) S1x512x1536.size (k0_off2_inb (grid0.coords t) h1)) (fun _ => rfl)).squeeze S512x1536 squeezes_S1x512x1536_S512x1536 = rslot0_0 (Ring.sl 3 (t.val + 2)) :=
  congrArg (fun M : Memref sig .tc .vmem S1x512x1536 .bf16 => M.squeeze S512x1536 squeezes_S1x512x1536_S512x1536) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch1.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → k0_off3 (grid0.coords t) = ![0, 512 * ((Ring.bk 32 (t.val + 2)).val / 8), 1536 * ((Ring.bk 32 (t.val + 2)).val % 8)] := by decide +kernel
@[sl_canon] theorem canon0_0_9 (t : Fin grid0.N) (h0 : cond0_0 (grid0.coords t)) (h1 : cond0_1 (grid0.coords t)) :
    (hbM0_0.slice (Rect.unit (s := S1x2048x12288) (k0_off3 (grid0.coords t)) S1x512x1536.size (k0_off3_inb (grid0.coords t) h1)) (fun _ => rfl)).squeeze S512x1536 squeezes_S1x512x1536_S512x1536 = srcB0_0 (Ring.bk 32 (t.val + 2)) :=
  congrArg (fun M : Memref sig .tc .hbm S1x512x1536 .bf16 => M.squeeze S512x1536 squeezes_S1x512x1536_S512x1536) (Memref.slice_unit_congr _ (coff0_0_9 t h0 h1) _ _ (fun _ => rfl) (fun _ => rfl))
set_option synthInstance.maxSize 4096 in
theorem coff0_0_10 : ∀ t : Fin grid0.N, k0_off5 (grid0.coords t) = ![(Ring.sl 3 t.val).val, 0, 0] := by decide +kernel
@[sl_canon] theorem canon0_0_10 (t : Fin grid0.N) :
    (scM0_0.slice (Rect.unit (s := S3x512x1536) (k0_off5 (grid0.coords t)) S1x512x1536.size (k0_off5_inb (grid0.coords t))) (fun _ => rfl)).squeeze S512x1536 squeezes_S1x512x1536_S512x1536 = rslot0_0 (Ring.sl 3 t.val) :=
  congrArg (fun M : Memref sig .tc .vmem S1x512x1536 .bf16 => M.squeeze S512x1536 squeezes_S1x512x1536_S512x1536) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch1.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → k0_off3 (grid0.coords t) = ![0, 512 * ((Ring.bk 32 (t.val + 2)).val / 8), 1536 * ((Ring.bk 32 (t.val + 2)).val % 8)] := by decide +kernel
@[sl_canon] theorem canon0_0_12 (t : Fin grid0.N) (h0 : ¬cond0_0 (grid0.coords t)) (h1 : cond0_1 (grid0.coords t)) :
    (hbM0_0.slice (Rect.unit (s := S1x2048x12288) (k0_off3 (grid0.coords t)) S1x512x1536.size (k0_off3_inb (grid0.coords t) h1)) (fun _ => rfl)).squeeze S512x1536 squeezes_S1x512x1536_S512x1536 = srcB0_0 (Ring.bk 32 (t.val + 2)) :=
  congrArg (fun M : Memref sig .tc .hbm S1x512x1536 .bf16 => M.squeeze S512x1536 squeezes_S1x512x1536_S512x1536) (Memref.slice_unit_congr _ (coff0_0_12 t h0 h1) _ _ (fun _ => rfl) (fun _ => rfl))
/-- The slot a point reads, in the words the loads' offsets use. -/
theorem slotOf : ∀ t : Fin grid0.N, (Ring.sl 3 t.val).val = (grid0.coords t 0).val % 3 := by decide +kernel
end Canon0_0

end Cert.KernelIdeal.Hand

end
-- ==== Proof.IOff.lean ====
/- Where the loops of the body load and store, in closed form. -/
module

public import proofs.«01_k».proof.Proof.IRing
public import Idealize.ShloMosaic.Lib.Pointwise
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic

/-- The offsets of the loads of a tile, by block of 64 rows and quarter. -/
def loadOff : Fin 8 → Fin 4 → grid0.Coords → Fin k0_t1_loop.trips → Fin 3 → Nat :=
  ![![k0_off7, k0_off8, k0_off9, k0_off10], ![k0_off12, k0_off13, k0_off14, k0_off15], ![k0_off17, k0_off18, k0_off19, k0_off20],
    ![k0_off22, k0_off23, k0_off24, k0_off25], ![k0_off27, k0_off28, k0_off29, k0_off30], ![k0_off32, k0_off33, k0_off34, k0_off35],
    ![k0_off37, k0_off38, k0_off39, k0_off40], ![k0_off42, k0_off43, k0_off44, k0_off45]]

theorem loadOff_eq : ∀ (b : Fin 8) (q : Fin 4) (t : Fin grid0.N) (k : Fin k0_t1_loop.trips),
    loadOff b q (grid0.coords t) k = ![(grid0.coords t 0).val % 3, 64 * b.val + 16 * q.val, 128 * k.val] := by decide +kernel

/-- The offsets of the strided stores of a tile's row maxima, by block of 64 rows. -/
def stageOff : Fin 8 → Fin k0_t1_loop.trips → Fin 4 → Nat :=
  ![k0_off11, k0_off16, k0_off21, k0_off26, k0_off31, k0_off36, k0_off41, k0_off46]

theorem stageOff_eq : ∀ (b : Fin 8) (k : Fin k0_t1_loop.trips), stageOff b k = ![k.val, b.val, 0, 0] := by decide +kernel

/-- The offsets of the loads that bring the blocks' maxima back, by group of eight. -/
def backOff : Fin 8 → Fin k0_t1_loop.trips → Fin 4 → Nat :=
  ![k0_off47, k0_off48, k0_off49, k0_off50, k0_off51, k0_off52, k0_off53, k0_off54]

theorem backOff_eq : ∀ (j : Fin 8) (k : Fin k0_t1_loop.trips), backOff j k = ![k.val, 8 * j.val, 0, 0] := by decide +kernel

theorem off55_eq : ∀ (k : Fin k0_t1_loop.trips), k0_off55 k = ![0, 0, 128 * k.val] := by decide +kernel
theorem off56_eq : ∀ (t : Fin grid0.N) (k : Fin k0_t1_loop.trips),
    k0_off56 (grid0.coords t) k = ![8 * (t.val / 8), 1536 * (t.val % 8) + 128 * k.val] := by decide +kernel
theorem off57_eq : ∀ (k : Fin k0_t1_loop.trips), k0_off57 k = ![0, 128 * k.val] := by decide +kernel
theorem off58_eq : ∀ (k : Fin k0_t1_loop.trips), k0_off58 k = ![0, 0, 128 * k.val] := by decide +kernel

end Cert.KernelIdeal.Hand

end
-- ==== Proof.IT1.lean ====
/- What one trip of the loop that takes the maxima computes, read place by place. -/
module

public import proofs.«01_k».proof.Proof.IRing
public import proofs.«01_k».proof.Proof.IOff
public import Idealize.ShloMosaic.Lib.Pointwise
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic

variable {α : Type}

/-- A read of sixteen rows, split by parity and interleaved again, is the rows read. -/
theorem rows16_apply (x : S1x16x128.Idx → α) (h0 h1 h2 h3) (r : Fin 16) (l : Fin 128) :
    interleaveRows S16x128 (shapeCast S8x128 (rowsOfParity 0 S1x8x128 x h0) h1) (shapeCast S8x128 (rowsOfParity 1 S1x8x128 x h0) h2) h3 (ix2 r l)
      = x (ix3 (0 : Fin 1) r l) := by
  pointwise
  split
  · congr 2; apply Fin.ext; dsimp only; omega
  · congr 2; apply Fin.ext; dsimp only; omega

/-- The same of a read of eight pairs of rows. -/
theorem rows16'_apply (x : S1x8x2x128.Idx → α) (h0 h1 h2 h3 h4 h5) (r : Fin 16) (l : Fin 128) :
    interleaveRows S16x128 (shapeCast S8x128 (shapeCast S1x8x128 (rowsOfParity 0 S1x8x1x128 x h0) h1) h2)
      (shapeCast S8x128 (shapeCast S1x8x128 (rowsOfParity 1 S1x8x1x128 x h0) h4) h5) h3 (ix2 r l)
      = x (ix4 (0 : Fin 1) (⟨r.val / 2, by omega⟩ : Fin 8) (⟨r.val % 2, by omega⟩ : Fin 2) l) := by
  pointwise
  split
  · congr 2; apply Fin.ext; show 0 = r.val % 2; omega
  · congr 2; apply Fin.ext; show 1 = r.val % 2; omega

/-- Sixteen rows split by parity and stored as eight pairs. -/
theorem pair_apply (x : S16x128.Idx → α) (h0 h1 h2 h3 h4 h5) (s : Fin 8) (p : Fin 2) (l : Fin 128) :
    interleaveRows S1x8x2x128 (shapeCast S1x8x1x128 (shapeCast S1x8x128 (rowsOfParity 0 S8x128 x h0) h1) h2)
      (shapeCast S1x8x1x128 (shapeCast S1x8x128 (rowsOfParity 1 S8x128 x h0) h4) h5) h3 (ix4 (0 : Fin 1) s p l)
      = x (ix2 (⟨2 * s.val + p.val, by omega⟩ : Fin 16) l) := by
  pointwise
  split
  · congr 2; apply Fin.ext; dsimp only; omega
  · congr 2; apply Fin.ext; dsimp only; omega

/-- The absolute value over the extended reals. -/
def eabs (x : EReal) : EReal := max x (-x)

/-- The maximum of four reads of sixteen rows, row by row. -/
theorem rowMax_apply (x0 x1 x2 x3 : Vec Ideal S1x16x128 .bf16) (r : Fin 16) (l : Fin 128) :
    (k0_pay1 x0 x1 x2 x3 (ix2 r l) : EReal) = max (max (max (eabs (x0 (ix3 (0 : Fin 1) r l))) (eabs (x1 (ix3 (0 : Fin 1) r l))))
      (eabs (x2 (ix3 (0 : Fin 1) r l)))) (eabs (x3 (ix3 (0 : Fin 1) r l))) := by
  simp only [← rows16_apply _ bitcasts_S1x16x128_w16_S1x8x128_w32 shapeCasts_S1x8x128_S8x128 shapeCasts_S1x8x128_S8x128 bitcasts_S16x128_w16_S8x128_w32 r l]
  rfl

/-- What a block of 64 rows stores in the staging buffer. -/
def blockRows (x : Fin 4 → Vec Ideal S1x16x128 .bf16) : Vec Ideal S1x8x2x128 .bf16 :=
  k0_pay5 (k0_pay2 (x 0) (x 1) (x 2) (x 3)) (k0_pay3 (x 0) (x 1) (x 2) (x 3))

theorem blockRows_apply (x : Fin 4 → Vec Ideal S1x16x128 .bf16) (s : Fin 8) (p : Fin 2) (l : Fin 128) :
    (blockRows x (ix4 (0 : Fin 1) s p l) : EReal) =
      max (max (max (eabs (x 0 (ix3 (0 : Fin 1) (⟨2 * s.val + p.val, by omega⟩ : Fin 16) l))) (eabs (x 1 (ix3 (0 : Fin 1) (⟨2 * s.val + p.val, by omega⟩ : Fin 16) l))))
      (eabs (x 2 (ix3 (0 : Fin 1) (⟨2 * s.val + p.val, by omega⟩ : Fin 16) l)))) (eabs (x 3 (ix3 (0 : Fin 1) (⟨2 * s.val + p.val, by omega⟩ : Fin 16) l))) := by
  rw [← rowMax_apply]
  exact pair_apply (k0_pay1 (x 0) (x 1) (x 2) (x 3)) bitcasts_S16x128_w16_S8x128_w32 shapeCasts_S8x128_S1x8x128 shapeCasts_S1x8x128_S1x8x1x128
    bitcasts_S1x8x2x128_w16_S1x8x1x128_w32 shapeCasts_S8x128_S1x8x128 shapeCasts_S1x8x128_S1x8x1x128 s p l

/-- One group of eight blocks' maxima brought back, as sixteen rows. -/
def backRows (y : Vec Ideal S1x8x2x128 .bf16) : FVec Ideal S16x128 .bf16 :=
  interleaveRows S16x128 (shapeCast S8x128 (shapeCast S1x8x128 (rowsOfParity 0 S1x8x1x128 y bitcasts_S1x8x2x128_w16_S1x8x1x128_w32) shapeCasts_S1x8x1x128_S1x8x128) shapeCasts_S1x8x128_S8x128)
    (shapeCast S8x128 (shapeCast S1x8x128 (rowsOfParity 1 S1x8x1x128 y bitcasts_S1x8x2x128_w16_S1x8x1x128_w32) shapeCasts_S1x8x1x128_S1x8x128) shapeCasts_S1x8x128_S8x128) bitcasts_S16x128_w16_S8x128_w32

/-- The maximum of the eight groups. -/
def backMax (y : Fin 8 → Vec Ideal S1x8x2x128 .bf16) : FVec Ideal S16x128 .bf16 :=
  maximumf (maximumf (maximumf (maximumf (maximumf (maximumf (maximumf (backRows (y 0)) (backRows (y 1))) (backRows (y 2))) (backRows (y 3))) (backRows (y 4))) (backRows (y 5))) (backRows (y 6))) (backRows (y 7))

/-- A block's maximum: the larger of its even and its odd rows' maximum. -/
def blockMax (y : Fin 8 → Vec Ideal S1x8x2x128 .bf16) : FVec Ideal S8x128 .f32 :=
  maximumf (extf .f32 (rowsOfParity 0 S8x128 (backMax y) bitcasts_S16x128_w16_S8x128_w32) (by decide)) (extf .f32 (rowsOfParity 1 S8x128 (backMax y) bitcasts_S16x128_w16_S8x128_w32) (by decide))

/-- The maximum of eight. -/
def max8 (f : Fin 8 → EReal) : EReal := max (max (max (max (max (max (max (f 0) (f 1)) (f 2)) (f 3)) (f 4)) (f 5)) (f 6)) (f 7)

theorem backMax_apply (y : Fin 8 → Vec Ideal S1x8x2x128 .bf16) (r : Fin 16) (l : Fin 128) :
    (backMax y (ix2 r l) : EReal) = max8 fun j => y j (ix4 (0 : Fin 1) (⟨r.val / 2, by omega⟩ : Fin 8) (⟨r.val % 2, by omega⟩ : Fin 2) l) := by
  have h : ∀ j, backRows (y j) (ix2 r l) = y j (ix4 (0 : Fin 1) (⟨r.val / 2, by omega⟩ : Fin 8) (⟨r.val % 2, by omega⟩ : Fin 2) l) :=
    fun j => rows16'_apply (y j) _ _ _ _ _ _ r l
  simp only [← h]
  rfl

theorem blockMax_apply (y : Fin 8 → Vec Ideal S1x8x2x128 .bf16) (b : Fin 8) (l : Fin 128) :
    (blockMax y (ix2 b l) : EReal) = max (max8 fun j => y j (ix4 (0 : Fin 1) b (0 : Fin 2) l)) (max8 fun j => y j (ix4 (0 : Fin 1) b (1 : Fin 2) l)) := by
  have h0 := backMax_apply y (⟨2 * b.val, by omega⟩ : Fin 16) l
  have h1 := backMax_apply y (⟨2 * b.val + 1, by omega⟩ : Fin 16) l
  have e0 : (⟨(2 * b.val) / 2, by omega⟩ : Fin 8) = b := Fin.ext (by dsimp only; omega)
  have e1 : (⟨(2 * b.val) % 2, by omega⟩ : Fin 2) = 0 := Fin.ext (by show _ = 0; dsimp only; omega)
  have e2 : (⟨(2 * b.val + 1) / 2, by omega⟩ : Fin 8) = b := Fin.ext (by dsimp only; omega)
  have e3 : (⟨(2 * b.val + 1) % 2, by omega⟩ : Fin 2) = 1 := Fin.ext (by show _ = 1; dsimp only; omega)
  simp only [e0, e1] at h0
  simp only [e2, e3] at h1
  rw [← h0, ← h1]
  show max (rowsOfParity 0 S8x128 (backMax y) bitcasts_S16x128_w16_S8x128_w32 (ix2 b l) : EReal) (rowsOfParity 1 S8x128 (backMax y) bitcasts_S16x128_w16_S8x128_w32 (ix2 b l)) = _
  pointwise

theorem max8_le_iff (f : Fin 8 → EReal) (z : EReal) : max8 f ≤ z ↔ ∀ j, f j ≤ z := by
  simp only [max8, max_le_iff, Fin.forall_fin_succ, Fin.forall_fin_zero, and_true, and_assoc]
  rfl

/-- The maximum over a block's 64 rows, taken as the kernel takes it: by parity, group of eight and quarter. -/
theorem sup64 (g : Fin 64 → EReal) :
    max (max8 fun j => max (max (max (g ⟨2 * j.val, by omega⟩) (g ⟨16 + 2 * j.val, by omega⟩)) (g ⟨32 + 2 * j.val, by omega⟩)) (g ⟨48 + 2 * j.val, by omega⟩))
      (max8 fun j => max (max (max (g ⟨2 * j.val + 1, by omega⟩) (g ⟨16 + 2 * j.val + 1, by omega⟩)) (g ⟨32 + 2 * j.val + 1, by omega⟩)) (g ⟨48 + 2 * j.val + 1, by omega⟩))
      = Finset.univ.sup g := by
  apply eq_of_forall_ge_iff
  intro z
  simp only [max_le_iff, max8_le_iff, Finset.sup_le_iff, Finset.mem_univ, forall_true_left]
  constructor
  · rintro ⟨h0, h1⟩ r
    have e0 := h0 ⟨r.val % 16 / 2, by omega⟩
    have e1 := h1 ⟨r.val % 16 / 2, by omega⟩
    dsimp only at e0 e1
    rcases Nat.mod_two_eq_zero_or_one r.val with hp | hp
    · obtain ⟨⟨⟨a0, a1⟩, a2⟩, a3⟩ := e0
      have hq : r.val / 16 = 0 ∨ r.val / 16 = 1 ∨ r.val / 16 = 2 ∨ r.val / 16 = 3 := by omega
      rcases hq with hq | hq | hq | hq
      · convert a0 using 2; apply Fin.ext; dsimp only; omega
      · convert a1 using 2; apply Fin.ext; dsimp only; omega
      · convert a2 using 2; apply Fin.ext; dsimp only; omega
      · convert a3 using 2; apply Fin.ext; dsimp only; omega
    · obtain ⟨⟨⟨a0, a1⟩, a2⟩, a3⟩ := e1
      have hq : r.val / 16 = 0 ∨ r.val / 16 = 1 ∨ r.val / 16 = 2 ∨ r.val / 16 = 3 := by omega
      rcases hq with hq | hq | hq | hq
      · convert a0 using 2; apply Fin.ext; dsimp only; omega
      · convert a1 using 2; apply Fin.ext; dsimp only; omega
      · convert a2 using 2; apply Fin.ext; dsimp only; omega
      · convert a3 using 2; apply Fin.ext; dsimp only; omega
  · intro h
    exact ⟨fun j => ⟨⟨⟨h _, h _⟩, h _⟩, h _⟩, fun j => ⟨⟨⟨h _, h _⟩, h _⟩, h _⟩⟩

/-! ### The slot, the staging buffer and the results of a trip -/

/-- An element of the slot in use at a point. -/
def xat (X : scM0_0.view.ty.Contents (Elt Ideal)) (t : Fin grid0.N) (r : Fin 512) (col : Fin 1536) : EReal :=
  scM0_0.view.read (Elt Ideal) X (ix3 (⟨(grid0.coords t 0).val % 3, Nat.mod_lt _ (by decide)⟩ : Fin 3) r col)

/-- The largest absolute value of the 64 rows of a block. -/
def bmax (X : scM0_0.view.ty.Contents (Elt Ideal)) (t : Fin grid0.N) (b : Fin 8) (col : Fin 1536) : EReal :=
  Finset.univ.sup fun r : Fin 64 => eabs (xat X t ⟨64 * b.val + r.val, by omega⟩ col)

theorem load_apply (X : scM0_0.view.ty.Contents (Elt Ideal)) (t : Fin grid0.N) (k : Fin k0_t1_loop.trips) (b : Fin 8) (q : Fin 4)
    (inb : ∀ a, loadOff b q (grid0.coords t) k a + S1x16x128.size a ≤ S3x512x1536.size a) (hk : k.val < 12) (r : Fin 16) (l : Fin 128) :
    (View.readAt (Elt Ideal) scM0_0.view (Rect.unit (s := S3x512x1536) (loadOff b q (grid0.coords t) k) S1x16x128.size inb).toLoadRect X (ix3 (0 : Fin 1) r l) : EReal)
      = xat X t ⟨64 * b.val + 16 * q.val + r.val, by omega⟩ ⟨128 * k.val + l.val, by omega⟩ := by
  rw [View.readAt_apply]
  unfold xat
  congr 1
  have h := loadOff_eq b q t k
  refine Rect.emb_eq_of_coords (Rect.unit (s := S3x512x1536) (loadOff b q (grid0.coords t) k) S1x16x128.size inb) _ _ ?_
  intro a
  have ha := congrFun h a
  fin_cases a
  · show (grid0.coords t 0).val % 3 = loadOff b q (grid0.coords t) k 0 + 1 * 0
    rw [h]; rfl
  · show 64 * b.val + 16 * q.val + r.val = loadOff b q (grid0.coords t) k 1 + 1 * r.val
    rw [h, Nat.one_mul]; rfl
  · show 128 * k.val + l.val = loadOff b q (grid0.coords t) k 2 + 1 * l.val
    rw [h, Nat.one_mul]; rfl

/-- The rectangle of the staging buffer that block `b` of tile `k` is stored in: every eighth row. -/
def stageRect (k : Fin k0_t1_loop.trips) (b : Fin 8)
    (inb : ∀ a, S1x8x2x128.size a = 0 ∨ stageOff b k a + (![1, 8, 1, 1] : Fin 4 → Nat) a * (S1x8x2x128.size a - 1) < S12x64x2x128.size a)
    (hp : ∀ a, 0 < (![1, 8, 1, 1] : Fin 4 → Nat) a) : Rect S12x64x2x128 :=
  ⟨⟨stageOff b k, S1x8x2x128.size, ![1, 8, 1, 1], inb⟩, hp⟩

theorem stageOff_inb : ∀ (k : Fin k0_t1_loop.trips) (b : Fin 8) (a),
    S1x8x2x128.size a = 0 ∨ stageOff b k a + (![1, 8, 1, 1] : Fin 4 → Nat) a * (S1x8x2x128.size a - 1) < S12x64x2x128.size a := by
  intro k b a
  have hk : k.val < 12 := Nat.lt_of_lt_of_le k.isLt k0_t1_abs.2.1
  have hb := b.isLt
  rw [stageOff_eq]
  right
  fin_cases a
  · show k.val + 1 * (1 - 1) < 12; omega
  · show b.val + 8 * (8 - 1) < 64; omega
  · show 0 + 1 * (2 - 1) < 2; omega
  · show 0 + 1 * (128 - 1) < 128; omega

/-- The piece that block `b` of tile `k` stores in the staging buffer. -/
def stagePiece (k : Fin k0_t1_loop.trips) (w : Fin 8 → Vec Ideal S1x8x2x128 .bf16) (b : Fin 8) : View.Piece (Elt Ideal) S12x64x2x128 .bf16 :=
  ⟨stageRect k b (stageOff_inb k b) spos_1_8_1_1, w b⟩

/-- The pieces a trip stores in the staging buffer, the last first. -/
def stagePieces (k : Fin k0_t1_loop.trips) (w : Fin 8 → Vec Ideal S1x8x2x128 .bf16) : List (View.Piece (Elt Ideal) S12x64x2x128 .bf16) :=
  [stagePiece k w 7, stagePiece k w 6, stagePiece k w 5, stagePiece k w 4, stagePiece k w 3, stagePiece k w 2, stagePiece k w 1, stagePiece k w 0]

theorem mem_stagePieces (k : Fin k0_t1_loop.trips) (w : Fin 8 → Vec Ideal S1x8x2x128 .bf16) (p : View.Piece (Elt Ideal) S12x64x2x128 .bf16) :
    p ∈ stagePieces k w ↔ ∃ b, p = stagePiece k w b := by
  constructor
  · intro h
    simp only [stagePieces, List.mem_cons, List.not_mem_nil, or_false] at h
    rcases h with h | h | h | h | h | h | h | h <;> exact ⟨_, h⟩
  · rintro ⟨b, rfl⟩
    unfold stagePieces
    fin_cases b <;> simp

/-- Reading group `j` of tile `k` back: the block on the row axis, the group's row of that block's store. -/
theorem back_apply (f : scM0_1.view.ty.Contents (Elt Ideal)) (k : Fin k0_t1_loop.trips) (w : Fin 8 → Vec Ideal S1x8x2x128 .bf16) (j : Fin 8)
    (inb : ∀ a, backOff j k a + S1x8x2x128.size a ≤ S12x64x2x128.size a) (b : Fin 8) (p : Fin 2) (l : Fin 128) :
    View.readAt (Elt Ideal) scM0_1.view (Rect.unit (s := S12x64x2x128) (backOff j k) S1x8x2x128.size inb).toLoadRect
      (scM0_1.view.writes (Elt Ideal) f (stagePieces k w)) (ix4 (0 : Fin 1) b p l) = w b (ix4 (0 : Fin 1) j p l) := by
  rw [View.readAt_apply]
  have hb := b.isLt
  have hj := j.isLt
  have hrect : ∀ (b' : Fin 8) (x : (stageRect k b' (stageOff_inb k b') spos_1_8_1_1).shape.Idx),
      (((stageRect k b' (stageOff_inb k b') spos_1_8_1_1).emb x) 1).val = b'.val + 8 * (x 1).val := by
    intro b' x
    show stageOff b' k 1 + 8 * (x 1).val = _
    rw [stageOff_eq]; rfl
  set G : S12x64x2x128.Idx → Elt Ideal .bf16 := fun y =>
    w ⟨(y 1).val % 8, Nat.mod_lt _ (by decide)⟩ (ix4 (0 : Fin 1) (⟨(y 1).val / 8, by have : (y 1).val < 64 := (y 1).isLt; omega⟩ : Fin 8) (y 2) (y 3)) with hG
  rw [View.read_writes_apply_of_pieces scM0_1.view f G]
  · have e1 : (((Rect.unit (s := S12x64x2x128) (backOff j k) S1x8x2x128.size inb).toLoadRect.idx (ix4 (0 : Fin 1) b p l)) 1).val = 8 * j.val + b.val := by
      show backOff j k 1 + 1 * b.val = _
      rw [backOff_eq, Nat.one_mul]; rfl
    have e2 : (((Rect.unit (s := S12x64x2x128) (backOff j k) S1x8x2x128.size inb).toLoadRect.idx (ix4 (0 : Fin 1) b p l)) 2) = p := by
      apply Fin.ext
      show backOff j k 2 + 1 * p.val = _
      rw [backOff_eq, Nat.one_mul]; exact Nat.zero_add _
    have e3 : (((Rect.unit (s := S12x64x2x128) (backOff j k) S1x8x2x128.size inb).toLoadRect.idx (ix4 (0 : Fin 1) b p l)) 3) = l := by
      apply Fin.ext
      show backOff j k 3 + 1 * l.val = _
      rw [backOff_eq, Nat.one_mul]; exact Nat.zero_add _
    rw [hG]
    dsimp only
    rw [e2, e3]
    refine congr ?_ ?_
    · refine congrArg w (Fin.ext ?_)
      show _ % 8 = _; rw [e1]; omega
    · refine congrArg (fun s : Fin 8 => (ix4 (0 : Fin 1) s p l : S1x8x2x128.Idx)) (Fin.ext ?_)
      show _ / 8 = _; rw [e1]; omega
  · intro q hq x
    obtain ⟨b', rfl⟩ := (mem_stagePieces k w q).mp hq
    have h1 := hrect b' x
    have hx0 : (x 0).val < 1 := (x 0).isLt
    have hx1 : (x 1).val < 8 := (x 1).isLt
    have hb' := b'.isLt
    have e2 : (((stageRect k b' (stageOff_inb k b') spos_1_8_1_1).emb x) 2).val = (x 2).val := by
      show stageOff b' k 2 + 1 * (x 2).val = _
      rw [stageOff_eq, Nat.one_mul]; exact Nat.zero_add _
    have e3 : (((stageRect k b' (stageOff_inb k b') spos_1_8_1_1).emb x) 3).val = (x 3).val := by
      show stageOff b' k 3 + 1 * (x 3).val = _
      rw [stageOff_eq, Nat.one_mul]; exact Nat.zero_add _
    show w b' x = G ((stageRect k b' (stageOff_inb k b') spos_1_8_1_1).emb x)
    rw [hG]
    dsimp only
    congr 1
    · congr 1
      apply Fin.ext; show _ = _ % 8; rw [h1]; omega
    · funext a
      apply Fin.ext
      fin_cases a
      · show (x 0).val = 0; omega
      · show (x 1).val = _ / 8; rw [h1]; omega
      · exact e2.symm
      · exact e3.symm
  · refine ⟨stagePiece k w b, (mem_stagePieces k w _).mpr ⟨b, rfl⟩, ?_⟩
    rw [LoadRect.mem_set]
    intro a
    show ∃ i < S1x8x2x128.size a, backOff j k a + 1 * (ix4 (0 : Fin 1) b p l a).val = stageOff b k a + (![1, 8, 1, 1] : Fin 4 → Nat) a * i
    rw [backOff_eq, stageOff_eq]
    fin_cases a
    · exact ⟨0, by decide, by rfl⟩
    · exact ⟨j.val, hj, by show 8 * j.val + 1 * b.val = b.val + 8 * j.val; omega⟩
    · exact ⟨p.val, p.isLt, by show 0 + 1 * p.val = 0 + 1 * p.val; rfl⟩
    · exact ⟨l.val, l.isLt, by show 0 + 1 * l.val = 0 + 1 * l.val; rfl⟩

/-- The loads of block `b` of tile `k`. -/
def tileLoads (X : scM0_0.view.ty.Contents (Elt Ideal)) (t : Fin grid0.N) (k : Fin k0_t1_loop.trips)
    (inb : ∀ b q a, loadOff b q (grid0.coords t) k a + S1x16x128.size a ≤ S3x512x1536.size a) (b : Fin 8) (q : Fin 4) : Vec Ideal S1x16x128 .bf16 :=
  View.readAt (Elt Ideal) scM0_0.view (Rect.unit (s := S3x512x1536) (loadOff b q (grid0.coords t) k) S1x16x128.size (inb b q)).toLoadRect X

/-- THE MAXIMA OF A TRIP: place (b, l) of what it stores is the largest absolute value of the block's 64 rows there. -/
theorem trip_max (X : scM0_0.view.ty.Contents (Elt Ideal)) (t : Fin grid0.N) (k : Fin k0_t1_loop.trips) (hk : k.val < 12)
    (inb : ∀ b q a, loadOff b q (grid0.coords t) k a + S1x16x128.size a ≤ S3x512x1536.size a)
    (inb' : ∀ j a, backOff j k a + S1x8x2x128.size a ≤ S12x64x2x128.size a) (f : Fin 8 → scM0_1.view.ty.Contents (Elt Ideal)) (b : Fin 8) (l : Fin 128) :
    (blockMax (fun j => View.readAt (Elt Ideal) scM0_1.view (Rect.unit (s := S12x64x2x128) (backOff j k) S1x8x2x128.size (inb' j)).toLoadRect
      (scM0_1.view.writes (Elt Ideal) (f j) (stagePieces k (fun b => blockRows (tileLoads X t k inb b))))) (ix2 b l) : EReal)
      = bmax X t b ⟨128 * k.val + l.val, by omega⟩ := by
  have key : ∀ (q : Fin 4) (j : Fin 8) (p : Fin 2) (n : ℕ) (hn : n < 64), n = 16 * q.val + 2 * j.val + p.val →
      eabs (tileLoads X t k inb b q (ix3 (0 : Fin 1) (⟨2 * j.val + p.val, by omega⟩ : Fin 16) l)) =
        eabs (xat X t ⟨64 * b.val + n, by omega⟩ ⟨128 * k.val + l.val, by omega⟩) := by
    intro q j p n hn h
    subst h
    refine congrArg eabs ((load_apply X t k b q (inb b q) hk _ l).trans ?_)
    refine congrArg (fun r => xat X t r _) (Fin.ext ?_)
    show 64 * b.val + 16 * q.val + (2 * j.val + p.val) = 64 * b.val + (16 * q.val + 2 * j.val + p.val)
    omega
  rw [blockMax_apply]
  unfold bmax
  rw [← sup64]
  refine congrArg₂ max (congrArg max8 (funext fun j => ?_)) (congrArg max8 (funext fun j => ?_))
  · rw [back_apply, blockRows_apply]
    refine congrArg₂ max (congrArg₂ max (congrArg₂ max ?_ ?_) ?_) ?_
    · exact key 0 j 0 (2 * j.val) (by omega) (by show _ = 16 * 0 + 2 * j.val + 0; omega)
    · exact key 1 j 0 (16 + 2 * j.val) (by omega) (by show _ = 16 * 1 + 2 * j.val + 0; omega)
    · exact key 2 j 0 (32 + 2 * j.val) (by omega) (by show _ = 16 * 2 + 2 * j.val + 0; omega)
    · exact key 3 j 0 (48 + 2 * j.val) (by omega) (by show _ = 16 * 3 + 2 * j.val + 0; omega)
  · rw [back_apply, blockRows_apply]
    refine congrArg₂ max (congrArg₂ max (congrArg₂ max ?_ ?_) ?_) ?_
    · exact key 0 j 1 (2 * j.val + 1) (by omega) (by show _ = 16 * 0 + 2 * j.val + 1; omega)
    · exact key 1 j 1 (16 + 2 * j.val + 1) (by omega) (by show _ = 16 * 1 + 2 * j.val + 1; omega)
    · exact key 2 j 1 (32 + 2 * j.val + 1) (by omega) (by show _ = 16 * 2 + 2 * j.val + 1; omega)
    · exact key 3 j 1 (48 + 2 * j.val + 1) (by omega) (by show _ = 16 * 3 + 2 * j.val + 1; omega)

end Cert.KernelIdeal.Hand

end
-- ==== Proof.VSpec.lean ====
/- What the kernel's buffers hold, in terms of the weights: the largest absolute value of each block of 64 rows in each column,
   its inverse and its scale, each as far as the trips have come. -/
module

public import proofs.«01_k».proof.Proof.IT1

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window BodyObligation cellOf)

/-- The weights as they stand in memory on a core. -/
class Src (c : Dev nD) where
  W : HbBuf0 (F := Ideal) c hbM0_0

variable {c : Dev nD}

/-- The weight in a row and a column. -/
def wel (W : HbBuf0 (F := Ideal) c hbM0_0) (row col : ℕ) : EReal :=
  if h : row < 2048 ∧ col < 12288 then hbM0_0.view.read (Elt Ideal) W (ix3 (0 : Fin 1) (⟨row, h.1⟩ : Fin 2048) (⟨col, h.2⟩ : Fin 12288)) else 0

/-- The largest absolute value of block `blk` of 64 rows in a column. -/
def AM (W : HbBuf0 (F := Ideal) c hbM0_0) (blk col : ℕ) : EReal := Finset.univ.sup fun r : Fin 64 => eabs (wel W (64 * blk + r.val) col)

/-- The slot in use at point `t` holds that point's block of the weights. -/
def XIs (W : HbBuf0 (F := Ideal) c hbM0_0) (t : Fin grid0.N) (X : scM0_0.view.ty.Contents (Elt Ideal)) : Prop :=
  ∀ (r : Fin 512) (col : Fin 1536), xat X t r col = wel W (512 * (t.val / 8) + r.val) (1536 * (t.val % 8) + col.val)

theorem bmax_eq {W : HbBuf0 (F := Ideal) c hbM0_0} {t : Fin grid0.N} {X : scM0_0.view.ty.Contents (Elt Ideal)} (h : XIs W t X) (b : Fin 8) (col : Fin 1536) :
    bmax X t b col = AM W (8 * (t.val / 8) + b.val) (1536 * (t.val % 8) + col.val) := by
  unfold bmax AM
  refine congrArg _ (funext fun r => ?_)
  rw [h]
  refine congrArg (fun n => eabs (wel W n _)) ?_
  show 512 * (t.val / 8) + (64 * b.val + r.val) = 64 * (8 * (t.val / 8) + b.val) + r.val
  omega

/-- The inverse the kernel takes of a block's maximum: one over it, or over one where it is zero. -/
def einv (a : EReal) : EReal :=
  divf (F := Ideal) (φ := .f32) (broadcast S8x128 (FloatOps.ofBits .f32 1065353216#32)) (select (cmpf (F := Ideal) (φ := .f32) .oeq (fun _ => a : FVec Ideal S8x128 .f32) (broadcast S8x128 (FloatOps.ofBits .f32 0#32)))
    (broadcast S8x128 (FloatOps.ofBits .f32 1065353216#32)) (fun _ => a : FVec Ideal S8x128 .f32)) (ix2 (0 : Fin 8) (0 : Fin 128))

/-- The scale the kernel takes: the inverse times a constant. -/
def esc (a : EReal) : EReal := einv a * (FloatOps.ofBits (F := Ideal) .f32 1068121457#32 : EReal)

/-- The columns before `128 * k` of a point's block of maxima hold them. -/
def F3 (W : HbBuf0 (F := Ideal) c hbM0_0) (t : Fin grid0.N) (k : ℕ) (g : S1x8x1536.Idx → EReal) : Prop :=
  ∀ (b : Fin 8) (col : Fin 1536), col.val < 128 * k → g (ix3 (0 : Fin 1) b col) = AM W (8 * (t.val / 8) + b.val) (1536 * (t.val % 8) + col.val)

/-- The same of the inverses. -/
def F11 (W : HbBuf0 (F := Ideal) c hbM0_0) (t : Fin grid0.N) (k : ℕ) (g : S8x1536.Idx → EReal) : Prop :=
  ∀ (b : Fin 8) (col : Fin 1536), col.val < 128 * k → g (ix2 b col) = einv (AM W (8 * (t.val / 8) + b.val) (1536 * (t.val % 8) + col.val))

/-- The same of the scales. -/
def F12 (W : HbBuf0 (F := Ideal) c hbM0_0) (t : Fin grid0.N) (k : ℕ) (g : S8x2x1536.Idx → EReal) : Prop :=
  ∀ (b : Fin 8) (p : Fin 2) (col : Fin 1536), col.val < 128 * k → g (ix3 b p col) = esc (AM W (8 * (t.val / 8) + b.val) (1536 * (t.val % 8) + col.val))

/-- The maxima of the points before `t`, and of the first `128 * k` columns of its own, are kept. -/
def F10 (W : HbBuf0 (F := Ideal) c hbM0_0) (t : ℕ) (k : ℕ) (g : S32x12288.Idx → EReal) : Prop :=
  ∀ (row : Fin 32) (col : Fin 12288), (8 * (row.val / 8) + col.val / 1536 < t ∨ (8 * (row.val / 8) + col.val / 1536 = t ∧ col.val % 1536 < 128 * k)) →
    g (ix2 row col) = AM W row.val col.val

@[simp] theorem F3_zero (W : HbBuf0 (F := Ideal) c hbM0_0) (t : Fin grid0.N) (g : S1x8x1536.Idx → EReal) : F3 W t 0 g := fun _ _ h => absurd h (by omega)
@[simp] theorem F11_zero (W : HbBuf0 (F := Ideal) c hbM0_0) (t : Fin grid0.N) (g : S8x1536.Idx → EReal) : F11 W t 0 g := fun _ _ h => absurd h (by omega)
@[simp] theorem F12_zero (W : HbBuf0 (F := Ideal) c hbM0_0) (t : Fin grid0.N) (g : S8x2x1536.Idx → EReal) : F12 W t 0 g := fun _ _ _ h => absurd h (by omega)
theorem F10_first (W : HbBuf0 (F := Ideal) c hbM0_0) (g : S32x12288.Idx → EReal) : F10 W 0 0 g := fun _ _ h => absurd h (by omega)
theorem F10_next (W : HbBuf0 (F := Ideal) c hbM0_0) (t : ℕ) (g : S32x12288.Idx → EReal) (h : F10 W t 12 g) : F10 W (t + 1) 0 g := by
  intro row col hc
  exact h row col (by have := Nat.mod_lt col.val (show 0 < 1536 by decide); omega)

variable {W : HbBuf0 (F := Ideal) c hbM0_0} {t : Fin grid0.N} {k : Fin k0_t1_loop.trips}

theorem F3_step {M : Memref sig .tc .vmem S1x8x1536 .f32} {f : M.view.ty.Contents (Elt Ideal)} {w : S1x8x128.Idx → Elt Ideal .f32}
    {inb : ∀ a, k0_off55 k a + S1x8x128.size a ≤ S1x8x1536.size a} (h : F3 W t k.val (M.view.read (Elt Ideal) f)) (hk : k.val < 12)
    (hw : ∀ (b : Fin 8) (l : Fin 128), (w (ix3 (0 : Fin 1) b l) : EReal) = AM W (8 * (t.val / 8) + b.val) (1536 * (t.val % 8) + (128 * k.val + l.val))) :
    F3 W t (k.val + 1) (M.view.read (Elt Ideal) (M.view.writes (Elt Ideal) f [⟨Rect.unit (s := S1x8x1536) (k0_off55 k) S1x8x128.size inb, w⟩])) := by
  intro b col hc
  by_cases hl : col.val < 128 * k.val
  · rw [View.read_writes_cons_miss_of_axis M.view f _ _ _ (2 : Fin 3) (128 * k.val) 128 (congrFun (off55_eq k) 2) rfl rfl (Or.inl hl)]
    exact h b col hl
  · rw [View.read_writes_cons_hit_of_coords M.view f _ _ _ (ix3 (0 : Fin 1) b (⟨col.val - 128 * k.val, by omega⟩ : Fin 128))]
    · rw [hw]
      refine congrArg (AM W _) ?_
      show 1536 * (t.val % 8) + (128 * k.val + (col.val - 128 * k.val)) = _
      omega
    · intro a
      show (ix3 (0 : Fin 1) b col a).val = k0_off55 k a + 1 * (ix3 (0 : Fin 1) b (⟨col.val - 128 * k.val, by omega⟩ : Fin 128) a).val
      rw [off55_eq]
      fin_cases a
      · rfl
      · show b.val = 0 + 1 * b.val; omega
      · show col.val = 128 * k.val + 1 * (col.val - 128 * k.val); omega

theorem F11_step {f : scM0_3.view.ty.Contents (Elt Ideal)} {w : S8x128.Idx → Elt Ideal .f32}
    {inb : ∀ a, k0_off57 k a + S8x128.size a ≤ S8x1536.size a} (h : F11 W t k.val (scM0_3.view.read (Elt Ideal) f)) (hk : k.val < 12)
    (hw : ∀ (b : Fin 8) (l : Fin 128), (w (ix2 b l) : EReal) = einv (AM W (8 * (t.val / 8) + b.val) (1536 * (t.val % 8) + (128 * k.val + l.val)))) :
    F11 W t (k.val + 1) (scM0_3.view.read (Elt Ideal) (scM0_3.view.writes (Elt Ideal) f [⟨Rect.unit (s := S8x1536) (k0_off57 k) S8x128.size inb, w⟩])) := by
  intro b col hc
  by_cases hl : col.val < 128 * k.val
  · rw [View.read_writes_cons_miss_of_axis scM0_3.view f _ _ _ (1 : Fin 2) (128 * k.val) 128 (congrFun (off57_eq k) 1) rfl rfl (Or.inl hl)]
    exact h b col hl
  · rw [View.read_writes_cons_hit_of_coords scM0_3.view f _ _ _ (ix2 b (⟨col.val - 128 * k.val, by omega⟩ : Fin 128))]
    · rw [hw]
      refine congrArg einv (congrArg (AM W _) ?_)
      show 1536 * (t.val % 8) + (128 * k.val + (col.val - 128 * k.val)) = _
      omega
    · intro a
      show (ix2 b col a).val = k0_off57 k a + 1 * (ix2 b (⟨col.val - 128 * k.val, by omega⟩ : Fin 128) a).val
      rw [off57_eq]
      fin_cases a
      · show b.val = 0 + 1 * b.val; omega
      · show col.val = 128 * k.val + 1 * (col.val - 128 * k.val); omega

theorem F12_step {f : scM0_4.view.ty.Contents (Elt Ideal)} {w : S8x2x128.Idx → Elt Ideal .bf16}
    {inb : ∀ a, k0_off58 k a + S8x2x128.size a ≤ S8x2x1536.size a} (h : F12 W t k.val (scM0_4.view.read (Elt Ideal) f)) (hk : k.val < 12)
    (hw : ∀ (b : Fin 8) (p : Fin 2) (l : Fin 128), (w (ix3 b p l) : EReal) = esc (AM W (8 * (t.val / 8) + b.val) (1536 * (t.val % 8) + (128 * k.val + l.val)))) :
    F12 W t (k.val + 1) (scM0_4.view.read (Elt Ideal) (scM0_4.view.writes (Elt Ideal) f [⟨Rect.unit (s := S8x2x1536) (k0_off58 k) S8x2x128.size inb, w⟩])) := by
  intro b p col hc
  by_cases hl : col.val < 128 * k.val
  · rw [View.read_writes_cons_miss_of_axis scM0_4.view f _ _ _ (2 : Fin 3) (128 * k.val) 128 (congrFun (off58_eq k) 2) rfl rfl (Or.inl hl)]
    exact h b p col hl
  · rw [View.read_writes_cons_hit_of_coords scM0_4.view f _ _ _ (ix3 b p (⟨col.val - 128 * k.val, by omega⟩ : Fin 128))]
    · rw [hw]
      refine congrArg esc (congrArg (AM W _) ?_)
      show 1536 * (t.val % 8) + (128 * k.val + (col.val - 128 * k.val)) = _
      omega
    · intro a
      show (ix3 b p col a).val = k0_off58 k a + 1 * (ix3 b p (⟨col.val - 128 * k.val, by omega⟩ : Fin 128) a).val
      rw [off58_eq]
      fin_cases a
      · show b.val = 0 + 1 * b.val; omega
      · show p.val = 0 + 1 * p.val; omega
      · show col.val = 128 * k.val + 1 * (col.val - 128 * k.val); omega

theorem F10_step {f : scM0_2.view.ty.Contents (Elt Ideal)} {w : S8x128.Idx → Elt Ideal .f32}
    {inb : ∀ a, k0_off56 (grid0.coords t) k a + S8x128.size a ≤ S32x12288.size a} (h : F10 W t.val k.val (scM0_2.view.read (Elt Ideal) f)) (hk : k.val < 12)
    (hw : ∀ (b : Fin 8) (l : Fin 128), (w (ix2 b l) : EReal) = AM W (8 * (t.val / 8) + b.val) (1536 * (t.val % 8) + (128 * k.val + l.val))) :
    F10 W t.val (k.val + 1) (scM0_2.view.read (Elt Ideal) (scM0_2.view.writes (Elt Ideal) f [⟨Rect.unit (s := S32x12288) (k0_off56 (grid0.coords t) k) S8x128.size inb, w⟩])) := by
  intro row col hc
  have hm := Nat.mod_lt col.val (show 0 < 1536 by decide)
  have hd := Nat.div_add_mod col.val 1536
  have hrd := Nat.div_add_mod row.val 8
  have hrm := Nat.mod_lt row.val (show 0 < 8 by decide)
  have hcol := col.isLt
  have htd := Nat.div_add_mod t.val 8
  have htm := Nat.mod_lt t.val (show 0 < 8 by decide)
  by_cases hl : 8 * (row.val / 8) + col.val / 1536 = t.val ∧ 128 * k.val ≤ col.val % 1536
  · rw [View.read_writes_cons_hit_of_coords scM0_2.view f _ _ _ (ix2 (⟨row.val % 8, hrm⟩ : Fin 8) (⟨col.val % 1536 - 128 * k.val, by omega⟩ : Fin 128))]
    · rw [hw]
      refine congrArg₂ (AM W) ?_ ?_
      · show 8 * (t.val / 8) + row.val % 8 = row.val; omega
      · show 1536 * (t.val % 8) + (128 * k.val + (col.val % 1536 - 128 * k.val)) = col.val; omega
    · intro a
      show (ix2 row col a).val = k0_off56 (grid0.coords t) k a + 1 * (ix2 (⟨row.val % 8, hrm⟩ : Fin 8) (⟨col.val % 1536 - 128 * k.val, by omega⟩ : Fin 128) a).val
      rw [off56_eq]
      fin_cases a
      · show row.val = 8 * (t.val / 8) + 1 * (row.val % 8); omega
      · show col.val = 1536 * (t.val % 8) + 128 * k.val + 1 * (col.val % 1536 - 128 * k.val); omega
  · rw [View.read_writes_cons_miss scM0_2.view f]
    · exact h row col (by omega)
    · intro hmem
      have h0 := (LoadRect.mem_set _).mp hmem 0
      have h1 := (LoadRect.mem_set _).mp hmem 1
      obtain ⟨j0, hj0, e0⟩ := h0
      obtain ⟨j1, hj1, e1⟩ := h1
      change j0 < 8 at hj0
      change j1 < 128 at hj1
      change row.val = k0_off56 (grid0.coords t) k 0 + 1 * j0 at e0
      change col.val = k0_off56 (grid0.coords t) k 1 + 1 * j1 at e1
      rw [off56_eq] at e0 e1
      change row.val = 8 * (t.val / 8) + 1 * j0 at e0
      change col.val = 1536 * (t.val % 8) + 128 * k.val + 1 * j1 at e1
      apply hl
      omega

theorem loadOff_inb (t : Fin grid0.N) (k : Fin k0_t1_loop.trips) : ∀ b q a, loadOff b q (grid0.coords t) k a + S1x16x128.size a ≤ S3x512x1536.size a := by
  intro b q a
  have hk : k.val < 12 := Nat.lt_of_lt_of_le k.isLt k0_t1_abs.2.1
  have hb := b.isLt
  have hq := q.isLt
  have h3 := Nat.mod_lt (grid0.coords t 0).val (show 0 < 3 by decide)
  rw [loadOff_eq]
  fin_cases a
  · show (grid0.coords t 0).val % 3 + 1 ≤ 3; omega
  · show 64 * b.val + 16 * q.val + 16 ≤ 512; omega
  · show 128 * k.val + 128 ≤ 1536; omega

theorem backOff_inb (k : Fin k0_t1_loop.trips) : ∀ j a, backOff j k a + S1x8x2x128.size a ≤ S12x64x2x128.size a := by
  intro j a
  have hk : k.val < 12 := Nat.lt_of_lt_of_le k.isLt k0_t1_abs.2.1
  have hj := j.isLt
  rw [backOff_eq]
  fin_cases a
  · show k.val + 1 ≤ 12; omega
  · show 8 * j.val + 8 ≤ 64; omega
  · show 0 + 2 ≤ 2; omega
  · show 0 + 128 ≤ 128; omega

/-- The maxima a trip takes, in terms of the weights. -/
theorem trip_AM {X : scM0_0.view.ty.Contents (Elt Ideal)} (hX : XIs W t X) (hk : k.val < 12) (f : Fin 8 → scM0_1.view.ty.Contents (Elt Ideal)) (b : Fin 8) (l : Fin 128) :
    (blockMax (fun j => View.readAt (Elt Ideal) scM0_1.view (Rect.unit (s := S12x64x2x128) (backOff j k) S1x8x2x128.size (backOff_inb k j)).toLoadRect
      (scM0_1.view.writes (Elt Ideal) (f j) (stagePieces k (fun b => blockRows (tileLoads X t k (loadOff_inb t k) b))))) (ix2 b l) : EReal)
      = AM W (8 * (t.val / 8) + b.val) (1536 * (t.val % 8) + (128 * k.val + l.val)) :=
  (trip_max X t k hk _ _ f b l).trans (bmax_eq hX b _)

theorem addUnit8 (v : S8x128.Idx → EReal) (h) (b : Fin 8) (l : Fin 128) : shapeCast S1x8x128 v h (ix3 (0 : Fin 1) b l) = v (ix2 b l) := by pointwise

theorem same8 (v : S8x128.Idx → EReal) (h) (b : Fin 8) (l : Fin 128) : shapeCast S8x128 v h (ix2 b l) = v (ix2 b l) := by pointwise

theorem both_apply (v : FVec Ideal S8x128 .bf16) (b : Fin 8) (p : Fin 2) (l : Fin 128) : k0_pay521 v v (ix3 b p l) = v (ix2 b l) := by
  unfold k0_pay521
  pointwise
  exact ite_self _

attribute [irreducible] XIs F3 F10 F11 F12

end Cert.KernelIdeal.Hand

end
-- ==== Proof.VSum.lean ====
/- The sum of all the maxima, and their mean. -/
module

public import proofs.«01_k».proof.Proof.VSpec

@[expose] public section

set_option maxRecDepth 16384

noncomputable section

namespace Cert.KernelIdeal.Hand

open Cert.KernelIdeal.Gen
open Idealize.ShloMosaic Idealize.ShloMosaic.TcCoe Idealize.ShloMosaic.Tactic

variable {c : Dev nD}

/-- The offsets of the loads of the loop that sums the maxima, by group of eight rows. -/
def sumOff : Fin 4 → Fin k0_t3_loop.trips → Fin 2 → Nat := ![k0_off115, k0_off116, k0_off117, k0_off118]

theorem sumOff_eq : ∀ (q : Fin 4) (k : Fin k0_t3_loop.trips), sumOff q k = ![8 * q.val, 128 * k.val] := by decide +kernel

theorem sumOff_inb (k : Fin k0_t3_loop.trips) : ∀ q a, sumOff q k a + S8x128.size a ≤ S32x12288.size a := by
  intro q a
  have hk : k.val < 96 := Nat.lt_of_lt_of_le k.isLt k0_t3_abs.2.1
  rw [sumOff_eq]
  fin_cases a
  · show 8 * q.val + 8 ≤ 32; omega
  · show 128 * k.val + 128 ≤ 12288; omega

/-- The sum of all the maxima. -/
def sumAM (W : HbBuf0 (F := Ideal) c hbM0_0) : EReal := ∑ r : Fin 32, ∑ col : Fin 12288, AM W r.val col.val

/-- Their mean. -/
def meanAM (W : HbBuf0 (F := Ideal) c hbM0_0) : EReal := sumAM W * ((1 / 393216 : ℝ) : EReal)

/-- After the last point the copy holds all the maxima. -/
theorem F10_all {W : HbBuf0 (F := Ideal) c hbM0_0} {t : ℕ} (ht : t = 31) {g : S32x12288.Idx → EReal} (h : F10 W t 12 g) (row : Fin 32) (col : Fin 12288) :
    g (ix2 row col) = AM W row.val col.val := by
  unfold F10 at h
  exact h row col (by omega)

/-- The four loads of a trip of the sum add up the maxima of four groups of eight rows. -/
def quad (W : HbBuf0 (F := Ideal) c hbM0_0) (a : Fin 8) (l : Fin 128) (j : ℕ) : EReal := ∑ q : Fin 4, AM W (8 * q.val + a.val) (128 * j + l.val)

/-- The running sums before trip `k`. -/
def AccIs (W : HbBuf0 (F := Ideal) c hbM0_0) (k : ℕ) (acc : S8x128.Idx → EReal) : Prop :=
  ∀ (a : Fin 8) (l : Fin 128), acc (ix2 a l) = ∑ j ∈ Finset.range k, quad W a l j

theorem AccIs_zero (W : HbBuf0 (F := Ideal) c hbM0_0) : AccIs W 0 (k0_pay386 (F := Ideal)) := fun a l => by
  rw [Finset.range_zero, Finset.sum_empty]
  show Ideal.ofBits .f32 0x00000000#32 = 0
  exact Ideal.ofBits_zero_f32

/-- One load of the sum. -/
theorem sumLoad {W : HbBuf0 (F := Ideal) c hbM0_0} {t : ℕ} (ht : t = 31) {f : scM0_2.view.ty.Contents (Elt Ideal)} (h : F10 W t 12 (scM0_2.view.read (Elt Ideal) f))
    (q : Fin 4) (k : Fin k0_t3_loop.trips) (hk : k.val < 96) (inb : ∀ a, sumOff q k a + S8x128.size a ≤ S32x12288.size a) (a : Fin 8) (l : Fin 128) :
    (View.readAt (Elt Ideal) scM0_2.view (Rect.unit (s := S32x12288) (sumOff q k) S8x128.size inb).toLoadRect f (ix2 a l) : EReal)
      = AM W (8 * q.val + a.val) (128 * k.val + l.val) := by
  rw [View.readAt_apply]
  refine Eq.trans ?_ (F10_all ht h (⟨8 * q.val + a.val, by omega⟩ : Fin 32) (⟨128 * k.val + l.val, by omega⟩ : Fin 12288))
  congr 1
  have e := sumOff_eq q k
  refine Rect.emb_eq_of_coords (Rect.unit (s := S32x12288) (sumOff q k) S8x128.size inb) _ _ ?_
  intro x
  fin_cases x
  · show 8 * q.val + a.val = sumOff q k 0 + 1 * a.val
    rw [e, Nat.one_mul]; rfl
  · show 128 * k.val + l.val = sumOff q k 1 + 1 * l.val
    rw [e, Nat.one_mul]; rfl

theorem AccIs_step {W : HbBuf0 (F := Ideal) c hbM0_0} {t : ℕ} (ht : t = 31) {f : scM0_2.view.ty.Contents (Elt Ideal)} (h : F10 W t 12 (scM0_2.view.read (Elt Ideal) f))
    {k : Fin k0_t3_loop.trips} (hk : k.val < 96) {acc : FVec Ideal S8x128 .f32} (ha : AccIs W k.val acc)
    (inb : ∀ q a, sumOff q k a + S8x128.size a ≤ S32x12288.size a) :
    AccIs W (k.val + 1) (k0_pay387 acc
      (View.readAt (Elt Ideal) scM0_2.view (Rect.unit (s := S32x12288) (sumOff 0 k) S8x128.size (inb 0)).toLoadRect f)
      (View.readAt (Elt Ideal) scM0_2.view (Rect.unit (s := S32x12288) (sumOff 1 k) S8x128.size (inb 1)).toLoadRect f)
      (View.readAt (Elt Ideal) scM0_2.view (Rect.unit (s := S32x12288) (sumOff 2 k) S8x128.size (inb 2)).toLoadRect f)
      (View.readAt (Elt Ideal) scM0_2.view (Rect.unit (s := S32x12288) (sumOff 3 k) S8x128.size (inb 3)).toLoadRect f)) := fun a l => by
  have h0 := sumLoad ht h 0 k hk (inb 0) a l
  have h1 := sumLoad ht h 1 k hk (inb 1) a l
  have h2 := sumLoad ht h 2 k hk (inb 2) a l
  have h3 := sumLoad ht h 3 k hk (inb 3) a l
  rw [Finset.sum_range_succ, ← ha a l, quad, Fin.sum_univ_four, ← h0, ← h1, ← h2, ← h3, ← add_assoc, ← add_assoc, ← add_assoc]
  rfl

/-- A sum over a product, by remainder and quotient. -/
theorem sum_split (m n N : ℕ) (h : N = m * n) (f : ℕ → EReal) : ∑ r : Fin N, f r.val = ∑ a : Fin n, ∑ q : Fin m, f (n * q.val + a.val) := by
  subst h
  rw [← (finProdFinEquiv (m := m) (n := n)).sum_comp (fun r : Fin (m * n) => f r.val), Fintype.sum_prod_type_right]
  exact Finset.sum_congr rfl fun a _ => Finset.sum_congr rfl fun q _ => congrArg f (Nat.add_comm _ _)

/-- Summing by groups of rows and tiles of columns sums everything. -/
theorem sum_tiles (g : ℕ → ℕ → EReal) :
    ∑ a : Fin 8, ∑ l : Fin 128, ∑ j ∈ Finset.range 96, ∑ q : Fin 4, g (8 * q.val + a.val) (128 * j + l.val) = ∑ r : Fin 32, ∑ col : Fin 12288, g r.val col.val := by
  refine Eq.trans ?_ (sum_split 4 8 32 rfl fun r => ∑ col : Fin 12288, g r col.val).symm
  refine Finset.sum_congr rfl fun a _ => ?_
  refine Eq.trans ?_ (Finset.sum_congr rfl fun (q : Fin 4) _ => (sum_split 96 128 12288 (by norm_num) (g (8 * q.val + a.val))).symm)
  refine Eq.trans ?_ Finset.sum_comm
  refine Finset.sum_congr rfl fun l _ => ?_
  refine Eq.trans ?_ Finset.sum_comm
  exact Finset.sum_range fun j => ∑ q : Fin 4, g (8 * q.val + a.val) (128 * j + l.val)

theorem addUnit8' (v : S8x128.Idx → EReal) (h) (b : Fin 8) (l : Fin 128) : shapeCast S1x8x128 v h (ix3 (0 : Fin 1) b l) = v (ix2 b l) := by pointwise

/-- What the kernel makes of the running sums after the last trip is the mean. -/
theorem mean_of_AccIs {W : HbBuf0 (F := Ideal) c hbM0_0} {acc : FVec Ideal S8x128 .f32} (ha : AccIs W 96 acc) : (k0_pay388 acc : EReal) = meanAM W := by
  unfold meanAM
  have e : ∀ j, (multiReduction (F := Ideal) .add [1, 2] S1 (shapeCast S1x8x128 acc shapeCasts_S8x128_S1x8x128 : FVec Ideal S1x8x128 .f32) 0x00000000#32 reduces_S1x8x128_S1 (.inl rfl) rfl j : EReal) = sumAM W := fun j => by
    refine (Ideal.multiReduction_add_total _ _ reduces_S1x8x128_S1 (fun b => by fin_cases b; rfl) (.inl rfl) rfl _).trans ?_
    refine (sum_idx3 (n0 := 1) (n1 := 8) (n2 := 128) _).trans ?_
    rw [Fin.sum_univ_one]
    refine Eq.trans (Finset.sum_congr rfl fun a _ => Finset.sum_congr rfl fun l _ => (addUnit8' acc _ a l).trans (ha a l)) (sum_tiles (AM W))
  have hn : (Named.named (F := Ideal) (φ := .f32) κ "inv_n" 0x362AAAAB#32 : EReal) = ((1 / 393216 : ℝ) : EReal) := by
    simp [Named.named, κ]
  exact congrArg₂ (fun x y : EReal => x * y) (e _) hn

/-- The window of the mean holds it. -/
def OffIs (W : HbBuf0 (F := Ideal) c hbM0_0) (g : S1x1.Idx → EReal) : Prop := ∀ i, g i = meanAM W

theorem OffIs_store {W : HbBuf0 (F := Ideal) c hbM0_0} (M : Memref sig .tc .smem S1x1 .f32) {f : M.view.ty.Contents (Elt Ideal)} {w : S1x1.Idx → Elt Ideal .f32}
    {inb : ∀ a, (![0, 0] : Fin 2 → Nat) a + S1x1.size a ≤ S1x1.size a} (hw : ∀ i, (w i : EReal) = meanAM W) :
    OffIs W (M.view.read (Elt Ideal) (M.view.writes (Elt Ideal) f [⟨Rect.unit (s := S1x1) ![0, 0] S1x1.size inb, w⟩])) := fun i => by
  rw [View.read_writes_cons_hit_of_coords M.view f _ _ _ i]
  · exact hw i
  · intro a
    show (i a).val = (![0, 0] : Fin 2 → Nat) a + 1 * (i a).val
    fin_cases a <;> simp

attribute [irreducible] AccIs OffIs

end Cert.KernelIdeal.Hand

end
-- ==== Proof.VEnc.lean ====
/- One block of packed codes as the kernel computes it, element by element. -/
module

public import proofs.«01_k».proof.Proof.VSpec
public import Idealize.ShloMosaic.Lib.BitcastPair
public import Idealize.ShloMosaic.Lib.BitcastFour
public import Idealize.ShloMosaic.Lib.Pointwise

@[expose] public section

set_option maxRecDepth 16384

noncomputable section

namespace Cert.KernelIdeal.Hand

open Cert.KernelIdeal.Gen
open Idealize.ShloMosaic Idealize.ShloMosaic.TcCoe

/-- A word of two halves: the even row in the low half, the odd row in the high half. -/
theorem words16_apply (x : S16x128.Idx → BitVec 16) (h : S16x128.Bitcasts 16 S8x128 32) (s : Fin 8) (l : Fin 128) :
    bitcast S8x128 32 x h (ix2 s l) = x (ix2 (⟨2 * s.val + 1, by omega⟩ : Fin 16) l) ++ x (ix2 (⟨2 * s.val, by omega⟩ : Fin 16) l) := by
  rw [bitcast_16_32]
  have e : ∀ (p : ℕ) (hp : ∀ a : Fin S16x128.rank, a.val + 2 = S16x128.rank → p < S16x128.size a) (hb : p < 16),
      h.srcIdx (ix2 s l) p hp = ix2 (⟨p, hb⟩ : Fin 16) l := fun p hp hb => by
    funext c
    match c with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))
  exact congrArg₂ (· ++ ·) (congrArg x (e _ _ _)) (congrArg x (e _ _ _))

/-- A half of a word: the low one in the even row, the high one in the odd row. -/
theorem halves16_apply (x : S8x128.Idx → BitVec 32) (h : S8x128.Bitcasts 32 S16x128 16) (r : Fin 16) (l : Fin 128) :
    bitcast S16x128 16 x h (ix2 r l) = (x (ix2 (⟨r.val / 2, by omega⟩ : Fin 8) l)).extractLsb' (16 * (r.val % 2)) 16 := by
  rw [bitcast_32_16]
  refine congrArg (fun i => (x i).extractLsb' (16 * (r.val % 2)) 16) ?_
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-- Words read as bytes and the bytes as words again are the words. -/
theorem words8_round (x : S8x128.Idx → BitVec 32) (h : S8x128.Bitcasts 32 S32x128 8) (h' : S32x128.Bitcasts 8 S8x128 32) (s : Fin 8) (l : Fin 128) :
    bitcast S8x128 32 (bitcast S32x128 8 x h) h' (ix2 s l) = x (ix2 s l) := by
  apply BitVec.eq_of_getLsbD_eq
  intro i hi
  refine (bitcast_8_32_getLsbD_ix2 (bitcast S32x128 8 x h) h' s l i hi (⟨4 * s.val + i / 8, by omega⟩ : Fin 32) rfl).trans ?_
  rw [bitcast_getLsbD x h _ (i % 8) (Nat.mod_lt _ (by decide)) (by decide)]
  have ei : ∀ (p q : ℕ) (hp : ∀ a : Fin S8x128.rank, a.val + 2 = S8x128.rank → p < S8x128.size a) (ep : p = s.val) (eq : q = i),
      (x (h.srcIdx (ix2 (⟨4 * s.val + i / 8, by omega⟩ : Fin 32) l) p hp)).getLsbD q = (x (ix2 s l)).getLsbD i := fun p q hp ep eq => by
    subst eq
    refine congrArg (fun j => (x j).getLsbD q) ?_
    funext c
    match c with
    | ⟨0, _⟩ => exact Fin.ext ((h.srcIdx_row _ _ _ ⟨0, Nat.zero_lt_two⟩ rfl).trans ep)
    | ⟨1, _⟩ => exact Fin.ext (h.srcIdx_other _ _ _ ⟨1, Nat.one_lt_two⟩ (by show ¬ 1 + 2 = 2; omega))
  have hr : S32x128.row (ix2 (⟨4 * s.val + i / 8, by omega⟩ : Fin 32) l) = 4 * s.val + i / 8 := rfl
  refine ei _ _ _ ?_ ?_
  · show (S32x128.row (ix2 (⟨4 * s.val + i / 8, by omega⟩ : Fin 32) l) * 8 + i % 8) / 32 = s.val
    rw [hr]; omega
  · show (S32x128.row (ix2 (⟨4 * s.val + i / 8, by omega⟩ : Fin 32) l) * 8 + i % 8) % 32 = i
    rw [hr]; omega

variable {F : FTy → Type} [FloatOps F]

/-- Which of the eight cells a weight lies in, as the kernel counts it: the scaled weight clamped, added to a magic constant, in quarters. -/
def cell16 (w sc m : EReal) : BitVec 16 :=
  ((Ideal.fptosi 32 (Ideal.liftRound Ideal.roundHalfEven ((max (min (w * sc) (FloatOps.ofBits (F := Ideal) .bf16 0x3F88#16 : EReal)) (FloatOps.ofBits (F := Ideal) .bf16 0xBF50#16 : EReal) + m) * (FloatOps.ofBits (F := Ideal) .f32 0x40800000#32 : EReal)))).setWidth 16
    + 16768#16) - 16957#16

/-- The row of the tables that a weight in a row of this parity and place looks up. -/
def cellRow (v76 : BitVec 32) (w sc m : EReal) : Fin 8 := ⟨((cell16 w sc m).signExtend 32 + v76).toNat % 8, Nat.mod_lt _ (by decide)⟩

/-- The code a number rounds to, before its nibble is taken. -/
def code16 (r : EReal) : BitVec 16 := (Ideal.fptosi 32 (Ideal.liftRound Ideal.roundHalfEven (r * (FloatOps.ofBits (F := Ideal) .f32 0x40800000#32 : EReal)))).setWidth 16 + 16768#16

/-- Two codes' nibbles in one byte: the even row's above the odd row's. -/
def byteOf (lo hi : EReal) : BitVec 8 := ((code16 hi &&& 0x0F0F#16) ||| ((code16 lo &&& 0x0F0F#16) <<< 4)).setWidth 8

/-- A tile's rows taken apart by parity and put together again. -/
theorem together_apply (x : Vec Ideal S1x16x128 .bf16) (r : Fin 16) (l : Fin 128) :
    (interleaveRows S16x128 (k0_pay52 x) (k0_pay53 x) bitcasts_S16x128_w16_S8x128_w32 (ix2 r l) : EReal) = x (ix3 (0 : Fin 1) r l) := by
  unfold k0_pay52 k0_pay53
  pointwise
  split
  · exact congrArg (fun r : Fin 16 => x (ix3 (0 : Fin 1) r l)) (Fin.ext (by show 2 * (r.val / 2) = r.val; omega))
  · exact congrArg (fun r : Fin 16 => x (ix3 (0 : Fin 1) r l)) (Fin.ext (by show 2 * (r.val / 2) + 1 = r.val; omega))

/-- The kernel's count of the cells, at an element. -/
theorem cellVec_apply (y sc m : FVec Ideal S16x128 .bf16) (i : S16x128.Idx) :
    subi (addi (trunci 16 (fptosi (F := Ideal) (φ := .f32) 32 (roundeven (mulf (extf .f32 (addf (maximumf (minimumf (mulf y sc) (broadcast S16x128 (Scalar.ofBits (F := Ideal) .bf16 0x3F88#16))) (broadcast S16x128 (Scalar.ofBits (F := Ideal) .bf16 0xBF50#16))) m) bitsLt_bf16_f32)
      (broadcast S16x128 (Scalar.ofBits (F := Ideal) .f32 0x40800000#32))))) natLt_16_32) (broadcast S16x128 16768#16)) (broadcast S16x128 16957#16) i = cell16 (y i) (sc i) (m i) := rfl

/-- The cells of a tile's weights, in words of two rows. -/
theorem cells_apply (v83 : FVec Ideal S16x128 .bf16) (v157 : FVec Ideal S16x128 .bf16) (x : Vec Ideal S1x16x128 .bf16) (s : Fin 8) (l : Fin 128) :
    k0_pay54 v83 v157 x (ix2 s l)
      = cell16 (x (ix3 (0 : Fin 1) (⟨2 * s.val + 1, by omega⟩ : Fin 16) l)) (v157 (ix2 (⟨2 * s.val + 1, by omega⟩ : Fin 16) l)) (v83 (ix2 (⟨2 * s.val + 1, by omega⟩ : Fin 16) l))
        ++ cell16 (x (ix3 (0 : Fin 1) (⟨2 * s.val, by omega⟩ : Fin 16) l)) (v157 (ix2 (⟨2 * s.val, by omega⟩ : Fin 16) l)) (v83 (ix2 (⟨2 * s.val, by omega⟩ : Fin 16) l)) := by
  unfold k0_pay54
  refine (words16_apply _ _ s l).trans (congrArg₂ (· ++ ·) ?_ ?_)
  · rw [cellVec_apply, together_apply]
  · rw [cellVec_apply, together_apply]

theorem low_half (a b : BitVec 16) : BitVec.extractLsb' 0 16 (a ++ b) = b := by
  apply BitVec.eq_of_getLsbD_eq
  intro i hi
  simp only [BitVec.getLsbD_extractLsb', BitVec.getLsbD_append, Nat.zero_add, hi, decide_true, if_true, Bool.true_and]

theorem high_half (a b : BitVec 16) : BitVec.sshiftRight (a ++ b) 16 = a.signExtend 32 := by
  apply BitVec.eq_of_getLsbD_eq
  intro i hi
  simp only [BitVec.getLsbD_sshiftRight, BitVec.getLsbD_signExtend, BitVec.getLsbD_append, BitVec.msb_append]
  have h1 : ¬ (16 + 16 ≤ i) := by omega
  have h2 : ¬ (16 + i < 16) := by omega
  have h3 : 16 + i < 16 + 16 ↔ i < 16 := by omega
  have h4 : i < 16 + 16 := hi
  have h5 : 16 + i - 16 = i := by omega
  simp [h1, h2, h3, h4, h5]

/-- What the even rows' weights round to, before rounding. -/
theorem lo_apply (v76 : IVec S8x128 32) (v83 : FVec Ideal S16x128 .bf16) (v143 : FVec Ideal S8x128 .f32) (v157 : FVec Ideal S16x128 .bf16) (v158 : FVec Ideal S8x128 .f32) (x : Vec Ideal S1x16x128 .bf16)
    (s : Fin 8) (l : Fin 128) (w sc m : EReal) (hw : x (ix3 (0 : Fin 1) (⟨2 * s.val, by omega⟩ : Fin 16) l) = w) (hs : v157 (ix2 (⟨2 * s.val, by omega⟩ : Fin 16) l) = sc)
    (hm : v83 (ix2 (⟨2 * s.val, by omega⟩ : Fin 16) l) = m) :
    (k0_pay55 v76 v83 v143 v157 v158 x (ix2 s l) : EReal) = w * v158 (ix2 (cellRow (v76 (ix2 s l)) w sc m) l) + v143 (ix2 (cellRow (v76 (ix2 s l)) w sc m) l) := by
  have e : (BitVec.extractLsb' 0 16 (k0_pay54 v83 v157 x (ix2 s l))).signExtend 32 = (cell16 w sc m).signExtend 32 := by
    rw [cells_apply, low_half, hw, hs, hm]
  unfold k0_pay55
  have ex : (k0_pay52 x (ix2 s l) : EReal) = w := by
    unfold k0_pay52; pointwise; exact hw
  pointwise
  rw [ex]
  unfold cellRow
  simp only [e]
  rfl

/-- The same of the odd rows. -/
theorem hi_apply (v76 : IVec S8x128 32) (v83 : FVec Ideal S16x128 .bf16) (v143 : FVec Ideal S8x128 .f32) (v157 : FVec Ideal S16x128 .bf16) (v158 : FVec Ideal S8x128 .f32) (x : Vec Ideal S1x16x128 .bf16)
    (s : Fin 8) (l : Fin 128) (w sc m : EReal) (hw : x (ix3 (0 : Fin 1) (⟨2 * s.val + 1, by omega⟩ : Fin 16) l) = w) (hs : v157 (ix2 (⟨2 * s.val + 1, by omega⟩ : Fin 16) l) = sc)
    (hm : v83 (ix2 (⟨2 * s.val + 1, by omega⟩ : Fin 16) l) = m) :
    (k0_pay56 v76 v83 v143 v157 v158 x (ix2 s l) : EReal) = w * v158 (ix2 (cellRow (v76 (ix2 s l)) w sc m) l) + v143 (ix2 (cellRow (v76 (ix2 s l)) w sc m) l) := by
  unfold k0_pay56
  have ex : (k0_pay53 x (ix2 s l) : EReal) = w := by
    unfold k0_pay53; pointwise; exact hw
  have e : IntOp.shrsi ArithUnit.vector (k0_pay54 v83 v157 x (ix2 s l)) 16#32 = (cell16 w sc m).signExtend 32 := by
    rw [cells_apply, hw, hs, hm]
    exact high_half _ _
  pointwise
  rw [ex]
  unfold cellRow
  simp only [e]
  rfl

/-- The bytes' low halves: the nibbles of the codes of two stacks of rows, put together. -/
def nibs (lo hi : FVec Ideal S16x128 .f32) : IVec S16x128 16 :=
  have v260 : FVec Ideal S16x128 .bf16 := truncf .bf16 lo bitsLt_bf16_f32
  have v262 : FVec Ideal S16x128 .bf16 := truncf .bf16 hi bitsLt_bf16_f32
  have v263 : FVec Ideal S16x128 .f32 := extf .f32 v262 bitsLt_bf16_f32
  have v264 : FVec Ideal S16x128 .f32 := broadcast S16x128 (Scalar.ofBits (F := Ideal) .f32 0x40800000#32)
  have v265 : FVec Ideal S16x128 .f32 := mulf v263 v264
  have v266 : FVec Ideal S16x128 .f32 := roundeven v265
  have v267 : IVec S16x128 32 := fptosi 32 v266
  have v268 : IVec S16x128 16 := trunci 16 v267 natLt_16_32
  have v270 : IVec S16x128 16 := addi v268 (broadcast S16x128 16768#16)
  have v271 : IVec S8x128 32 := bitcast S8x128 32 v270 bitcasts_S16x128_w16_S8x128_w32
  have v272 : IVec S32x128 8 := bitcast S32x128 8 v271 bitcasts_S8x128_w32_S32x128_w8
  have v273 : FVec Ideal S16x128 .f32 := extf .f32 v260 bitsLt_bf16_f32
  have v275 : FVec Ideal S16x128 .f32 := mulf v273 v264
  have v276 : FVec Ideal S16x128 .f32 := roundeven v275
  have v277 : IVec S16x128 32 := fptosi 32 v276
  have v278 : IVec S16x128 16 := trunci 16 v277 natLt_16_32
  have v280 : IVec S16x128 16 := addi v278 (broadcast S16x128 16768#16)
  have v281 : IVec S8x128 32 := bitcast S8x128 32 v280 bitcasts_S16x128_w16_S8x128_w32
  have v282 : IVec S32x128 8 := bitcast S32x128 8 v281 bitcasts_S8x128_w32_S32x128_w8
  have v283 : IVec S8x128 32 := bitcast S8x128 32 v272 bitcasts_S32x128_w8_S8x128_w32
  have v285 : IVec S8x128 32 := andi v283 (broadcast S8x128 252645135#32)
  have v286 : IVec S8x128 32 := bitcast S8x128 32 v282 bitcasts_S32x128_w8_S8x128_w32
  have v288 : IVec S8x128 32 := andi v286 (broadcast S8x128 252645135#32)
  have v290 : IVec S8x128 32 := shli v288 (broadcast S8x128 4#32)
  have v291 : IVec S8x128 32 := ori v285 v290
  bitcast S16x128 16 v291 bitcasts_S8x128_w32_S16x128_w16

theorem nib_even (a b c d : BitVec 16) : (((a ++ b) &&& 252645135#32) ||| (((c ++ d) &&& 252645135#32) <<< 4)).extractLsb' 0 16 = (b &&& 0x0F0F#16) ||| ((d &&& 0x0F0F#16) <<< 4) := by
  apply BitVec.eq_of_getLsbD_eq
  intro i hi
  simp only [BitVec.getLsbD_extractLsb', BitVec.getLsbD_or, BitVec.getLsbD_and, BitVec.getLsbD_shiftLeft, BitVec.getLsbD_append]
  interval_cases i <;> simp

theorem nib_odd (a b c d : BitVec 16) : (((a ++ b) &&& 252645135#32) ||| (((c ++ d) &&& 252645135#32) <<< 4)).extractLsb' 16 16 = (a &&& 0x0F0F#16) ||| ((c &&& 0x0F0F#16) <<< 4) := by
  apply BitVec.eq_of_getLsbD_eq
  intro i hi
  simp only [BitVec.getLsbD_extractLsb', BitVec.getLsbD_or, BitVec.getLsbD_and, BitVec.getLsbD_shiftLeft, BitVec.getLsbD_append]
  interval_cases i <;> simp

/-- The kernel's codes, at an element. -/
theorem codeVec_apply (y : FVec Ideal S16x128 .f32) (i : S16x128.Idx) :
    addi (trunci 16 (fptosi (F := Ideal) (φ := .f32) 32 (roundeven (mulf (extf .f32 (truncf .bf16 y bitsLt_bf16_f32) bitsLt_bf16_f32) (broadcast S16x128 (Scalar.ofBits (F := Ideal) .f32 0x40800000#32))))) natLt_16_32) (broadcast S16x128 16768#16) i = code16 (y i) := rfl

theorem nibs_apply (lo hi : FVec Ideal S16x128 .f32) (r : Fin 16) (l : Fin 128) :
    nibs lo hi (ix2 r l) = ((code16 (hi (ix2 r l)) &&& 0x0F0F#16) ||| ((code16 (lo (ix2 r l)) &&& 0x0F0F#16) <<< 4)) := by
  have key : ∀ (A B : IVec S16x128 16), ori (andi (bitcast S8x128 32 (bitcast S32x128 8 (bitcast S8x128 32 A bitcasts_S16x128_w16_S8x128_w32) bitcasts_S8x128_w32_S32x128_w8) bitcasts_S32x128_w8_S8x128_w32) (broadcast S8x128 252645135#32))
      (shli (andi (bitcast S8x128 32 (bitcast S32x128 8 (bitcast S8x128 32 B bitcasts_S16x128_w16_S8x128_w32) bitcasts_S8x128_w32_S32x128_w8) bitcasts_S32x128_w8_S8x128_w32) (broadcast S8x128 252645135#32)) (broadcast S8x128 4#32)) (ix2 (⟨r.val / 2, by omega⟩ : Fin 8) l)
      = ((A (ix2 (⟨2 * (r.val / 2) + 1, by omega⟩ : Fin 16) l) ++ A (ix2 (⟨2 * (r.val / 2), by omega⟩ : Fin 16) l)) &&& 252645135#32) ||| (((B (ix2 (⟨2 * (r.val / 2) + 1, by omega⟩ : Fin 16) l) ++ B (ix2 (⟨2 * (r.val / 2), by omega⟩ : Fin 16) l)) &&& 252645135#32) <<< 4) := fun A B => by
    show ((_ &&& _) ||| ((_ &&& _) <<< _)) = _
    rw [words8_round, words8_round, words16_apply, words16_apply]
    rfl
  unfold nibs
  refine (halves16_apply _ _ r l).trans ?_
  refine (congrArg (BitVec.extractLsb' (16 * (r.val % 2)) 16) (key _ _)).trans ?_
  rw [codeVec_apply, codeVec_apply, codeVec_apply, codeVec_apply]
  rcases Nat.mod_two_eq_zero_or_one r.val with h | h
  · have er : (⟨2 * (r.val / 2), by omega⟩ : Fin 16) = r := Fin.ext (by show 2 * (r.val / 2) = r.val; omega)
    rw [h, er]
    exact nib_even _ _ _ _
  · have er : (⟨2 * (r.val / 2) + 1, by omega⟩ : Fin 16) = r := Fin.ext (by show 2 * (r.val / 2) + 1 = r.val; omega)
    rw [h, er]
    exact nib_odd _ _ _ _

/-- The slopes of the eight lines, and their heights at zero. -/
def tabS : Fin 8 → ℝ := ![552041 / 524288, 8718095 / 4194304, 10845303 / 4194304, 12290383 / 4194304, 3148275 / 1048576, 10777799 / 4194304, 7397919 / 4194304, 557057 / 524288]
def tabO : Fin 8 → ℝ := ![3212441 / 65536, 12997375 / 262144, 814803 / 16384, 13043867 / 262144, 6522659 / 131072, 3268585 / 65536, 3292619 / 65536, 6646619 / 131072]

/-- The magic constant of a place among eight. -/
def magic (s : Fin 8) : ℝ := 48 - (s.val : ℝ) / 4

/-- The same as they stand in the program. -/
def bitsS : Fin 8 → BitVec 32 := ![0x3F86C690#32, 0x4005070F#32, 0x40257C77#32, 0x403B894F#32, 0x404027CC#32, 0x402474C7#32, 0x3FE1C43E#32, 0x3F880010#32]
def bitsO : Fin 8 → BitVec 32 := ![0x42441264#32, 0x424652FF#32, 0x4246ED30#32, 0x4247089B#32, 0x42470E46#32, 0x42477FA4#32, 0x4248F72C#32, 0x424AD6B6#32]

theorem slope_bits (r : Fin 8) (l : Fin 128) : (k0_pay523 (F := Ideal) (ix2 r l) : EReal) = Ideal.ofBits .f32 (bitsS r) := by
  fin_cases r <;> rfl

theorem height_bits (r : Fin 8) (l : Fin 128) : (k0_pay524 (F := Ideal) (ix2 r l) : EReal) = Ideal.ofBits .f32 (bitsO r) := by
  fin_cases r <;> rfl

theorem slope_apply (r : Fin 8) (l : Fin 128) : (k0_pay523 (F := Ideal) (ix2 r l) : EReal) = ((tabS r : ℝ) : EReal) := by
  rw [slope_bits]
  fin_cases r <;> simp [Ideal.ofBits, Ideal.ieee, tabS, bitsS] <;> rw [← EReal.coe_mul] <;> norm_num

theorem height_apply (r : Fin 8) (l : Fin 128) : (k0_pay524 (F := Ideal) (ix2 r l) : EReal) = ((tabO r : ℝ) : EReal) := by
  rw [height_bits]
  fin_cases r <;> simp [Ideal.ofBits, Ideal.ieee, tabO, bitsO] <;> rw [← EReal.coe_mul] <;> norm_num

theorem magic_apply (r : Fin 16) (l : Fin 128) : (k0_pay522 (F := Ideal) (ix2 r l) : EReal) = ((magic ⟨r.val / 2, by omega⟩ : ℝ) : EReal) := by
  have key : ∀ n : Fin 8, (Ideal.ofBits .f32 1111490560#32 - Ideal.ofBits .f32 1048576000#32 * (((BitVec.ofNat 32 n.val).toInt : ℝ) : EReal) : EReal) = ((magic n : ℝ) : EReal) := by
    intro n
    have e1 : (Ideal.ofBits .f32 1111490560#32 : EReal) = ((48 : ℝ) : EReal) := by
      simp [Ideal.ofBits, Ideal.ieee]; rw [← EReal.coe_mul]; norm_num
    have e2 : (Ideal.ofBits .f32 1048576000#32 : EReal) = ((1 / 4 : ℝ) : EReal) := by
      simp [Ideal.ofBits, Ideal.ieee]; rw [← EReal.coe_mul]; norm_num
    have e3 : (BitVec.ofNat 32 n.val).toInt = (n.val : ℤ) := by
      revert n; decide
    rw [e1, e2, e3, ← EReal.coe_mul, ← EReal.coe_sub]
    unfold magic
    congr 1
    push_cast
    ring
  unfold k0_pay522
  pointwise
  split <;> exact key ⟨r.val / 2, by omega⟩

/-- One block of packed codes: thirty-two rows of pairs. -/
def encBlock (v76 : IVec S8x128 32) (v83 : FVec Ideal S16x128 .bf16) (v113 : FVec Ideal S8x128 .f32) (v143 : FVec Ideal S8x128 .f32) (inv : Vec Ideal S1x128 .f32) (sc : Vec Ideal S1x2x128 .bf16) (x : Fin 4 → Vec Ideal S1x16x128 .bf16) : IVec S1x32x128 8 :=
  have lo : Fin 4 → FVec Ideal S8x128 .f32 := fun q => k0_pay55 v76 v83 v143 (k0_pay34 sc) (k0_pay35 v113 inv) (x q)
  have hi : Fin 4 → FVec Ideal S8x128 .f32 := fun q => k0_pay56 v76 v83 v143 (k0_pay34 sc) (k0_pay35 v113 inv) (x q)
  have a : IVec S16x128 16 := nibs (concatenate S16x128 0 [⟨S8x128, lo 0⟩, ⟨S8x128, lo 1⟩] concatenates_S8x128_S8x128_S16x128_d0) (concatenate S16x128 0 [⟨S8x128, hi 0⟩, ⟨S8x128, hi 1⟩] concatenates_S8x128_S8x128_S16x128_d0)
  have b : IVec S16x128 16 := nibs (concatenate S16x128 0 [⟨S8x128, lo 2⟩, ⟨S8x128, lo 3⟩] concatenates_S8x128_S8x128_S16x128_d0) (concatenate S16x128 0 [⟨S8x128, hi 2⟩, ⟨S8x128, hi 3⟩] concatenates_S8x128_S8x128_S16x128_d0)
  shapeCast S1x32x128 (trunci 8 (concatenate S32x128 0 [⟨S16x128, a⟩, ⟨S16x128, b⟩] concatenates_S16x128_S16x128_S32x128_d0) natLt_8_16) shapeCasts_S32x128_S1x32x128

theorem rows16 (a b : FVec Ideal S8x128 .f32) (r : Fin 16) (l : Fin 128) : concatenate S16x128 0 [⟨S8x128, a⟩, ⟨S8x128, b⟩] concatenates_S8x128_S8x128_S16x128_d0 (ix2 r l)
    = if h : r.val < 8 then a (ix2 ⟨r.val, h⟩ l) else b (ix2 ⟨r.val - 8, by omega⟩ l) := by
  pointwise

theorem rows32 (a b : IVec S16x128 16) (r : Fin 32) (l : Fin 128) : shapeCast S1x32x128 (trunci 8 (concatenate S32x128 0 [⟨S16x128, a⟩, ⟨S16x128, b⟩] concatenates_S16x128_S16x128_S32x128_d0) natLt_8_16) shapeCasts_S32x128_S1x32x128 (ix3 (0 : Fin 1) r l)
    = (if h : r.val < 16 then a (ix2 ⟨r.val, h⟩ l) else b (ix2 ⟨r.val - 16, by omega⟩ l)).setWidth 8 := by
  pointwise

theorem scale_apply (sc : Vec Ideal S1x2x128 .bf16) (r : Fin 16) (l : Fin 128) : (k0_pay34 sc (ix2 r l) : EReal) = sc (ix3 (0 : Fin 1) (⟨r.val % 2, by omega⟩ : Fin 2) l) := by
  unfold k0_pay34
  pointwise
  rcases Nat.mod_two_eq_zero_or_one r.val with h | h
  · rw [if_pos h]
    simp only [dite_eq_ite, ite_self]
    exact congrArg (fun p : Fin 2 => sc (ix3 (0 : Fin 1) p l)) (Fin.ext h.symm)
  · rw [if_neg (by omega)]
    simp only [dite_eq_ite, ite_self]
    exact congrArg (fun p : Fin 2 => sc (ix3 (0 : Fin 1) p l)) (Fin.ext h.symm)

theorem lines_apply (v113 : FVec Ideal S8x128 .f32) (inv : Vec Ideal S1x128 .f32) (r : Fin 8) (l : Fin 128) : (k0_pay35 v113 inv (ix2 r l) : EReal) = (inv (ix2 (0 : Fin 1) l) : EReal) * v113 (ix2 r l) := by
  unfold k0_pay35
  pointwise

/-- What a weight in place `s` rounds to, before rounding: on the line of its cell. -/
def kr (s : Fin 8) (w inv sc : EReal) : EReal :=
  w * (inv * ((tabS (cellRow (BitVec.ofNat 32 s.val) w sc ((magic s : ℝ) : EReal)) : ℝ) : EReal)) + ((tabO (cellRow (BitVec.ofNat 32 s.val) w sc ((magic s : ℝ) : EReal)) : ℝ) : EReal)

theorem iota_row (s : Fin 8) (l : Fin 128) : iota .tc S8x128 32 [0] iota_S8x128_d0_w32 (ix2 s l) = BitVec.ofNat 32 s.val := by
  pointwise

theorem lo_kr (inv : Vec Ideal S1x128 .f32) (sc : Vec Ideal S1x2x128 .bf16) (x : Vec Ideal S1x16x128 .bf16) (s : Fin 8) (l : Fin 128) :
    (k0_pay55 (iota .tc S8x128 32 [0] iota_S8x128_d0_w32) (k0_pay522 (F := Ideal)) (k0_pay524 (F := Ideal)) (k0_pay34 sc) (k0_pay35 (k0_pay523 (F := Ideal)) inv) x (ix2 s l) : EReal)
      = kr s (x (ix3 (0 : Fin 1) (⟨2 * s.val, by omega⟩ : Fin 16) l)) (inv (ix2 (0 : Fin 1) l)) (sc (ix3 (0 : Fin 1) (0 : Fin 2) l)) := by
  refine (lo_apply _ _ _ _ _ x s l _ (sc (ix3 (0 : Fin 1) (0 : Fin 2) l)) ((magic s : ℝ) : EReal) rfl ?_ ?_).trans ?_
  · refine (scale_apply sc _ l).trans (congrArg (fun p : Fin 2 => sc (ix3 (0 : Fin 1) p l)) (Fin.ext ?_))
    show 2 * s.val % 2 = 0; omega
  · refine (magic_apply _ l).trans (congrArg (fun p : Fin 8 => ((magic p : ℝ) : EReal)) (Fin.ext ?_))
    show 2 * s.val / 2 = s.val; omega
  · rw [lines_apply, slope_apply, height_apply, iota_row]
    rfl

theorem hi_kr (inv : Vec Ideal S1x128 .f32) (sc : Vec Ideal S1x2x128 .bf16) (x : Vec Ideal S1x16x128 .bf16) (s : Fin 8) (l : Fin 128) :
    (k0_pay56 (iota .tc S8x128 32 [0] iota_S8x128_d0_w32) (k0_pay522 (F := Ideal)) (k0_pay524 (F := Ideal)) (k0_pay34 sc) (k0_pay35 (k0_pay523 (F := Ideal)) inv) x (ix2 s l) : EReal)
      = kr s (x (ix3 (0 : Fin 1) (⟨2 * s.val + 1, by omega⟩ : Fin 16) l)) (inv (ix2 (0 : Fin 1) l)) (sc (ix3 (0 : Fin 1) (1 : Fin 2) l)) := by
  refine (hi_apply _ _ _ _ _ x s l _ (sc (ix3 (0 : Fin 1) (1 : Fin 2) l)) ((magic s : ℝ) : EReal) rfl ?_ ?_).trans ?_
  · refine (scale_apply sc _ l).trans (congrArg (fun p : Fin 2 => sc (ix3 (0 : Fin 1) p l)) (Fin.ext ?_))
    show (2 * s.val + 1) % 2 = 1; omega
  · refine (magic_apply _ l).trans (congrArg (fun p : Fin 8 => ((magic p : ℝ) : EReal)) (Fin.ext ?_))
    show (2 * s.val + 1) / 2 = s.val; omega
  · rw [lines_apply, slope_apply, height_apply, iota_row]
    rfl

/-- A block of packed codes, at an element. -/
theorem encBlock_apply (inv : Vec Ideal S1x128 .f32) (sc : Vec Ideal S1x2x128 .bf16) (x : Fin 4 → Vec Ideal S1x16x128 .bf16) (q : Fin 4) (s : Fin 8) (l : Fin 128) :
    encBlock (iota .tc S8x128 32 [0] iota_S8x128_d0_w32) (k0_pay522 (F := Ideal)) (k0_pay523 (F := Ideal)) (k0_pay524 (F := Ideal)) inv sc x (ix3 (0 : Fin 1) (⟨8 * q.val + s.val, by omega⟩ : Fin 32) l)
      = byteOf (kr s (x q (ix3 (0 : Fin 1) (⟨2 * s.val, by omega⟩ : Fin 16) l)) (inv (ix2 (0 : Fin 1) l)) (sc (ix3 (0 : Fin 1) (0 : Fin 2) l)))
          (kr s (x q (ix3 (0 : Fin 1) (⟨2 * s.val + 1, by omega⟩ : Fin 16) l)) (inv (ix2 (0 : Fin 1) l)) (sc (ix3 (0 : Fin 1) (1 : Fin 2) l))) := by
  have hs := s.isLt
  rw [← lo_kr, ← hi_kr]
  unfold encBlock byteOf
  refine (rows32 _ _ _ l).trans (congrArg (BitVec.setWidth 8) ?_)
  have pick : ∀ (v : Fin 4 → FVec Ideal S8x128 .f32) (p : Fin 4) (n : ℕ) (hn : n < 8), n = s.val → p = q → v p (ix2 (⟨n, hn⟩ : Fin 8) l) = v q (ix2 s l) := by
    rintro v p n hn rfl rfl; rfl
  fin_cases q
  · rw [dif_pos (by show 8 * 0 + s.val < 16; omega), nibs_apply, rows16, rows16, dif_pos (by show 8 * 0 + s.val < 8; omega), dif_pos (by show 8 * 0 + s.val < 8; omega)]
    rw [show (⟨8 * 0 + s.val, by omega⟩ : Fin 8) = s from Fin.ext (by show 8 * 0 + s.val = s.val; omega)]
    rfl
  · rw [dif_pos (by show 8 * 1 + s.val < 16; omega), nibs_apply, rows16, rows16, dif_neg (by show ¬ 8 * 1 + s.val < 8; omega), dif_neg (by show ¬ 8 * 1 + s.val < 8; omega)]
    rw [show (⟨8 * 1 + s.val - 8, by omega⟩ : Fin 8) = s from Fin.ext (by show 8 * 1 + s.val - 8 = s.val; omega)]
    rfl
  · rw [dif_neg (by show ¬ 8 * 2 + s.val < 16; omega), nibs_apply, rows16, rows16, dif_pos (by show 8 * 2 + s.val - 16 < 8; omega), dif_pos (by show 8 * 2 + s.val - 16 < 8; omega)]
    rw [show (⟨8 * 2 + s.val - 16, by omega⟩ : Fin 8) = s from Fin.ext (by show 8 * 2 + s.val - 16 = s.val; omega)]
    rfl
  · rw [dif_neg (by show ¬ 8 * 3 + s.val < 16; omega), nibs_apply, rows16, rows16, dif_neg (by show ¬ 8 * 3 + s.val - 16 < 8; omega), dif_neg (by show ¬ 8 * 3 + s.val - 16 < 8; omega)]
    rw [show (⟨8 * 3 + s.val - 16 - 8, by omega⟩ : Fin 8) = s from Fin.ext (by show 8 * 3 + s.val - 16 - 8 = s.val; omega)]
    rfl

end Cert.KernelIdeal.Hand

end
-- ==== Proof.IOffEnc.lean ====
/- Where the loop that encodes loads and stores, in closed form. -/
module

public import proofs.«01_k».proof.Proof.IOff

@[expose] public section

set_option maxRecDepth 16384

noncomputable section

namespace Cert.KernelIdeal.Hand

open Cert.KernelIdeal.Gen
open Idealize.ShloMosaic Idealize.ShloMosaic.TcCoe

/-- The offsets of the loads of the weights, by block of 64 rows and quarter. -/
def tileOff : Fin 8 → Fin 4 → grid0.Coords → Fin k0_t2_loop.trips → Fin 3 → Nat :=
  ![![k0_off61, k0_off62, k0_off63, k0_off64], ![k0_off68, k0_off69, k0_off70, k0_off71], ![k0_off75, k0_off76, k0_off77, k0_off78], ![k0_off82, k0_off83, k0_off84, k0_off85], ![k0_off89, k0_off90, k0_off91, k0_off92], ![k0_off96, k0_off97, k0_off98, k0_off99], ![k0_off103, k0_off104, k0_off105, k0_off106], ![k0_off110, k0_off111, k0_off112, k0_off113]]

theorem tileOff_eq : ∀ (b : Fin 8) (q : Fin 4) (t : Fin grid0.N) (k : Fin k0_t2_loop.trips),
    tileOff b q (grid0.coords t) k = ![(grid0.coords t 0).val % 3, 64 * b.val + 16 * q.val, 128 * k.val] := by decide +kernel

/-- The offsets of the loads of the inverses, of the loads of the scales, and of the stores of the codes, by block of 64 rows. -/
def invOff : Fin 8 → Fin k0_t2_loop.trips → Fin 2 → Nat := ![k0_off59, k0_off66, k0_off73, k0_off80, k0_off87, k0_off94, k0_off101, k0_off108]
def scOff : Fin 8 → Fin k0_t2_loop.trips → Fin 3 → Nat := ![k0_off60, k0_off67, k0_off74, k0_off81, k0_off88, k0_off95, k0_off102, k0_off109]
def outOff : Fin 8 → Fin k0_t2_loop.trips → Fin 3 → Nat := ![k0_off65, k0_off72, k0_off79, k0_off86, k0_off93, k0_off100, k0_off107, k0_off114]

theorem invOff_eq : ∀ (b : Fin 8) (k : Fin k0_t2_loop.trips), invOff b k = ![b.val, 128 * k.val] := by decide +kernel
theorem scOff_eq : ∀ (b : Fin 8) (k : Fin k0_t2_loop.trips), scOff b k = ![b.val, 0, 128 * k.val] := by decide +kernel
theorem outOff_eq : ∀ (b : Fin 8) (k : Fin k0_t2_loop.trips), outOff b k = ![0, 32 * b.val, 128 * k.val] := by decide +kernel

end Cert.KernelIdeal.Hand

end
-- ==== Proof.VBlk.lean ====
/- What the loop that encodes stores, in terms of the weights. -/
module

public import proofs.«01_k».proof.Proof.VEnc
public import proofs.«01_k».proof.Proof.IOffEnc

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window BodyObligation cellOf)

variable {c : Dev nD}

/-- The byte the kernel makes of a pair of rows in a column. -/
def pb (W : HbBuf0 (F := Ideal) c hbM0_0) (row col : ℕ) : BitVec 8 :=
  byteOf (kr ⟨row % 8, Nat.mod_lt _ (by decide)⟩ (wel W (2 * row) col) (einv (AM W (row / 32) col)) (esc (AM W (row / 32) col)))
    (kr ⟨row % 8, Nat.mod_lt _ (by decide)⟩ (wel W (2 * row + 1) col) (einv (AM W (row / 32) col)) (esc (AM W (row / 32) col)))

/-- The columns before `128 * k` of a point's block of packed codes hold them. -/
def F2 (W : HbBuf0 (F := Ideal) c hbM0_0) (t : Fin grid0.N) (k : ℕ) (g : S1x256x1536.Idx → BitVec 8) : Prop :=
  ∀ (r : Fin 256) (col : Fin 1536), col.val < 128 * k → g (ix3 (0 : Fin 1) r col) = pb W (256 * (t.val / 8) + r.val) (1536 * (t.val % 8) + col.val)

@[simp] theorem F2_zero (W : HbBuf0 (F := Ideal) c hbM0_0) (t : Fin grid0.N) (g : S1x256x1536.Idx → BitVec 8) : F2 W t 0 g := fun _ _ h => absurd h (by omega)

variable {W : HbBuf0 (F := Ideal) c hbM0_0} {t : Fin grid0.N} {k : Fin k0_t2_loop.trips}

theorem tileOff_inb (t : Fin grid0.N) (k : Fin k0_t2_loop.trips) : ∀ b q a, tileOff b q (grid0.coords t) k a + S1x16x128.size a ≤ S3x512x1536.size a := by
  intro b q a
  have hk : k.val < 12 := Nat.lt_of_lt_of_le k.isLt k0_t2_abs.2.1
  have := Nat.mod_lt (grid0.coords t 0).val (show 0 < 3 by decide)
  rw [tileOff_eq]
  fin_cases a
  · show (grid0.coords t 0).val % 3 + 1 ≤ 3; omega
  · show 64 * b.val + 16 * q.val + 16 ≤ 512; omega
  · show 128 * k.val + 128 ≤ 1536; omega

theorem invOff_inb (k : Fin k0_t2_loop.trips) : ∀ b a, invOff b k a + S1x128.size a ≤ S8x1536.size a := by
  intro b a
  have hk : k.val < 12 := Nat.lt_of_lt_of_le k.isLt k0_t2_abs.2.1
  rw [invOff_eq]
  fin_cases a
  · show b.val + 1 ≤ 8; omega
  · show 128 * k.val + 128 ≤ 1536; omega

theorem scOff_inb (k : Fin k0_t2_loop.trips) : ∀ b a, scOff b k a + S1x2x128.size a ≤ S8x2x1536.size a := by
  intro b a
  have hk : k.val < 12 := Nat.lt_of_lt_of_le k.isLt k0_t2_abs.2.1
  rw [scOff_eq]
  fin_cases a
  · show b.val + 1 ≤ 8; omega
  · show 0 + 2 ≤ 2; omega
  · show 128 * k.val + 128 ≤ 1536; omega

theorem outOff_inb (k : Fin k0_t2_loop.trips) : ∀ b a, outOff b k a + S1x32x128.size a ≤ S1x256x1536.size a := by
  intro b a
  have hk : k.val < 12 := Nat.lt_of_lt_of_le k.isLt k0_t2_abs.2.1
  rw [outOff_eq]
  fin_cases a
  · show 0 + 1 ≤ 1; omega
  · show 32 * b.val + 32 ≤ 256; omega
  · show 128 * k.val + 128 ≤ 1536; omega

theorem tile_apply (X : scM0_0.view.ty.Contents (Elt Ideal)) (t : Fin grid0.N) (k : Fin k0_t2_loop.trips) (b : Fin 8) (q : Fin 4) (hk : k.val < 12) (r : Fin 16) (l : Fin 128) :
    (View.readAt (Elt Ideal) scM0_0.view (Rect.unit (s := S3x512x1536) (tileOff b q (grid0.coords t) k) S1x16x128.size (tileOff_inb t k b q)).toLoadRect X (ix3 (0 : Fin 1) r l) : EReal)
      = xat X t ⟨64 * b.val + 16 * q.val + r.val, by omega⟩ ⟨128 * k.val + l.val, by omega⟩ := by
  rw [View.readAt_apply]
  unfold xat
  congr 1
  have h := tileOff_eq b q t k
  refine Rect.emb_eq_of_coords (Rect.unit (s := S3x512x1536) (tileOff b q (grid0.coords t) k) S1x16x128.size (tileOff_inb t k b q)) _ _ ?_
  intro a
  fin_cases a
  · show (grid0.coords t 0).val % 3 = tileOff b q (grid0.coords t) k 0 + 1 * 0
    rw [h]; rfl
  · show 64 * b.val + 16 * q.val + r.val = tileOff b q (grid0.coords t) k 1 + 1 * r.val
    rw [h, Nat.one_mul]; rfl
  · show 128 * k.val + l.val = tileOff b q (grid0.coords t) k 2 + 1 * l.val
    rw [h, Nat.one_mul]; rfl

theorem inv_apply (f : scM0_3.view.ty.Contents (Elt Ideal)) (k : Fin k0_t2_loop.trips) (b : Fin 8) (hk : k.val < 12) (l : Fin 128) :
    (View.readAt (Elt Ideal) scM0_3.view (Rect.unit (s := S8x1536) (invOff b k) S1x128.size (invOff_inb k b)).toLoadRect f (ix2 (0 : Fin 1) l) : EReal)
      = scM0_3.view.read (Elt Ideal) f (ix2 b (⟨128 * k.val + l.val, by omega⟩ : Fin 1536)) := by
  rw [View.readAt_apply]
  congr 1
  have h := invOff_eq b k
  refine Rect.emb_eq_of_coords (Rect.unit (s := S8x1536) (invOff b k) S1x128.size (invOff_inb k b)) _ _ ?_
  intro a
  fin_cases a
  · show b.val = invOff b k 0 + 1 * 0
    rw [h]; rfl
  · show 128 * k.val + l.val = invOff b k 1 + 1 * l.val
    rw [h, Nat.one_mul]; rfl

theorem sc_apply (f : scM0_4.view.ty.Contents (Elt Ideal)) (k : Fin k0_t2_loop.trips) (b : Fin 8) (hk : k.val < 12) (p : Fin 2) (l : Fin 128) :
    (View.readAt (Elt Ideal) scM0_4.view (Rect.unit (s := S8x2x1536) (scOff b k) S1x2x128.size (scOff_inb k b)).toLoadRect f (ix3 (0 : Fin 1) p l) : EReal)
      = scM0_4.view.read (Elt Ideal) f (ix3 b p (⟨128 * k.val + l.val, by omega⟩ : Fin 1536)) := by
  rw [View.readAt_apply]
  congr 1
  have h := scOff_eq b k
  refine Rect.emb_eq_of_coords (Rect.unit (s := S8x2x1536) (scOff b k) S1x2x128.size (scOff_inb k b)) _ _ ?_
  intro a
  fin_cases a
  · show b.val = scOff b k 0 + 1 * 0
    rw [h]; rfl
  · show p.val = scOff b k 1 + 1 * p.val
    rw [h, Nat.one_mul]; exact (Nat.zero_add _).symm
  · show 128 * k.val + l.val = scOff b k 2 + 1 * l.val
    rw [h, Nat.one_mul]; rfl

/-- The block of codes that trip `k` stores for block `b` of 64 rows. -/
def blkVal (t : Fin grid0.N) (X : scM0_0.view.ty.Contents (Elt Ideal)) (k : Fin k0_t2_loop.trips) (f11 : scM0_3.view.ty.Contents (Elt Ideal)) (f12 : scM0_4.view.ty.Contents (Elt Ideal)) (b : Fin 8) : IVec S1x32x128 8 :=
  encBlock (iota .tc S8x128 32 [0] iota_S8x128_d0_w32) (k0_pay522 (F := Ideal)) (k0_pay523 (F := Ideal)) (k0_pay524 (F := Ideal))
    (View.readAt (Elt Ideal) scM0_3.view (Rect.unit (s := S8x1536) (invOff b k) S1x128.size (invOff_inb k b)).toLoadRect f11)
    (View.readAt (Elt Ideal) scM0_4.view (Rect.unit (s := S8x2x1536) (scOff b k) S1x2x128.size (scOff_inb k b)).toLoadRect f12)
    (fun q => View.readAt (Elt Ideal) scM0_0.view (Rect.unit (s := S3x512x1536) (tileOff b q (grid0.coords t) k) S1x16x128.size (tileOff_inb t k b q)).toLoadRect X)

theorem blkVal_apply {X : scM0_0.view.ty.Contents (Elt Ideal)} {f11 : scM0_3.view.ty.Contents (Elt Ideal)} {f12 : scM0_4.view.ty.Contents (Elt Ideal)}
    (hX : XIs W t X) (h11 : F11 W t 12 (scM0_3.view.read (Elt Ideal) f11)) (h12 : F12 W t 12 (scM0_4.view.read (Elt Ideal) f12)) (hk : k.val < 12) (b : Fin 8) (r : Fin 32) (l : Fin 128) :
    blkVal t X k f11 f12 b (ix3 (0 : Fin 1) r l) = pb W (256 * (t.val / 8) + (32 * b.val + r.val)) (1536 * (t.val % 8) + (128 * k.val + l.val)) := by
  have hr : r = ⟨8 * (⟨r.val / 8, by omega⟩ : Fin 4).val + (⟨r.val % 8, by omega⟩ : Fin 8).val, by show 8 * (r.val / 8) + r.val % 8 < 32; omega⟩ := Fin.ext (by show r.val = 8 * (r.val / 8) + r.val % 8; omega)
  have e : ∀ (n : ℕ) (hn : 64 * b.val + 16 * (r.val / 8) + n < 512) (m : ℕ), m = 512 * (t.val / 8) + (64 * b.val + 16 * (r.val / 8) + n) →
      xat X t ⟨64 * b.val + 16 * (r.val / 8) + n, hn⟩ ⟨128 * k.val + l.val, by omega⟩ = wel W m (1536 * (t.val % 8) + (128 * k.val + l.val)) := by
    rintro n hn m rfl
    unfold XIs at hX
    exact hX _ _
  have ei := (inv_apply f11 k b hk l).trans (by unfold F11 at h11; exact h11 b ⟨128 * k.val + l.val, by omega⟩ (by show 128 * k.val + l.val < 128 * 12; omega))
  have es : ∀ p : Fin 2, _ := fun p => (sc_apply f12 k b hk p l).trans (by unfold F12 at h12; exact h12 b p ⟨128 * k.val + l.val, by omega⟩ (by show 128 * k.val + l.val < 128 * 12; omega))
  unfold blkVal
  conv_lhs => rw [hr]
  rw [encBlock_apply, tile_apply _ _ _ _ _ hk, tile_apply _ _ _ _ _ hk, ei, es 0, es 1]
  unfold pb
  have e1 : (256 * (t.val / 8) + (32 * b.val + r.val)) / 32 = 8 * (t.val / 8) + b.val := by omega
  have e2 : (⟨(256 * (t.val / 8) + (32 * b.val + r.val)) % 8, Nat.mod_lt _ (by decide)⟩ : Fin 8) = ⟨r.val % 8, by omega⟩ := Fin.ext (by show (256 * (t.val / 8) + (32 * b.val + r.val)) % 8 = r.val % 8; omega)
  rw [e1, e2]
  refine congrArg₂ byteOf ?_ ?_
  · exact congrArg (fun w => kr _ w _ _) (e (2 * (r.val % 8)) (by omega) _ (by omega))
  · exact congrArg (fun w => kr _ w _ _) (e (2 * (r.val % 8) + 1) (by omega) _ (by omega))

/-- The piece that trip `k` stores for block `b`, and the pieces it stores, the last first. -/
def outPiece (k : Fin k0_t2_loop.trips) (w : Fin 8 → S1x32x128.Idx → BitVec 8) (b : Fin 8) : View.Piece (Elt Ideal) S1x256x1536 .i8 :=
  ⟨Rect.unit (s := S1x256x1536) (outOff b k) S1x32x128.size (outOff_inb k b), w b⟩

def outPieces (k : Fin k0_t2_loop.trips) (w : Fin 8 → S1x32x128.Idx → BitVec 8) : List (View.Piece (Elt Ideal) S1x256x1536 .i8) :=
  [outPiece k w 7, outPiece k w 6, outPiece k w 5, outPiece k w 4, outPiece k w 3, outPiece k w 2, outPiece k w 1, outPiece k w 0]

theorem mem_outPieces (k : Fin k0_t2_loop.trips) (w : Fin 8 → S1x32x128.Idx → BitVec 8) (p : View.Piece (Elt Ideal) S1x256x1536 .i8) :
    p ∈ outPieces k w ↔ ∃ b, p = outPiece k w b := by
  constructor
  · intro h
    simp only [outPieces, List.mem_cons, List.not_mem_nil, or_false] at h
    rcases h with h | h | h | h | h | h | h | h <;> exact ⟨_, h⟩
  · rintro ⟨b, rfl⟩
    unfold outPieces
    fin_cases b <;> simp

theorem F2_step {M : Memref sig .tc .vmem S1x256x1536 .i8} {f : M.view.ty.Contents (Elt Ideal)} {w : Fin 8 → S1x32x128.Idx → BitVec 8}
    (h : F2 W t k.val (M.view.read (Elt Ideal) f)) (hk : k.val < 12)
    (hw : ∀ (b : Fin 8) (r : Fin 32) (l : Fin 128), w b (ix3 (0 : Fin 1) r l) = pb W (256 * (t.val / 8) + (32 * b.val + r.val)) (1536 * (t.val % 8) + (128 * k.val + l.val))) :
    F2 W t (k.val + 1) (M.view.read (Elt Ideal) (M.view.writes (Elt Ideal) f (outPieces k w))) := by
  intro r col hc
  by_cases hl : col.val < 128 * k.val
  · rw [View.read_writes_apply_of_forall_not_mem M.view f _ (outPieces k w)]
    · exact h r col hl
    · intro p hp
      obtain ⟨b, rfl⟩ := (mem_outPieces k w p).1 hp
      exact (outPiece k w b).1.not_mem_set_of_axis _ (2 : Fin 3) (128 * k.val) 128 (congrFun (outOff_eq b k) 2) rfl rfl (Or.inl hl)
  · refine (View.read_writes_apply_of_pieces M.view f (fun y : S1x256x1536.Idx => pb W (256 * (t.val / 8) + (y 1).val) (1536 * (t.val % 8) + (y 2).val)) (outPieces k w) ?_ (ix3 (0 : Fin 1) r col) ?_).trans rfl
    · intro p hp x
      obtain ⟨b, rfl⟩ := (mem_outPieces k w p).1 hp
      have hx : x = ix3 (0 : Fin 1) (x 1 : Fin 32) (x 2 : Fin 128) := by
        funext a
        fin_cases a
        · exact Subsingleton.elim (α := Fin 1) _ _
        all_goals rfl
      have h1 : ((outPiece k w b).1.emb x 1).val = 32 * b.val + (x 1 : Fin 32).val := by
        show outOff b k 1 + 1 * (x 1 : Fin 32).val = _
        rw [outOff_eq, Nat.one_mul]; rfl
      have h2 : ((outPiece k w b).1.emb x 2).val = 128 * k.val + (x 2 : Fin 128).val := by
        show outOff b k 2 + 1 * (x 2 : Fin 128).val = _
        rw [outOff_eq, Nat.one_mul]; rfl
      show w b x = pb W (256 * (t.val / 8) + ((outPiece k w b).1.emb x 1).val) (1536 * (t.val % 8) + ((outPiece k w b).1.emb x 2).val)
      rw [h1, h2]
      exact (congrArg (w b) hx).trans (hw b _ _)
    · refine ⟨outPiece k w ⟨r.val / 32, by omega⟩, (mem_outPieces k w _).2 ⟨_, rfl⟩, ?_⟩
      rw [LoadRect.mem_set]
      intro a
      show ∃ i < S1x32x128.size a, (ix3 (0 : Fin 1) r col a).val = outOff ⟨r.val / 32, by omega⟩ k a + 1 * i
      rw [outOff_eq]
      fin_cases a
      · exact ⟨0, by decide, by rfl⟩
      · exact ⟨r.val % 32, Nat.mod_lt _ (by decide), by show r.val = 32 * (r.val / 32) + 1 * (r.val % 32); omega⟩
      · exact ⟨col.val - 128 * k.val, by show col.val - 128 * k.val < 128; omega, by show col.val = 128 * k.val + 1 * (col.val - 128 * k.val); omega⟩

attribute [irreducible] F2

end Cert.KernelIdeal.Hand

end
-- ==== Proof.VLoops.lean ====
/- What each loop of the body keeps from trip to trip. -/
module

public import proofs.«01_k».proof.Proof.IRing
public import proofs.«01_k».proof.Proof.VSum
public import proofs.«01_k».proof.Proof.VBlk

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Memref `M` held whole on core `c` at some contents. -/
abbrev some0 (c : Dev nD) {sp : Space} {S : Shape} {e : EltTy} (M : Memref sig .tc sp S e) : sProp 𝕄 :=
  iprop(∃ f : HbBuf0 (F := F) c M, M.view.loc (c : Thread nD τ) ↦[M.view.set]{fullShare} f)

/-- A buffer this program has whole, of whose contents a fact is known. -/
abbrev someP (c : Dev nD) {sp : Space} {S : Shape} {e : EltTy} (M : Memref sig .tc sp S e) (Φ : Vec F S e → Prop) : sProp 𝕄 :=
  iprop(∃ f : HbBuf0 (F := F) c M, iprop((M.view.loc (c : Thread nD τ) ↦[M.view.set]{fullShare} f) ∗ ⌜Φ (M.view.read (Elt F) f)⌝))

set_option maxHeartbeats 4000000 in
set_option warn.classDefReducibility false in
/-- Before each trip of the loop that takes the maxima: the block this point waited for in its slot, and the maxima, the inverses and the scales
    of the columns done so far. -/
@[sl_loop] def loopInv_t1 (c : Dev nD) [Src c] (t : Fin cfg0.N) (X : HbBuf0 (F := Ideal) c (rslot0_0 (Ring.sl 3 t.val))) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (v7 : BitVec 32) (v72 : BitVec 32) (v74 : BitVec 32) (c0_i32_31 : BitVec 32) (c12_i32 : BitVec 32) :
    LoopInvTy_k0_t1 (F := Ideal) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) v7 v72 v74 c0_i32_31 c12_i32 where
  inv := fun k _ => iprop(slotP0_0 (F := Ideal) c (Ring.sl 3 t.val) X ∗ ⌜XIs (Src.W (c := c)) t X⌝ ∗ some0 (F := Ideal) c scM0_1
    ∗ someP c arg3 (F3 (Src.W (c := c)) t k)
    ∗ someP c scM0_2 (F10 (Src.W (c := c)) t.val k)
    ∗ someP c scM0_3 (F11 (Src.W (c := c)) t k)
    ∗ someP c scM0_4 (F12 (Src.W (c := c)) t k))
  step := fun k acc => by
    have hk : k.val < 12 := Nat.lt_of_lt_of_le k.isLt k0_t1_abs.2.1
    have hsl := slotOf t
    unfold k0_t1_body
    iintro ⟨HS, %hX, ⟨%f2, H2⟩, ⟨%f1, H1, %h1⟩, ⟨%f3, H3, %h3⟩, ⟨%f4, H4, %h4⟩, ⟨%f5, H5, %h5⟩⟩
    sl_exec
    sl_step
    have key : ∀ (b : Fin 8) (l : Fin 128), (loopInv_t1.sl.v486 c t X k f2 (ix2 b l) : EReal) = AM (Src.W (c := c)) (8 * (t.val / 8) + b.val) (1536 * (t.val % 8) + (128 * k.val + l.val)) :=
      fun b l => trip_AM hX hk ![scM0_1.view.junk, f2, f2, f2, f2, f2, f2, f2] b l
    have kinv : ∀ (b : Fin 8) (l : Fin 128), (loopInv_t1.sl.v506 c t X k f2 (ix2 b l) : EReal) = einv (AM (Src.W (c := c)) (8 * (t.val / 8) + b.val) (1536 * (t.val % 8) + (128 * k.val + l.val))) :=
      fun b l => (congrArg einv (key b l))
    isplitl [HS]; · iexact HS
    isplitl []; · ipureintro; exact hX
    isplitl [H2]; · iexists _; iexact H2
    isplitl [H1]
    · iexists _; isplitl [H1]; · iexact H1
      ipureintro
      exact F3_step h1 hk (fun b l => (addUnit8 (loopInv_t1.sl.v486 c t X k f2) _ b l).trans (key b l))
    isplitl [H3]
    · iexists _; isplitl [H3]; · iexact H3
      ipureintro
      exact F10_step h3 hk (fun b l => (same8 (loopInv_t1.sl.v486 c t X k f2) _ b l).trans (key b l))
    isplitl [H4]
    · iexists _; isplitl [H4]; · iexact H4
      ipureintro
      exact F11_step h4 hk (fun b l => (same8 (loopInv_t1.sl.v506 c t X k f2) _ b l).trans (kinv b l))
    iexists _; isplitl [H5]; · iexact H5
    ipureintro
    exact F12_step h5 hk (fun b p l => (both_apply (loopInv_t1.sl.v513_lo c t X k f2) b p l).trans (congrArg (· * _) (kinv b l)))

set_option maxHeartbeats 4000000 in
set_option warn.classDefReducibility false in
/-- Before each trip of the loop that encodes: the block in its slot, the inverse scales and the scales, and the columns of packed codes done. -/
@[sl_loop] def loopInv_t2 (c : Dev nD) [Src c] (t : Fin cfg0.N) (X : HbBuf0 (F := Ideal) c (rslot0_0 (Ring.sl 3 t.val))) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (v7 : BitVec 32) (v76 : IVec S8x128 32) (v83 : FVec Ideal S16x128 .bf16) (v113 : FVec Ideal S8x128 .f32) :
    LoopInvTy_k0_t2 (F := Ideal) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) v7 v76 v83 v113 where
  inv := fun k _ => iprop(slotP0_0 c (Ring.sl 3 t.val) X ∗ ⌜XIs (Src.W (c := c)) t X⌝ ∗ ⌜v76 = iota .tc S8x128 32 [0] iota_S8x128_d0_w32⌝ ∗ ⌜v83 = k0_pay522 (F := Ideal)⌝ ∗ ⌜v113 = k0_pay523 (F := Ideal)⌝ ∗ someP c arg2 (F2 (Src.W (c := c)) t k) ∗ someP c scM0_3 (F11 (Src.W (c := c)) t 12) ∗ someP c scM0_4 (F12 (Src.W (c := c)) t 12))
  step := fun k acc => by
    have hk : k.val < 12 := Nat.lt_of_lt_of_le k.isLt k0_t2_abs.2.1
    have hsl := slotOf t
    unfold k0_t2_body
    iintro ⟨HS, %hX, %e76, %e83, %e113, ⟨%f1, H1, %h1⟩, ⟨%f2, H2, %h2⟩, ⟨%f3, H3, %h3⟩⟩
    subst e76 e83 e113
    have hw := blkVal_apply (k := k) hX h2 h3 hk
    sl_exec
    sl_step
    isplitl [HS]; · iexact HS
    isplitl []; · ipureintro; exact hX
    isplitl []; · ipureintro; rfl
    isplitl []; · ipureintro; rfl
    isplitl []; · ipureintro; rfl
    isplitl [H1]
    · iexists _; isplitl [H1]; · iexact H1
      ipureintro
      exact F2_step (w := blkVal t X k f2 f3) h1 hk hw
    isplitl [H2]
    · iexists _; isplitl [H2]; · iexact H2
      ipureintro; exact h2
    iexists _; isplitl [H3]; · iexact H3
    ipureintro; exact h3

set_option maxHeartbeats 4000000 in
set_option warn.classDefReducibility false in
/-- Before each trip of the loop that sums the maxima: the maxima and the running sums. -/
@[sl_loop] def loopInv_t3 (c : Dev nD) [Src c] (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (init : FVec Ideal S8x128 .f32) :
    LoopInvTy_k0_t3 (F := Ideal) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 init where
  inv := fun k acc => iprop(someP c scM0_2 (F10 (Src.W (c := c)) t.val 12) ∗ ⌜AccIs (Src.W (c := c)) k acc⌝)
  step := fun k acc => by
    have hk : k.val < 96 := Nat.lt_of_lt_of_le k.isLt k0_t3_abs.2.1
    have hsl := slotOf t
    unfold k0_t3_body
    iintro ⟨⟨%f0, H0, %h0⟩, %ha⟩
    sl_exec
    sl_step
    isplitl [H0]
    · iexists _; isplitl [H0]; · iexact H0
      ipureintro; exact h0
    ipureintro
    exact AccIs_step ((hcond0_2 t).mp k0_h3) h0 hk ha (sumOff_inb k)

set_option maxHeartbeats 4000000 in
set_option warn.classDefReducibility false in
/-- Before each trip of a loop that quantises a quarter of the scales: the maxima, and the two halves of the words at some contents. -/
@[sl_loop] def loopInv_t4 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v150 : FVec F S8x128 .f32) (v158 : IVec S8x128 32) (init : FVec F S8x128 .f32) :
    LoopInvTy_k0_t4 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v150 v158 init where
  inv := fun _ _ => iprop(some0 c scM0_2 ∗ some0 c scM0_5 ∗ some0 c scM0_6)
  step := fun k acc => by
    have hk : k.val < 12 := Nat.lt_of_lt_of_le k.isLt k0_t4_abs.2.1
    have hsl := slotOf t
    unfold k0_t4_body
    iintro ⟨⟨%f0, H0⟩, ⟨%f1, H1⟩, ⟨%f2, H2⟩⟩
    sl_exec
    sl_step
    isplitl [H0]; · iexists _; iexact H0
    isplitl [H1]; · iexists _; iexact H1
    iexists _; iexact H2

set_option maxHeartbeats 4000000 in
set_option warn.classDefReducibility false in
/-- Before each trip of a loop that quantises a quarter of the scales: the maxima, and the two halves of the words at some contents. -/
@[sl_loop] def loopInv_t5 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v155 : F .f32) (v158 : IVec S8x128 32) (v160 : IVec S8x128 32) (v163 : FVec F S8x128 .f32) (v172 : IVec S8x128 32) (v180 : IVec S8x128 32) (init : FVec F S8x128 .f32) :
    LoopInvTy_k0_t5 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v155 v158 v160 v163 v172 v180 init where
  inv := fun _ _ => iprop(some0 c scM0_2 ∗ some0 c scM0_5 ∗ some0 c scM0_6)
  step := fun k acc => by
    have hk : k.val < 12 := Nat.lt_of_lt_of_le k.isLt k0_t5_abs.2.1
    have hsl := slotOf t
    unfold k0_t5_body
    iintro ⟨⟨%f0, H0⟩, ⟨%f1, H1⟩, ⟨%f2, H2⟩⟩
    sl_exec
    sl_step
    isplitl [H0]; · iexists _; iexact H0
    isplitl [H1]; · iexists _; iexact H1
    iexists _; iexact H2

set_option maxHeartbeats 4000000 in
set_option warn.classDefReducibility false in
/-- Before each trip of a loop that quantises a quarter of the scales: the maxima, and the two halves of the words at some contents. -/
@[sl_loop] def loopInv_t6 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v155 : F .f32) (v158 : IVec S8x128 32) (v160 : IVec S8x128 32) (v196 : FVec F S8x128 .f32) (v205 : IVec S8x128 32) (v213 : IVec S8x128 32) (init : FVec F S8x128 .f32) :
    LoopInvTy_k0_t6 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v155 v158 v160 v196 v205 v213 init where
  inv := fun _ _ => iprop(some0 c scM0_2 ∗ some0 c scM0_5 ∗ some0 c scM0_6)
  step := fun k acc => by
    have hk : k.val < 12 := Nat.lt_of_lt_of_le k.isLt k0_t6_abs.2.1
    have hsl := slotOf t
    unfold k0_t6_body
    iintro ⟨⟨%f0, H0⟩, ⟨%f1, H1⟩, ⟨%f2, H2⟩⟩
    sl_exec
    sl_step
    isplitl [H0]; · iexists _; iexact H0
    isplitl [H1]; · iexists _; iexact H1
    iexists _; iexact H2

set_option maxHeartbeats 4000000 in
set_option warn.classDefReducibility false in
/-- Before each trip of a loop that quantises a quarter of the scales: the maxima, and the two halves of the words at some contents. -/
@[sl_loop] def loopInv_t7 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v155 : F .f32) (v158 : IVec S8x128 32) (v160 : IVec S8x128 32) (v229 : FVec F S8x128 .f32) (v238 : IVec S8x128 32) (v246 : IVec S8x128 32) (init : FVec F S8x128 .f32) :
    LoopInvTy_k0_t7 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v155 v158 v160 v229 v238 v246 init where
  inv := fun _ _ => iprop(some0 c scM0_2 ∗ some0 c scM0_5 ∗ some0 c scM0_6)
  step := fun k acc => by
    have hk : k.val < 12 := Nat.lt_of_lt_of_le k.isLt k0_t7_abs.2.1
    have hsl := slotOf t
    unfold k0_t7_body
    iintro ⟨⟨%f0, H0⟩, ⟨%f1, H1⟩, ⟨%f2, H2⟩⟩
    sl_exec
    sl_step
    isplitl [H0]; · iexists _; iexact H0
    isplitl [H1]; · iexists _; iexact H1
    iexists _; iexact H2

end Cert.KernelIdeal.Hand

end
-- ==== Proof.VLand.lean ====
/- A block of weights that has landed in its slot: what the loops read there. -/
module

public import proofs.«01_k».proof.Proof.VLoops

@[expose] public section

set_option maxRecDepth 16384

noncomputable section

namespace Cert.KernelIdeal.Hand

open Cert.KernelIdeal.Gen
open Idealize.ShloMosaic Idealize.ShloMosaic.TcCoe Idealize.ShloMosaic.Tactic

/-- Dropping a leading axis of one place. -/
theorem dropUnit {sp : Space} (M : Memref sig .tc sp S1x512x1536 .bf16) (f : M.view.ty.Contents (Elt Ideal)) (r : Fin 512) (l : Fin 1536) :
    ((M.squeeze S512x1536 squeezes_S1x512x1536_S512x1536).view.read (Elt Ideal) f (ix2 r l) : EReal) = M.view.read (Elt Ideal) f (ix3 (0 : Fin 1) r l) := by
  have e : ∀ (v : S1x512x1536.Idx → EReal), shapeCast S512x1536 v (by decide) (ix2 r l) = v (ix3 (0 : Fin 1) r l) := fun v => by pointwise
  exact e (M.view.read (Elt Ideal) f)

theorem coord_facts : ∀ t : Fin grid0.N, (grid0.coords t 0).val = t.val ∧ (Ring.sl 3 t.val).val = t.val % 3 ∧ (Ring.bk 32 t.val).val = t.val := by decide +kernel

theorem slot_read (s : Fin 3) (X : scM0_0.view.ty.Contents (Elt Ideal)) (r : Fin 512) (l : Fin 1536) :
    ((rslot0_0 s).view.read (Elt Ideal) X (ix2 r l) : EReal) = scM0_0.view.read (Elt Ideal) X (ix3 s r l) := by
  refine (dropUnit (scM0_0.slice (Rect.unit (s := S3x512x1536) ![s.val, 0, 0] S1x512x1536.size (inb_slot0_0 s)) (fun _ => rfl)) X r l).trans ?_
  refine congrArg (scM0_0.view.read (Elt Ideal) X) (Rect.emb_eq_of_coords _ _ _ ?_)
  intro a
  fin_cases a
  · show s.val = s.val + 1 * 0; omega
  · show r.val = 0 + 1 * r.val; omega
  · show l.val = 0 + 1 * l.val; omega

variable {c : Dev nD}

theorem src_read (W : HbBuf0 (F := Ideal) c hbM0_0) (b : Fin 32) (r : Fin 512) (l : Fin 1536) :
    ((srcB0_0 b).view.read (Elt Ideal) W (ix2 r l) : EReal) = wel W (512 * (b.val / 8) + r.val) (1536 * (b.val % 8) + l.val) := by
  have hb : 512 * (b.val / 8) + r.val < 2048 ∧ 1536 * (b.val % 8) + l.val < 12288 := by omega
  unfold wel
  rw [dif_pos hb]
  refine (dropUnit (hbM0_0.slice (Rect.unit (s := S1x2048x12288) ![0, 512 * (b.val / 8), 1536 * (b.val % 8)] S1x512x1536.size (inb_src0_0 b)) (fun _ => rfl)) W r l).trans ?_
  refine congrArg (hbM0_0.view.read (Elt Ideal) W) (Rect.emb_eq_of_coords _ _ _ ?_)
  intro a
  fin_cases a
  · show 0 = 0 + 1 * 0; omega
  · show 512 * (b.val / 8) + r.val = 512 * (b.val / 8) + 1 * r.val; omega
  · show 1536 * (b.val % 8) + l.val = 1536 * (b.val % 8) + 1 * l.val; omega

/-- After its wait, a point's slot holds the point's block of the weights. -/
theorem XIs_landed (W : HbBuf0 (F := Ideal) c hbM0_0) (t : Fin grid0.N) (ff : HbBuf0 (F := Ideal) c (rslot0_0 (Ring.sl 3 t.val))) :
    XIs W t (landed0_0 c W (Ring.sl 3 t.val) (Ring.bk 32 t.val) ff) := by
  unfold XIs
  intro r col
  obtain ⟨h0, h1, h2⟩ := coord_facts t
  have hs : (⟨(grid0.coords t 0).val % 3, Nat.mod_lt _ (by decide)⟩ : Fin 3) = Ring.sl 3 t.val := Fin.ext (by rw [h1]; show (grid0.coords t 0).val % 3 = _; rw [h0])
  unfold xat
  rw [hs]
  refine (slot_read (Ring.sl 3 t.val) _ r col).symm.trans ?_
  have e := View.read_writes_whole (Val := Elt Ideal) (rslot0_0 (Ring.sl 3 t.val)).view ff (ReadAs.same.apply ((srcB0_0 (Ring.bk 32 t.val)).view.read (Elt Ideal) W))
  refine (congrFun e (ix2 r col)).trans ?_
  refine (src_read W (Ring.bk 32 t.val) r col).trans ?_
  rw [h2]

end Cert.KernelIdeal.Hand

end
-- ==== Proof.VRunA.lean ====
/- The body at one kind of point, with the maxima it leaves. -/
module

public import proofs.«01_k».proof.Proof.VLand

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt Ideal) ℕ (Pipeline.UD sig nD τ) ℕ

variable (m : (ℓ : Loc nD τ sig) → Buf (Elt Ideal) ℓ) (ρ : Dev nD → PrngReg)

set_option maxHeartbeats 16000000 in
/-- At the first point: the body runs, leaves the codes and the maxima in their window and their copy, and moves the ring one step. -/
theorem valueRun0_A (c : Dev nD) [Src c] (R : sProp 𝕄) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : cond0_0 (grid0.coords t)) (hc1 : cond0_1 (grid0.coords t)) (hc2 : ¬cond0_2 (grid0.coords t)) :
      ∀ (W : Waits sig Unit) (K : PUnit → sProp 𝕄),
        iprop((some0 c arg2 ∗ some0 c arg3 ∗ some0 c arg4 ∗ some0 c arg5 ∗ R ∗ some0 c scM0_1 ∗ someP c scM0_2 (F10 (Src.W (c := c)) t.val 0) ∗ some0 c scM0_3 ∗ some0 c scM0_4 ∗ some0 c scM0_5 ∗ some0 c scM0_6) ∗ (Ring.free (cellP0_0 c) (slotW0_0 c (Src.W (c := c))) (Ring.sl 3 t.val) ∗ Ring.free (cellP0_0 c) (slotW0_0 c (Src.W (c := c))) (Ring.sl 3 (t.val + 1)) ∗ Ring.free (cellP0_0 c) (slotW0_0 c (Src.W (c := c))) (Ring.sl 3 (t.val + 2))) ∗ owes (c : Thread nD τ) 0 W
            ∗ (iprop((someP c arg2 (F2 (Src.W (c := c)) t 12) ∗ someP c arg3 (F3 (Src.W (c := c)) t 12) ∗ some0 c arg4 ∗ some0 c arg5 ∗ R ∗ some0 c scM0_1 ∗ someP c scM0_2 (F10 (Src.W (c := c)) (t.val + 1) 0) ∗ some0 c scM0_3 ∗ some0 c scM0_4 ∗ some0 c scM0_5 ∗ some0 c scM0_6) ∗ (Ring.inflight (flightW0_0 c (Src.W (c := c))) (Ring.sl 3 (t.val + 1)) (Ring.bk 32 (t.val + 1)) ∗ Ring.inflight (flightW0_0 c (Src.W (c := c))) (Ring.sl 3 (t.val + 2)) (Ring.bk 32 (t.val + 2)) ∗ Ring.free (cellP0_0 c) (slotW0_0 c (Src.W (c := c))) (Ring.sl 3 t.val)) ∗ (∃ W', owes (c : Thread nD τ) 0 W')) -∗ K ⟨⟩))
          ⊢ wp frame (wpE (defs₀ (F := Ideal)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (cond0_0 (grid0.coords t)) := ⟨hc0⟩
    haveI : Fact (cond0_1 (grid0.coords t)) := ⟨hc1⟩
    simp only [cc0_nf4_encode_eq_skeleton]; unfold cc0_nf4_encode_skel; simp only [k0_part93_eq_skeleton, bind_pure_unit]; unfold k0_part93_skel; simp only [k0_part90_eq_skeleton, k0_part91_eq_skeleton, k0_part92_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    have hcanon0 := canon0_0_1 t hc0 hc1
    have hcanon1 := canon0_0_2 t hc0 hc1
    have hcanon2 := canon0_0_3 t hc0 hc1
    have hcanon3 := canon0_0_4 t hc0 hc1
    have hcanon4 := canon0_0_5 t hc0 hc1
    have hcanon5 := canon0_0_6 t hc0 hc1
    have hsl := slotOf t
    unfold Ring.free Ring.inflight
    iintro ⟨⟨⟨%f_H2, H2⟩, ⟨%f_H3, H3⟩, ⟨%f_H4, H4⟩, ⟨%f_H5, H5⟩, H6, ⟨%f_HS1, HS1⟩, ⟨%f_HS2, HS2, %hF10⟩, ⟨%f_HS3, HS3⟩, ⟨%f_HS4, HS4⟩, ⟨%f_HS5, HS5⟩, ⟨%f_HS6, HS6⟩⟩, ⟨⟨Hc0, ⟨%fs0, Hs0, Hw0⟩⟩, ⟨Hc1, ⟨%fs1, Hs1, Hw1⟩⟩, ⟨Hc2, ⟨%fs2, Hs2, Hw2⟩⟩⟩, HW, Hk⟩
    ihave Hsp0 := (src0_0_split c (Src.W (c := c)) (Ring.sl 3 t.val) (Ring.bk 32 t.val)).1 $$ Hw0
    icases Hsp0 with ⟨Hh0, Hr0⟩
    ihave Hsp1 := (src0_0_split c (Src.W (c := c)) (Ring.sl 3 (t.val + 1)) (Ring.bk 32 (t.val + 1))).1 $$ Hw1
    icases Hsp1 with ⟨Hh1, Hr1⟩
    ihave Hsp2 := (src0_0_split c (Src.W (c := c)) (Ring.sl 3 (t.val + 2)) (Ring.bk 32 (t.val + 2))).1 $$ Hw2
    icases Hsp2 with ⟨Hh2, Hr2⟩
    have h2 : F2 (Src.W (c := c)) t 0 (arg2.view.read (Elt Ideal) f_H2) := F2_zero _ _ _
    have h3 : F3 (Src.W (c := c)) t 0 (arg3.view.read (Elt Ideal) f_H3) := F3_zero _ _ _
    have h11 : F11 (Src.W (c := c)) t 0 (scM0_3.view.read (Elt Ideal) f_HS3) := F11_zero _ _ _
    have h12 : F12 (Src.W (c := c)) t 0 (scM0_4.view.read (Elt Ideal) f_HS4) := F12_zero _ _ _
    have hX0 := XIs_landed (Src.W (c := c)) t (rslot0_0 (Ring.sl 3 t.val)).view.junk
    sl_exec (disch := first | sl_exact hc0 | sl_exact hc1 | sl_exact hc2)
    sl_step
    iapply Hk
    isplitl [H2 H3 H4 H5 H6 HS1 HS2 HS3 HS4 HS5 HS6]
    · isplitl [H2]; · iexists _; isplitl [H2]; · iexact H2
                      ipureintro; assumption
      isplitl [H3]; · iexists _; isplitl [H3]; · iexact H3
                      ipureintro; assumption
      isplitl [H4]; · iexists _; iexact H4
      isplitl [H5]; · iexists _; iexact H5
      isplitl [H6]; · iexact H6
      isplitl [HS1]; · iexists _; iexact HS1
      isplitl [HS2]; · iexists _; isplitl [HS2]; · iexact HS2
                       ipureintro; refine F10_next _ _ _ ?_; assumption
      isplitl [HS3]; · iexists _; iexact HS3
      isplitl [HS4]; · iexists _; iexact HS4
      isplitl [HS5]; · iexists _; iexact HS5
      iexists _; iexact HS6
    isplitl [Hc1 Hr1 Hc2 Hr2 Hc0 Hs0 Hh0 Hr0]
    · isplitl [Hc1 Hr1]
      · iexists _; isplitl [Hc1]; · iexact Hc1
        iexact Hr1
      isplitl [Hc2 Hr2]
      · iexists _; isplitl [Hc2]; · iexact Hc2
        iexact Hr2
      isplitl [Hc0]; · iexact Hc0
      iexists _; isplitl [Hs0]; · iexact Hs0
      iapply (src0_0_split c (Src.W (c := c)) (Ring.sl 3 t.val) (Ring.bk 32 t.val)).2; isplitl [Hh0]; · iexact Hh0
      iexact Hr0
    iexists _; iexact HW

end Cert.KernelIdeal.Hand

end
-- ==== Proof.VRunB.lean ====
/- The body at one kind of point, with the maxima it leaves. -/
module

public import proofs.«01_k».proof.Proof.VLand

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt Ideal) ℕ (Pipeline.UD sig nD τ) ℕ

variable (m : (ℓ : Loc nD τ sig) → Buf (Elt Ideal) ℓ) (ρ : Dev nD → PrngReg)

set_option maxHeartbeats 16000000 in
/-- At a point that still starts a block: the body runs, leaves the codes and the maxima in their window and their copy, and moves the ring one step. -/
theorem valueRun0_B (c : Dev nD) [Src c] (R : sProp 𝕄) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : ¬cond0_0 (grid0.coords t)) (hc1 : cond0_1 (grid0.coords t)) (hc2 : ¬cond0_2 (grid0.coords t)) :
      ∀ (W : Waits sig Unit) (K : PUnit → sProp 𝕄),
        iprop((some0 c arg2 ∗ some0 c arg3 ∗ some0 c arg4 ∗ some0 c arg5 ∗ R ∗ some0 c scM0_1 ∗ someP c scM0_2 (F10 (Src.W (c := c)) t.val 0) ∗ some0 c scM0_3 ∗ some0 c scM0_4 ∗ some0 c scM0_5 ∗ some0 c scM0_6) ∗ (Ring.inflight (flightW0_0 c (Src.W (c := c))) (Ring.sl 3 t.val) (Ring.bk 32 t.val) ∗ Ring.inflight (flightW0_0 c (Src.W (c := c))) (Ring.sl 3 (t.val + 1)) (Ring.bk 32 (t.val + 1)) ∗ Ring.free (cellP0_0 c) (slotW0_0 c (Src.W (c := c))) (Ring.sl 3 (t.val + 2))) ∗ owes (c : Thread nD τ) 0 W
            ∗ (iprop((someP c arg2 (F2 (Src.W (c := c)) t 12) ∗ someP c arg3 (F3 (Src.W (c := c)) t 12) ∗ some0 c arg4 ∗ some0 c arg5 ∗ R ∗ some0 c scM0_1 ∗ someP c scM0_2 (F10 (Src.W (c := c)) (t.val + 1) 0) ∗ some0 c scM0_3 ∗ some0 c scM0_4 ∗ some0 c scM0_5 ∗ some0 c scM0_6) ∗ (Ring.inflight (flightW0_0 c (Src.W (c := c))) (Ring.sl 3 (t.val + 1)) (Ring.bk 32 (t.val + 1)) ∗ Ring.inflight (flightW0_0 c (Src.W (c := c))) (Ring.sl 3 (t.val + 2)) (Ring.bk 32 (t.val + 2)) ∗ Ring.free (cellP0_0 c) (slotW0_0 c (Src.W (c := c))) (Ring.sl 3 t.val)) ∗ (∃ W', owes (c : Thread nD τ) 0 W')) -∗ K ⟨⟩))
          ⊢ wp frame (wpE (defs₀ (F := Ideal)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (¬cond0_0 (grid0.coords t)) := ⟨hc0⟩
    haveI : Fact (cond0_1 (grid0.coords t)) := ⟨hc1⟩
    simp only [cc0_nf4_encode_eq_skeleton]; unfold cc0_nf4_encode_skel; simp only [k0_part93_eq_skeleton, bind_pure_unit]; unfold k0_part93_skel; simp only [k0_part90_eq_skeleton, k0_part91_eq_skeleton, k0_part92_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    have hsl := slotOf t
    unfold Ring.free Ring.inflight
    iintro ⟨⟨⟨%f_H2, H2⟩, ⟨%f_H3, H3⟩, ⟨%f_H4, H4⟩, ⟨%f_H5, H5⟩, H6, ⟨%f_HS1, HS1⟩, ⟨%f_HS2, HS2, %hF10⟩, ⟨%f_HS3, HS3⟩, ⟨%f_HS4, HS4⟩, ⟨%f_HS5, HS5⟩, ⟨%f_HS6, HS6⟩⟩, ⟨⟨%ff0, Hf0, Hrf0⟩, ⟨%ff1, Hf1, Hrf1⟩, ⟨Hc2, ⟨%fs2, Hs2, Hw2⟩⟩⟩, HW, Hk⟩
    ihave Hsp2 := (src0_0_split c (Src.W (c := c)) (Ring.sl 3 (t.val + 2)) (Ring.bk 32 (t.val + 2))).1 $$ Hw2
    icases Hsp2 with ⟨Hh2, Hr2⟩
    have h2 : F2 (Src.W (c := c)) t 0 (arg2.view.read (Elt Ideal) f_H2) := F2_zero _ _ _
    have h3 : F3 (Src.W (c := c)) t 0 (arg3.view.read (Elt Ideal) f_H3) := F3_zero _ _ _
    have h11 : F11 (Src.W (c := c)) t 0 (scM0_3.view.read (Elt Ideal) f_HS3) := F11_zero _ _ _
    have h12 : F12 (Src.W (c := c)) t 0 (scM0_4.view.read (Elt Ideal) f_HS4) := F12_zero _ _ _
    have hX0 := XIs_landed (Src.W (c := c)) t (rslot0_0 (Ring.sl 3 t.val)).view.junk
    sl_exec (disch := first | sl_exact hc0 | sl_exact hc1 | sl_exact hc2)
    sl_step
    iapply Hk
    isplitl [H2 H3 H4 H5 H6 HS1 HS2 HS3 HS4 HS5 HS6]
    · isplitl [H2]; · iexists _; isplitl [H2]; · iexact H2
                      ipureintro; assumption
      isplitl [H3]; · iexists _; isplitl [H3]; · iexact H3
                      ipureintro; assumption
      isplitl [H4]; · iexists _; iexact H4
      isplitl [H5]; · iexists _; iexact H5
      isplitl [H6]; · iexact H6
      isplitl [HS1]; · iexists _; iexact HS1
      isplitl [HS2]; · iexists _; isplitl [HS2]; · iexact HS2
                       ipureintro; refine F10_next _ _ _ ?_; assumption
      isplitl [HS3]; · iexists _; iexact HS3
      isplitl [HS4]; · iexists _; iexact HS4
      isplitl [HS5]; · iexists _; iexact HS5
      iexists _; iexact HS6
    isplitl [Hf1 Hrf1 Hc2 Hr2 Hf0 Hf0_dst Hf0_src Hrf0]
    · isplitl [Hf1 Hrf1]
      · iexists ff1; isplitl [Hf1]; · iexact Hf1
        iexact Hrf1
      isplitl [Hc2 Hr2]
      · iexists _; isplitl [Hc2]; · iexact Hc2
        iexact Hr2
      isplitl [Hf0]; · iexact Hf0
      iexists _; isplitl [Hf0_dst]; · iexact Hf0_dst
      iapply (src0_0_split c (Src.W (c := c)) (Ring.sl 3 t.val) (Ring.bk 32 t.val)).2; isplitl [Hf0_src]; · iexact Hf0_src
      iexact Hrf0
    iexists _; iexact HW

end Cert.KernelIdeal.Hand

end
-- ==== Proof.VRunC.lean ====
/- The body at one kind of point, with the maxima it leaves. -/
module

public import proofs.«01_k».proof.Proof.VLand

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt Ideal) ℕ (Pipeline.UD sig nD τ) ℕ

variable (m : (ℓ : Loc nD τ sig) → Buf (Elt Ideal) ℓ) (ρ : Dev nD → PrngReg)

set_option maxHeartbeats 16000000 in
/-- At the last point but one: the body runs, leaves the codes and the maxima in their window and their copy, and moves the ring one step. -/
theorem valueRun0_C (c : Dev nD) [Src c] (R : sProp 𝕄) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : ¬cond0_0 (grid0.coords t)) (hc1 : ¬cond0_1 (grid0.coords t)) (hc2 : ¬cond0_2 (grid0.coords t)) :
      ∀ (W : Waits sig Unit) (K : PUnit → sProp 𝕄),
        iprop((some0 c arg2 ∗ some0 c arg3 ∗ some0 c arg4 ∗ some0 c arg5 ∗ R ∗ some0 c scM0_1 ∗ someP c scM0_2 (F10 (Src.W (c := c)) t.val 0) ∗ some0 c scM0_3 ∗ some0 c scM0_4 ∗ some0 c scM0_5 ∗ some0 c scM0_6) ∗ (Ring.inflight (flightW0_0 c (Src.W (c := c))) (Ring.sl 3 t.val) (Ring.bk 32 t.val) ∗ Ring.slotAt 2 (cellP0_0 c) (slotW0_0 c (Src.W (c := c))) (flightW0_0 c (Src.W (c := c))) t.val 1 ∗ Ring.free (cellP0_0 c) (slotW0_0 c (Src.W (c := c))) (Ring.sl 3 (t.val + 2))) ∗ owes (c : Thread nD τ) 0 W
            ∗ (iprop((someP c arg2 (F2 (Src.W (c := c)) t 12) ∗ someP c arg3 (F3 (Src.W (c := c)) t 12) ∗ some0 c arg4 ∗ some0 c arg5 ∗ R ∗ some0 c scM0_1 ∗ someP c scM0_2 (F10 (Src.W (c := c)) (t.val + 1) 0) ∗ some0 c scM0_3 ∗ some0 c scM0_4 ∗ some0 c scM0_5 ∗ some0 c scM0_6) ∗ (Ring.slotAt 2 (cellP0_0 c) (slotW0_0 c (Src.W (c := c))) (flightW0_0 c (Src.W (c := c))) t.val 1 ∗ Ring.free (cellP0_0 c) (slotW0_0 c (Src.W (c := c))) (Ring.sl 3 (t.val + 2)) ∗ Ring.free (cellP0_0 c) (slotW0_0 c (Src.W (c := c))) (Ring.sl 3 t.val)) ∗ (∃ W', owes (c : Thread nD τ) 0 W')) -∗ K ⟨⟩))
          ⊢ wp frame (wpE (defs₀ (F := Ideal)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (¬cond0_0 (grid0.coords t)) := ⟨hc0⟩
    haveI : Fact (¬cond0_1 (grid0.coords t)) := ⟨hc1⟩
    simp only [cc0_nf4_encode_eq_skeleton]; unfold cc0_nf4_encode_skel; simp only [k0_part93_eq_skeleton, bind_pure_unit]; unfold k0_part93_skel; simp only [k0_part90_eq_skeleton, k0_part91_eq_skeleton, k0_part92_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    have hsl := slotOf t
    unfold Ring.free Ring.inflight
    iintro ⟨⟨⟨%f_H2, H2⟩, ⟨%f_H3, H3⟩, ⟨%f_H4, H4⟩, ⟨%f_H5, H5⟩, H6, ⟨%f_HS1, HS1⟩, ⟨%f_HS2, HS2, %hF10⟩, ⟨%f_HS3, HS3⟩, ⟨%f_HS4, HS4⟩, ⟨%f_HS5, HS5⟩, ⟨%f_HS6, HS6⟩⟩, ⟨⟨%ff0, Hf0, Hrf0⟩, Hro, ⟨Hc2, ⟨%fs2, Hs2, Hw2⟩⟩⟩, HW, Hk⟩
    have h2 : F2 (Src.W (c := c)) t 0 (arg2.view.read (Elt Ideal) f_H2) := F2_zero _ _ _
    have h3 : F3 (Src.W (c := c)) t 0 (arg3.view.read (Elt Ideal) f_H3) := F3_zero _ _ _
    have h11 : F11 (Src.W (c := c)) t 0 (scM0_3.view.read (Elt Ideal) f_HS3) := F11_zero _ _ _
    have h12 : F12 (Src.W (c := c)) t 0 (scM0_4.view.read (Elt Ideal) f_HS4) := F12_zero _ _ _
    have hX0 := XIs_landed (Src.W (c := c)) t (rslot0_0 (Ring.sl 3 t.val)).view.junk
    sl_exec (disch := first | sl_exact hc0 | sl_exact hc1 | sl_exact hc2)
    sl_step
    iapply Hk
    isplitl [H2 H3 H4 H5 H6 HS1 HS2 HS3 HS4 HS5 HS6]
    · isplitl [H2]; · iexists _; isplitl [H2]; · iexact H2
                      ipureintro; assumption
      isplitl [H3]; · iexists _; isplitl [H3]; · iexact H3
                      ipureintro; assumption
      isplitl [H4]; · iexists _; iexact H4
      isplitl [H5]; · iexists _; iexact H5
      isplitl [H6]; · iexact H6
      isplitl [HS1]; · iexists _; iexact HS1
      isplitl [HS2]; · iexists _; isplitl [HS2]; · iexact HS2
                       ipureintro; refine F10_next _ _ _ ?_; assumption
      isplitl [HS3]; · iexists _; iexact HS3
      isplitl [HS4]; · iexists _; iexact HS4
      isplitl [HS5]; · iexists _; iexact HS5
      iexists _; iexact HS6
    isplitl [Hro Hc2 Hs2 Hw2 Hf0 Hf0_dst Hf0_src Hrf0]
    · isplitl [Hro]; · iexact Hro
      isplitl [Hc2 Hs2 Hw2]
      · isplitl [Hc2]; · iexact Hc2
        iexists _; isplitl [Hs2]; · iexact Hs2
        iexact Hw2
      isplitl [Hf0]; · iexact Hf0
      iexists _; isplitl [Hf0_dst]; · iexact Hf0_dst
      iapply (src0_0_split c (Src.W (c := c)) (Ring.sl 3 t.val) (Ring.bk 32 t.val)).2; isplitl [Hf0_src]; · iexact Hf0_src
      iexact Hrf0
    iexists _; iexact HW

end Cert.KernelIdeal.Hand

end
-- ==== Proof.VRunD.lean ====
/- The body at one kind of point, with the maxima it leaves. -/
module

public import proofs.«01_k».proof.Proof.VLand

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt Ideal) ℕ (Pipeline.UD sig nD τ) ℕ

variable (m : (ℓ : Loc nD τ sig) → Buf (Elt Ideal) ℓ) (ρ : Dev nD → PrngReg)

set_option maxHeartbeats 16000000 in
/-- At the last point, where the scales are quantised: the body runs, leaves the codes and the maxima in their window and their copy, and moves the ring one step. -/
theorem valueRun0_D (c : Dev nD) [Src c] (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : ¬cond0_0 (grid0.coords t)) (hc1 : ¬cond0_1 (grid0.coords t)) (hc2 : cond0_2 (grid0.coords t)) :
      ∀ (W : Waits sig Unit) (K : PUnit → sProp 𝕄),
        iprop((some0 c arg2 ∗ some0 c arg3 ∗ some0 c arg4 ∗ some0 c arg5 ∗ some0 c arg6 ∗ some0 c scM0_1 ∗ someP c scM0_2 (F10 (Src.W (c := c)) t.val 0) ∗ some0 c scM0_3 ∗ some0 c scM0_4 ∗ some0 c scM0_5 ∗ some0 c scM0_6) ∗ (Ring.inflight (flightW0_0 c (Src.W (c := c))) (Ring.sl 3 t.val) (Ring.bk 32 t.val) ∗ Ring.slotAt 2 (cellP0_0 c) (slotW0_0 c (Src.W (c := c))) (flightW0_0 c (Src.W (c := c))) t.val 1 ∗ Ring.free (cellP0_0 c) (slotW0_0 c (Src.W (c := c))) (Ring.sl 3 (t.val + 2))) ∗ owes (c : Thread nD τ) 0 W
            ∗ (iprop((someP c arg2 (F2 (Src.W (c := c)) t 12) ∗ someP c arg3 (F3 (Src.W (c := c)) t 12) ∗ some0 c arg4 ∗ some0 c arg5 ∗ someP c arg6 (OffIs (Src.W (c := c))) ∗ some0 c scM0_1 ∗ some0 c scM0_2 ∗ some0 c scM0_3 ∗ some0 c scM0_4 ∗ some0 c scM0_5 ∗ some0 c scM0_6) ∗ (Ring.slotAt 2 (cellP0_0 c) (slotW0_0 c (Src.W (c := c))) (flightW0_0 c (Src.W (c := c))) t.val 1 ∗ Ring.free (cellP0_0 c) (slotW0_0 c (Src.W (c := c))) (Ring.sl 3 (t.val + 2)) ∗ Ring.free (cellP0_0 c) (slotW0_0 c (Src.W (c := c))) (Ring.sl 3 t.val)) ∗ (∃ W', owes (c : Thread nD τ) 0 W')) -∗ K ⟨⟩))
          ⊢ wp frame (wpE (defs₀ (F := Ideal)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (¬cond0_0 (grid0.coords t)) := ⟨hc0⟩
    haveI : Fact (¬cond0_1 (grid0.coords t)) := ⟨hc1⟩
    simp only [cc0_nf4_encode_eq_skeleton]; unfold cc0_nf4_encode_skel; simp only [k0_part93_eq_skeleton, bind_pure_unit]; unfold k0_part93_skel; simp only [k0_part90_eq_skeleton, k0_part91_eq_skeleton, k0_part92_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    have hsl := slotOf t
    unfold Ring.free Ring.inflight
    iintro ⟨⟨⟨%f_H2, H2⟩, ⟨%f_H3, H3⟩, ⟨%f_H4, H4⟩, ⟨%f_H5, H5⟩, ⟨%f_H6, H6⟩, ⟨%f_HS1, HS1⟩, ⟨%f_HS2, HS2, %hF10⟩, ⟨%f_HS3, HS3⟩, ⟨%f_HS4, HS4⟩, ⟨%f_HS5, HS5⟩, ⟨%f_HS6, HS6⟩⟩, ⟨⟨%ff0, Hf0, Hrf0⟩, Hro, ⟨Hc2, ⟨%fs2, Hs2, Hw2⟩⟩⟩, HW, Hk⟩
    have h2 : F2 (Src.W (c := c)) t 0 (arg2.view.read (Elt Ideal) f_H2) := F2_zero _ _ _
    have h3 : F3 (Src.W (c := c)) t 0 (arg3.view.read (Elt Ideal) f_H3) := F3_zero _ _ _
    have h11 : F11 (Src.W (c := c)) t 0 (scM0_3.view.read (Elt Ideal) f_HS3) := F11_zero _ _ _
    have h12 : F12 (Src.W (c := c)) t 0 (scM0_4.view.read (Elt Ideal) f_HS4) := F12_zero _ _ _
    have hX0 := XIs_landed (Src.W (c := c)) t (rslot0_0 (Ring.sl 3 t.val)).view.junk
    have ha0 := AccIs_zero (Src.W (c := c))
    sl_exec (disch := first | sl_exact hc0 | sl_exact hc1 | sl_exact hc2)
    sl_step
    iapply Hk
    isplitl [H2 H3 H4 H5 H6 HS1 HS2 HS3 HS4 HS5 HS6]
    · isplitl [H2]; · iexists _; isplitl [H2]; · iexact H2
                      ipureintro; assumption
      isplitl [H3]; · iexists _; isplitl [H3]; · iexact H3
                      ipureintro; assumption
      isplitl [H4]; · iexists _; iexact H4
      isplitl [H5]; · iexists _; iexact H5
      isplitl [H6]; · iexists _; isplitl [H6]; · iexact H6
                      ipureintro; exact OffIs_store arg6 fun _ => mean_of_AccIs (by assumption)
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    isplitl [Hro Hc2 Hs2 Hw2 Hf0 Hf0_dst Hf0_src Hrf0]
    · isplitl [Hro]; · iexact Hro
      isplitl [Hc2 Hs2 Hw2]
      · isplitl [Hc2]; · iexact Hc2
        iexists _; isplitl [Hs2]; · iexact Hs2
        iexact Hw2
      isplitl [Hf0]; · iexact Hf0
      iexists _; isplitl [Hf0_dst]; · iexact Hf0_dst
      iapply (src0_0_split c (Src.W (c := c)) (Ring.sl 3 t.val) (Ring.bk 32 t.val)).2; isplitl [Hf0_src]; · iexact Hf0_src
      iexact Hrf0
    iexists _; iexact HW

end Cert.KernelIdeal.Hand

end
-- ==== Proof.VFrame.lean ====
/- The whole run: the pipeline's proof data, the body at any point, the frame, and the maxima the run leaves. -/
module

public import proofs.«01_k».proof.Proof.VRunA
public import proofs.«01_k».proof.Proof.VRunB
public import proofs.«01_k».proof.Proof.VRunC
public import proofs.«01_k».proof.Proof.VRunD
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- A memref owned whole at something is its cells at some contents, -/
theorem some0_of_owns (c : Dev nD) {sp : Space} {S : Shape} {e : EltTy} (M : Memref sig .tc sp S e) :
    iprop(∃ d, owns (c : Thread nD τ) M fullShare d) ⊢ (some0 (F := Ideal) c M : sProp 𝕄) := by
  unfold owns
  iintro ⟨%d, %f, -, H⟩
  iexists _; iexact H

/-- and conversely. -/
theorem owns_of_some0 (c : Dev nD) {sp : Space} {S : Shape} {e : EltTy} (M : Memref sig .tc sp S e) :
    (some0 (F := Ideal) c M : sProp 𝕄) ⊢ iprop(∃ d, owns (c : Thread nD τ) M fullShare d) := by
  unfold owns
  iintro ⟨%f, H⟩
  iexists _, _; isplitr; swap; · iexact H
  ipureintro; rfl

/-- Ownership at some value of which a fact is known is cells of whose contents the fact is known, -/
theorem someP_of_owns (c : Dev nD) {sp : Space} {S : Shape} {e : EltTy} (M : Memref sig .tc sp S e) (Φ : Vec Ideal S e → Prop) :
    iprop(∃ d, iprop(owns (c : Thread nD τ) M fullShare d ∗ ⌜Φ d⌝)) ⊢ (someP (F := Ideal) c M Φ : sProp 𝕄) := by
  unfold owns
  iintro ⟨%d, ⟨%f, %e, H⟩, %h⟩
  iexists _; isplitl [H]; · iexact H
  ipureintro; rw [e]; exact h

/-- and conversely. -/
theorem owns_of_someP (c : Dev nD) {sp : Space} {S : Shape} {e : EltTy} (M : Memref sig .tc sp S e) (Φ : Vec Ideal S e → Prop) :
    (someP (F := Ideal) c M Φ : sProp 𝕄) ⊢ iprop(∃ d, iprop(owns (c : Thread nD τ) M fullShare d ∗ ⌜Φ d⌝)) := by
  unfold owns
  iintro ⟨%f, H, %h⟩
  iexists _; isplitl [H]
  · iexists _; isplitr; swap; · iexact H
    ipureintro; rfl
  ipureintro; exact h

/-- A fact may be replaced by one that follows from it. -/
theorem someP_mono (c : Dev nD) {sp : Space} {S : Shape} {e : EltTy} (M : Memref sig .tc sp S e) {Φ Ψ : Vec Ideal S e → Prop} (h : ∀ d, Φ d → Ψ d) :
    (someP (F := Ideal) c M Φ : sProp 𝕄) ⊢ someP (F := Ideal) c M Ψ := by
  iintro ⟨%f, H, %hf⟩
  iexists _; isplitl [H]; · iexact H
  ipureintro; exact h _ hf

/-- Nothing known is a fact too. -/
theorem someP_of_some0 (c : Dev nD) {sp : Space} {S : Shape} {e : EltTy} (M : Memref sig .tc sp S e) {Ψ : Vec Ideal S e → Prop} (h : ∀ d, Ψ d) :
    (some0 (F := Ideal) c M : sProp 𝕄) ⊢ someP (F := Ideal) c M Ψ := by
  iintro ⟨%f, H⟩
  iexists _; isplitl [H]; · iexact H
  ipureintro; exact h _

/-- The maxima one point writes. -/
def maxBlk {c : Dev nD} (W : HbBuf0 (F := Ideal) c hbM0_0) (t : Fin grid0.N) : Vec Ideal S1x8x1536 .f32 :=
  fun i => AM W (8 * (t.val / 8) + (i 1).val) (1536 * (t.val % 8) + (i 2).val)

theorem maxBlk_of_F3 {c : Dev nD} {W : HbBuf0 (F := Ideal) c hbM0_0} {t : Fin grid0.N} {g : Vec Ideal S1x8x1536 .f32} (h : F3 W t 12 g) : g = maxBlk W t := by
  unfold F3 at h
  funext i
  have hi : i = ix3 (n0 := 1) (n1 := 8) (n2 := 1536) (0 : Fin 1) (i 1) (i 2) := by
    funext a
    fin_cases a
    · exact Subsingleton.elim (α := Fin 1) _ _
    · rfl
    · rfl
  have e := h (i 1) (i 2) (lt_of_lt_of_eq (i 2).isLt rfl)
  exact (congrArg g hi).trans e

/-- The packed codes one point writes. -/
def packBlk {c : Dev nD} (W : HbBuf0 (F := Ideal) c hbM0_0) (t : Fin grid0.N) : Vec Ideal S1x256x1536 .i8 :=
  fun i => pb W (256 * (t.val / 8) + (i 1).val) (1536 * (t.val % 8) + (i 2).val)

theorem packBlk_of_F2 {c : Dev nD} {W : HbBuf0 (F := Ideal) c hbM0_0} {t : Fin grid0.N} {g : Vec Ideal S1x256x1536 .i8} (h : F2 W t 12 g) : g = packBlk W t := by
  unfold F2 at h
  funext i
  have hi : i = ix3 (n0 := 1) (n1 := 256) (n2 := 1536) (0 : Fin 1) (i 1) (i 2) := by
    funext a
    fin_cases a
    · exact Subsingleton.elim (α := Fin 1) _ _
    · rfl
    · rfl
  have e := h (i 1) (i 2) (lt_of_lt_of_eq (i 2).isLt rfl)
  exact (congrArg g hi).trans e

/-- The mean as the last point writes it. -/
def meanBlk {c : Dev nD} (W : HbBuf0 (F := Ideal) c hbM0_0) : Vec Ideal S1x1 .f32 := fun _ => meanAM W

theorem meanBlk_of_OffIs {c : Dev nD} {W : HbBuf0 (F := Ideal) c hbM0_0} {g : Vec Ideal S1x1 .f32} (h : OffIs W g) : g = meanBlk W := by
  unfold OffIs at h
  exact funext h

/-- What is known of the copy of the maxima before point `k`. -/
def K10 {c : Dev nD} (W : HbBuf0 (F := Ideal) c hbM0_0) (k : ℕ) (g : Vec Ideal S32x12288 .f32) : Prop := k < 32 → F10 W k 0 g

theorem K10_next (c : Dev nD) (W : HbBuf0 (F := Ideal) c hbM0_0) (k : ℕ) : (someP (F := Ideal) c scM0_2 (F10 W k 0) : sProp 𝕄) ⊢ someP (F := Ideal) c scM0_2 (K10 W k) :=
  someP_mono c scM0_2 fun d h _ => h

theorem K10_last (c : Dev nD) (W : HbBuf0 (F := Ideal) c hbM0_0) {k : ℕ} (hk : ¬k < 32) : (some0 (F := Ideal) c scM0_2 : sProp 𝕄) ⊢ someP (F := Ideal) c scM0_2 (K10 W k) :=
  someP_of_some0 c scM0_2 fun d h => absurd h hk

/-! ## The pipeline's proof data -/

/-- What is held of the scratch buffers before point `k`. -/
def scr0 (c : Dev nD) (k : ℕ) : sProp 𝕄 := iprop((∃ d, owns (c : Thread nD τ) scM0_1 fullShare d) ∗ (∃ d, iprop(owns (c : Thread nD τ) scM0_2 fullShare d ∗ ⌜K10 (c := c) (V m c main_arg0) k d⌝)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d))

/-- The region invariant before point `k`: the scratch, the copy of the maxima filled so far, the generator register at some state, the ring before the point. -/
def PhiR (c : Dev nD) (k : ℕ) : sProp 𝕄 := iprop(scr0 m c k ∗ (∃ r, prngReg c r) ∗ ringAt0_0 c (V m c main_arg0) k)

/-- Nothing is named of what is left in a window but the packed codes, the maxima and their mean. -/
def forgets0 : Fin 5 → Bool := fun w => decide (w.val ≠ 0 ∧ w.val ≠ 1 ∧ w.val ≠ 4)

/-- The proof data of the pipeline on core `c`. -/
def dats (_ : Fin 1) (c : Dev nD) : Dat τ (Elt Ideal) Unit ℕ (Pipeline.UD sig nD τ) ℕ cfg0 c where
  A w := V m c (Pipeline.arrRef spec0 w)
  after w t := match w with
    | ⟨0, h⟩ => packBlk (c := c) (V m c main_arg0) t
    | ⟨1, h⟩ => maxBlk (c := c) (V m c main_arg0) t
    | ⟨2, h⟩ => Pipeline.Dat.unnamed (cfg := cfg0) ⟨2, h⟩ t
    | ⟨3, h⟩ => Pipeline.Dat.unnamed (cfg := cfg0) ⟨3, h⟩ t
    | ⟨4, h⟩ => meanBlk (c := c) (V m c main_arg0)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- The window of the mean as the point finds it. -/
def seen4 (c : Dev nD) (t : Fin cfg0.N) : sProp 𝕄 := iprop(∃ d, owns (c : Thread nD τ) (ms0_4 t) fullShare ((dats m 0 c).before 4 t d))

theorem some0_of_seen4 (c : Dev nD) (t : Fin cfg0.N) : seen4 m c t ⊢ (some0 (F := Ideal) c (ms0_4 t) : sProp 𝕄) := by
  unfold seen4
  iintro ⟨%d, H⟩
  iapply some0_of_owns; iexists _; iexact H

theorem flush4 : ∀ t : Fin grid0.N, t.val ≠ 31 → win0_4.flush t = false := by decide +kernel

/-- Before the last point the window of the mean is left as it was found, -/
theorem leaves4_idle (c : Dev nD) (t : Fin cfg0.N) (h : t.val ≠ 31) : seen4 m c t ⊢ ((dats m 0 c).leavesExact 4 t : sProp 𝕄) := by
  have hi : cfg0.idle 4 (cfg0.grid.coords t) = true := by
    show (!(k0_cond3 (grid0.coords t) == 1#1)) = true
    simpa using fun h' => h ((hcond0_2 t).mp h')
  rw [(dats m 0 c).leavesExact_idle 4 t hi (flush4 t h)]
  exact Idealize.SL.BI.Entails.refl _

/-- and the last point leaves the mean in it. -/
theorem leaves4_last (c : Dev nD) (t : Fin cfg0.N) (h : t.val = 31) : (someP (F := Ideal) c (ms0_4 t) (OffIs (c := c) (V m c main_arg0)) : sProp 𝕄) ⊢ (dats m 0 c).leavesExact 4 t := by
  have hi : cfg0.idle 4 (cfg0.grid.coords t) = false := by
    show (!(k0_cond3 (grid0.coords t) == 1#1)) = false
    rw [(hcond0_2 t).mpr h]; rfl
  unfold Dat.leavesExact
  rw [hi]
  iintro H
  ihave H := (owns_of_someP c (ms0_4 t) (OffIs (c := c) (V m c main_arg0))) $$ H
  icases H with ⟨%d, H, %h⟩
  rw [show (dats m 0 c).after 4 t = d from (meanBlk_of_OffIs h).symm]
  iexact H

/-- The windows' staging memrefs at anything, that of the mean as found. -/
def win0 (c : Dev nD) (t : Fin cfg0.N) : sProp 𝕄 := iprop((∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare d) ∗ (∃ d, owns (c : Thread nD τ) (ms0_3 t) fullShare d) ∗ seen4 m c t)

/-- The same after the point: the packed codes and the maxima in their windows. -/
def win0' (c : Dev nD) (t : Fin cfg0.N) : sProp 𝕄 := iprop(owns (c : Thread nD τ) (ms0_0 t) fullShare ((dats m 0 c).after 0 t) ∗ owns (c : Thread nD τ) (ms0_1 t) fullShare ((dats m 0 c).after 1 t) ∗ (∃ d, owns (c : Thread nD τ) (ms0_2 t) fullShare d) ∗ (∃ d, owns (c : Thread nD τ) (ms0_3 t) fullShare d) ∗ (dats m 0 c).leavesExact 4 t)

/-- What the body takes, -/
def held0 (c : Dev nD) (t : Fin cfg0.N) : sProp 𝕄 :=
  iprop(some0 c (ms0_0 t) ∗ some0 c (ms0_1 t) ∗ some0 c (ms0_2 t) ∗ some0 c (ms0_3 t) ∗ seen4 m c t ∗ some0 c scM0_1 ∗ someP c scM0_2 (F10 (c := c) (V m c main_arg0) t.val 0) ∗ some0 c scM0_3 ∗ some0 c scM0_4 ∗ some0 c scM0_5 ∗ some0 c scM0_6)

/-- and what it gives back. -/
def held0' (c : Dev nD) (t : Fin cfg0.N) : sProp 𝕄 :=
  iprop(someP c (ms0_0 t) (F2 (c := c) (V m c main_arg0) t 12) ∗ someP c (ms0_1 t) (F3 (c := c) (V m c main_arg0) t 12) ∗ some0 c (ms0_2 t) ∗ some0 c (ms0_3 t) ∗ (dats m 0 c).leavesExact 4 t ∗ some0 c scM0_1 ∗ someP c scM0_2 (K10 (c := c) (V m c main_arg0) (t.val + 1)) ∗ some0 c scM0_3 ∗ some0 c scM0_4 ∗ some0 c scM0_5 ∗ some0 c scM0_6)

theorem held0_in (c : Dev nD) (t : Fin cfg0.N) (hN : t.val < 32) : iprop(scr0 m c t.val ∗ win0 m c t) ⊢ (held0 m c t : sProp 𝕄) := by
  unfold scr0 win0 held0
  iintro ⟨⟨HS1, HS2, HS3, HS4, HS5, HS6⟩, H0, H1, H2, H3, H4⟩
  isplitl [H0]; · iapply some0_of_owns; icases H0 with ⟨%d, H0⟩; iexists _; iexact H0
  isplitl [H1]; · iapply some0_of_owns; icases H1 with ⟨%d, H1⟩; iexists _; iexact H1
  isplitl [H2]; · iapply some0_of_owns; iexact H2
  isplitl [H3]; · iapply some0_of_owns; iexact H3
  isplitl [H4]; · iexact H4
  isplitl [HS1]; · iapply some0_of_owns; iexact HS1
  isplitl [HS2]; · iapply someP_mono (Φ := K10 (c := c) (V m c main_arg0) t.val) (h := fun d h => h hN); iapply someP_of_owns; iexact HS2
  isplitl [HS3]; · iapply some0_of_owns; iexact HS3
  isplitl [HS4]; · iapply some0_of_owns; iexact HS4
  isplitl [HS5]; · iapply some0_of_owns; iexact HS5
  iapply some0_of_owns; iexact HS6

theorem held0_out (c : Dev nD) (t : Fin cfg0.N) : (held0' m c t : sProp 𝕄) ⊢ iprop(scr0 m c (t.val + 1) ∗ win0' m c t) := by
  unfold scr0 win0' held0'
  iintro ⟨H0, H1, H2, H3, H4, HS1, HS2, HS3, HS4, HS5, HS6⟩
  isplitl [HS1 HS2 HS3 HS4 HS5 HS6]
  · isplitl [HS1]; · iapply owns_of_some0; iexact HS1
    isplitl [HS2]; · iapply owns_of_someP; iexact HS2
    isplitl [HS3]; · iapply owns_of_some0; iexact HS3
    isplitl [HS4]; · iapply owns_of_some0; iexact HS4
    isplitl [HS5]; · iapply owns_of_some0; iexact HS5
    iapply owns_of_some0; iexact HS6
  isplitl [H0]
  · ihave H := (owns_of_someP c (ms0_0 t) (F2 (c := c) (V m c main_arg0) t 12)) $$ H0
    icases H with ⟨%d, H, %h⟩
    rw [show (dats m 0 c).after 0 t = d from (packBlk_of_F2 h).symm]
    iexact H
  isplitl [H1]
  · ihave H := (owns_of_someP c (ms0_1 t) (F3 (c := c) (V m c main_arg0) t 12)) $$ H1
    icases H with ⟨%d, H, %h⟩
    rw [show (dats m 0 c).after 1 t = d from (maxBlk_of_F3 h).symm]
    iexact H
  isplitl [H2]; · iapply owns_of_some0; iexact H2
  isplitl [H3]; · iapply owns_of_some0; iexact H3
  iexact H4

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc ∗ win0 m c t)

/-- and what it returns. -/
def bodyPost (c : Dev nD) (t : Fin cfg0.N) : sProp 𝕄 :=
  iprop((dats m 0 c).Φ t.succ ∗ (dats m 0 c).owesAt () t.succ ∗ win0' m c t)

set_option maxHeartbeats 1600000 in
/-- The body at any point: the closed forms of its conditions say which case the point is in, and that case's run applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 32 := N_0
  have hN : t.val < 32 := lt_of_lt_of_eq t.isLt (show cfg0.N = 32 from N_0)
  by_cases h0 : t.val % 32 = 0
  · have h1 : t.val < 30 := by omega
    have hr0 := rstep0_0_A t ((hcond0_0 t).mpr h0) ((hcond0_1 t).mpr h1)
    obtain ⟨hK00, hK10⟩ := hr0
    rw [if_pos hK00, if_neg (show ¬t.val + 1 = 0 by omega)]
    rw [Ring.At₀_eq3' _ _ _ t.val hK00 (by decide : 3 ≤ 32), Ring.At3_one' _ _ _ _ t.val hK00 (by decide : 3 ≤ 32)]
    iintro ⟨⟨HS, Hg, ⟨-, Hfr0, Hfr1, Hfr2⟩⟩, ⟨%W, -, HW⟩, Hw⟩
    ihave HH := (held0_in m c t hN) $$ [HS Hw]
    · isplitl [HS]; · iexact HS
      iexact Hw
    unfold held0
    iapply ((@valueRun0_A c ⟨V m c main_arg0⟩ (seen4 m c t) t _ _ _ _ _ _ _ _ _ _ ((hcond0_0 t).mpr h0) ((hcond0_1 t).mpr h1) (fun h => absurd ((hcond0_2 t).mp h) (by omega))) W _)
    isplitl [HH]; · iexact HH
    isplitl [Hfr0 Hfr1 Hfr2]
    · isplitl [Hfr0]; · iexact Hfr0
      isplitl [Hfr1]; · iexact Hfr1
      iexact Hfr2
    isplitl [HW]; · iexact HW
    iintro ⟨HH, ⟨Hfa, Hfb, Hfc⟩, ⟨%W', HW'⟩⟩
    ihave HB := (held0_out m c t) $$ [HH]
    · unfold held0'; icases HH with ⟨H0, H1, H2, H3, H4, HS1, HS2, HS3, HS4, HS5, HS6⟩
      isplitl [H0]; · iexact H0
      isplitl [H1]; · iexact H1
      isplitl [H2]; · iexact H2
      isplitl [H3]; · iexact H3
      isplitl [H4]; · iapply (leaves4_idle m c t (by omega)); iexact H4
      isplitl [HS1]; · iexact HS1
      isplitl [HS2]; · iapply (K10_next c (V m c main_arg0) (t.val + 1)); iexact HS2
      isplitl [HS3]; · iexact HS3
      isplitl [HS4]; · iexact HS4
      isplitl [HS5]; · iexact HS5
      iexact HS6
    icases HB with ⟨HS, Hw⟩
    isplitl [HS Hg Hfa Hfb Hfc]
    · isplitl [HS]; · iexact HS
      isplitl [Hg]; · iexact Hg
      iapply (Ring.with_homes (Idealize.SL.BI.Entails.refl _))
      isplitl [Hfa]; · iexact Hfa
      isplitl [Hfb]; · iexact Hfb
      iexact Hfc
    isplitl [HW']
    · iexists W'; isplitr; · ipureintro; exact fun _ _ => Or.inl trivial
      iexact HW'
    iexact Hw
  · by_cases h1 : t.val < 30
    · have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      iintro ⟨⟨HS, Hg, ⟨-, Hfr0, Hfr1, Hfr2⟩⟩, ⟨%W, -, HW⟩, Hw⟩
      ihave HH := (held0_in m c t hN) $$ [HS Hw]
      · isplitl [HS]; · iexact HS
        iexact Hw
      unfold held0
      iapply ((@valueRun0_B c ⟨V m c main_arg0⟩ (seen4 m c t) t _ _ _ _ _ _ _ _ _ _ (fun h => h0 ((hcond0_0 t).mp h)) ((hcond0_1 t).mpr h1) (fun h => absurd ((hcond0_2 t).mp h) (by omega))) W _)
      isplitl [HH]; · iexact HH
      isplitl [Hfr0 Hfr1 Hfr2]
      · isplitl [Hfr0]; · iexact Hfr0
        isplitl [Hfr1]; · iexact Hfr1
        iexact Hfr2
      isplitl [HW]; · iexact HW
      iintro ⟨HH, ⟨Hfa, Hfb, Hfc⟩, ⟨%W', HW'⟩⟩
      ihave HB := (held0_out m c t) $$ [HH]
      · unfold held0'; icases HH with ⟨H0, H1, H2, H3, H4, HS1, HS2, HS3, HS4, HS5, HS6⟩
        isplitl [H0]; · iexact H0
        isplitl [H1]; · iexact H1
        isplitl [H2]; · iexact H2
        isplitl [H3]; · iexact H3
        isplitl [H4]; · iapply (leaves4_idle m c t (by omega)); iexact H4
        isplitl [HS1]; · iexact HS1
        isplitl [HS2]; · iapply (K10_next c (V m c main_arg0) (t.val + 1)); iexact HS2
        isplitl [HS3]; · iexact HS3
        isplitl [HS4]; · iexact HS4
        isplitl [HS5]; · iexact HS5
        iexact HS6
      icases HB with ⟨HS, Hw⟩
      isplitl [HS Hg Hfa Hfb Hfc]
      · isplitl [HS]; · iexact HS
        isplitl [Hg]; · iexact Hg
        iapply (Ring.with_homes (Idealize.SL.BI.Entails.refl _))
        isplitl [Hfa]; · iexact Hfa
        isplitl [Hfb]; · iexact Hfb
        iexact Hfc
      isplitl [HW']
      · iexists W'; isplitr; · ipureintro; exact fun _ _ => Or.inl trivial
        iexact HW'
      iexact Hw
    · have hr0 := rstep0_0_C t (fun h => h0 ((hcond0_0 t).mp h)) (fun h => h1 ((hcond0_1 t).mp h))
      obtain ⟨hK10, hKB0, hKlt0, hKs0⟩ := hr0
      rw [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      by_cases h2 : t.val = 31
      · iintro ⟨⟨HS, Hg, ⟨-, Hfr0, Hfr1, Hfr2⟩⟩, ⟨%W, -, HW⟩, Hw⟩
        ihave HH := (held0_in m c t hN) $$ [HS Hw]
        · isplitl [HS]; · iexact HS
          iexact Hw
        unfold held0
        iapply ((@valueRun0_D c ⟨V m c main_arg0⟩ t _ _ _ _ _ _ _ _ _ _ (fun h => h0 ((hcond0_0 t).mp h)) (fun h => h1 ((hcond0_1 t).mp h)) ((hcond0_2 t).mpr h2)) W _)
        isplitl [HH]
        · icases HH with ⟨H0, H1, H2, H3, H4, HS1, HS2, HS3, HS4, HS5, HS6⟩
          isplitl [H0]; · iexact H0
          isplitl [H1]; · iexact H1
          isplitl [H2]; · iexact H2
          isplitl [H3]; · iexact H3
          isplitl [H4]; · iapply (some0_of_seen4 m c t); iexact H4
          isplitl [HS1]; · iexact HS1
          isplitl [HS2]; · iexact HS2
          isplitl [HS3]; · iexact HS3
          isplitl [HS4]; · iexact HS4
          isplitl [HS5]; · iexact HS5
          iexact HS6
        isplitl [Hfr0 Hfr1 Hfr2]
        · isplitl [Hfr0]; · iexact Hfr0
          isplitl [Hfr1]; · iexact Hfr1
          iexact Hfr2
        isplitl [HW]; · iexact HW
        iintro ⟨HH, ⟨Hfa, Hfb, Hfc⟩, ⟨%W', HW'⟩⟩
        ihave HB := (held0_out m c t) $$ [HH]
        · unfold held0'; icases HH with ⟨H0, H1, H2, H3, H4, HS1, HS2, HS3, HS4, HS5, HS6⟩
          isplitl [H0]; · iexact H0
          isplitl [H1]; · iexact H1
          isplitl [H2]; · iexact H2
          isplitl [H3]; · iexact H3
          isplitl [H4]; · iapply (leaves4_last m c t h2); iexact H4
          isplitl [HS1]; · iexact HS1
          isplitl [HS2]; · iapply (K10_last c (V m c main_arg0) (k := t.val + 1) (by omega)); iexact HS2
          isplitl [HS3]; · iexact HS3
          isplitl [HS4]; · iexact HS4
          isplitl [HS5]; · iexact HS5
          iexact HS6
        icases HB with ⟨HS, Hw⟩
        isplitl [HS Hg Hfa Hfb Hfc]
        · isplitl [HS]; · iexact HS
          isplitl [Hg]; · iexact Hg
          iapply (Ring.with_homes (Idealize.SL.BI.Entails.refl _))
          isplitl [Hfa]; · iexact Hfa
          isplitl [Hfb]; · iexact Hfb
          iexact Hfc
        isplitl [HW']
        · iexists W'; isplitr; · ipureintro; exact fun _ _ => Or.inl trivial
          iexact HW'
        iexact Hw
      · iintro ⟨⟨HS, Hg, ⟨-, Hfr0, Hfr1, Hfr2⟩⟩, ⟨%W, -, HW⟩, Hw⟩
        ihave HH := (held0_in m c t hN) $$ [HS Hw]
        · isplitl [HS]; · iexact HS
          iexact Hw
        unfold held0
        iapply ((@valueRun0_C c ⟨V m c main_arg0⟩ (seen4 m c t) t _ _ _ _ _ _ _ _ _ _ (fun h => h0 ((hcond0_0 t).mp h)) (fun h => h1 ((hcond0_1 t).mp h)) (fun h => h2 ((hcond0_2 t).mp h))) W _)
        isplitl [HH]; · iexact HH
        isplitl [Hfr0 Hfr1 Hfr2]
        · isplitl [Hfr0]; · iexact Hfr0
          isplitl [Hfr1]; · iexact Hfr1
          iexact Hfr2
        isplitl [HW]; · iexact HW
        iintro ⟨HH, ⟨Hfa, Hfb, Hfc⟩, ⟨%W', HW'⟩⟩
        ihave HB := (held0_out m c t) $$ [HH]
        · unfold held0'; icases HH with ⟨H0, H1, H2, H3, H4, HS1, HS2, HS3, HS4, HS5, HS6⟩
          isplitl [H0]; · iexact H0
          isplitl [H1]; · iexact H1
          isplitl [H2]; · iexact H2
          isplitl [H3]; · iexact H3
          isplitl [H4]; · iapply (leaves4_idle m c t (by omega)); iexact H4
          isplitl [HS1]; · iexact HS1
          isplitl [HS2]; · iapply (K10_next c (V m c main_arg0) (t.val + 1)); iexact HS2
          isplitl [HS3]; · iexact HS3
          isplitl [HS4]; · iexact HS4
          isplitl [HS5]; · iexact HS5
          iexact HS6
        icases HB with ⟨HS, Hw⟩
        isplitl [HS Hg Hfa Hfb Hfc]
        · isplitl [HS]; · iexact HS
          isplitl [Hg]; · iexact Hg
          iapply (Ring.with_homes (Idealize.SL.BI.Entails.refl _))
          isplitl [Hfa]; · iexact Hfa
          isplitl [Hfb]; · iexact Hfb
          iexact Hfc
        isplitl [HW']
        · iexists W'; isplitr; · ipureintro; exact fun _ _ => Or.inl trivial
          iexact HW'
        iexact Hw

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-- What the launch hands the region is the invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR scr0
  iintro ⟨⟨HR0_0, HS⟩, Hg, ⟨Hq0, Hq1, Hq2⟩, Hh0⟩
  icases HS with ⟨HS1, ⟨%d2, HS2⟩, HS3, HS4, HS5, HS6⟩
  isplitl [HS1 HS2 HS3 HS4 HS5 HS6]
  · isplitl [HS1]; · iexact HS1
    isplitl [HS2]
    · iexists d2; isplitl [HS2]; · iexact HS2
      ipureintro; exact fun _ => F10_first _ _
    isplitl [HS3]; · iexact HS3
    isplitl [HS4]; · iexact HS4
    isplitl [HS5]; · iexact HS5
    iexact HS6
  isplitl [Hg]; · iexact Hg
  iapply (ring0_0_in (F := Ideal) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR scr0
  rw [show grid0.N = 32 by rw [N_0]]
  iintro ⟨HS, Hg, HR0_0⟩
  ihave HX0_0 := (ring0_0_out (F := Ideal) m c) $$ HR0_0
  icases HX0_0 with ⟨HR0_0, ⟨Hq0, Hq1, Hq2⟩, Hh0⟩
  isplitl [HR0_0 HS]
  · isplitl [HR0_0]; · iexact HR0_0
    icases HS with ⟨HS1, ⟨%d2, HS2, -⟩, HS3, HS4, HS5, HS6⟩
    isplitl [HS1]; · iexact HS1
    isplitl [HS2]; · iexists d2; iexact HS2
    isplitl [HS3]; · iexact HS3
    isplitl [HS4]; · iexact HS4
    isplitl [HS5]; · iexact HS5
    iexact HS6
  isplitl [Hg]
  · iexact Hg
  isplitl [Hq0 Hq1 Hq2]
  · isplitl [Hq0]; · iexact Hq0
    isplitl [Hq1]; · iexact Hq1
    iexact Hq2
  iexact Hh0

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every weakly fair execution of @main terminates, every buffer but the outputs' arrays as it was. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- The frame: the argument ends unchanged and every counter is back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Hand

end
-- ==== Proof.VMax.lean ====
/- The maxima and their mean that the whole run leaves. -/
module

public import proofs.«01_k».proof.Proof.VFrame
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- All the maxima. -/
def maxArr {c : Dev nD} (W : HbBuf0 (F := Ideal) c hbM0_0) : Vec Ideal S1x32x12288 .f32 := fun i => AM W (i 1).val (i 2).val

/-- Which block of the maxima a point writes. -/
theorem maxBlock_index : ∀ t : Fin grid0.N, win0_1.index t 1 = t.val / 8 ∧ win0_1.index t 2 = t.val % 8 := by decide +kernel

theorem maxBlock_covers : (win0_1).Covers := by decide +kernel

/-- The array of the maxima after the last point. -/
theorem maxArr_eq (c : Dev nD) : (dats m 0 c).arrAt 1 cfg0.N = maxArr (c := c) (V m c main_arg0) := by
  refine Pipeline.Dat.arrAt_eq_of_covers (dats m 0 c) 1 (maxArr (c := c) (V m c main_arg0)) maxBlock_covers (fun t _ y => ?_)
  obtain ⟨h1, h2⟩ := maxBlock_index t
  have e1 : ((((cfg0.win 1).blk t).view.emb y) (1 : Fin 3)).val = win0_1.index t 1 * 8 + 1 * (y 1).val := rfl
  have e2 : ((((cfg0.win 1).blk t).view.emb y) (2 : Fin 3)).val = win0_1.index t 2 * 1536 + 1 * (y 2).val := rfl
  show AM (c := c) (V m c main_arg0) (8 * (t.val / 8) + (y 1).val) (1536 * (t.val % 8) + (y 2).val)
    = AM (c := c) (V m c main_arg0) ((((cfg0.win 1).blk t).view.emb y) (1 : Fin 3)).val ((((cfg0.win 1).blk t).view.emb y) (2 : Fin 3)).val
  rw [e1, e2, h1, h2]
  congr 1 <;> omega

/-- All the packed codes. -/
def packArr {c : Dev nD} (W : HbBuf0 (F := Ideal) c hbM0_0) : Vec Ideal S1x1024x12288 .i8 := fun i => pb W (i 1).val (i 2).val

/-- Which block of the packed codes a point writes. -/
theorem packBlock_index : ∀ t : Fin grid0.N, win0_0.index t 1 = t.val / 8 ∧ win0_0.index t 2 = t.val % 8 := by decide +kernel

theorem packBlock_covers : (win0_0).Covers := by decide +kernel

/-- The array of the packed codes after the last point. -/
theorem packArr_eq (c : Dev nD) : (dats m 0 c).arrAt 0 cfg0.N = packArr (c := c) (V m c main_arg0) := by
  refine Pipeline.Dat.arrAt_eq_of_covers (dats m 0 c) 0 (packArr (c := c) (V m c main_arg0)) packBlock_covers (fun t _ y => ?_)
  obtain ⟨h1, h2⟩ := packBlock_index t
  have e1 : ((((cfg0.win 0).blk t).view.emb y) (1 : Fin 3)).val = win0_0.index t 1 * 256 + 1 * (y 1).val := rfl
  have e2 : ((((cfg0.win 0).blk t).view.emb y) (2 : Fin 3)).val = win0_0.index t 2 * 1536 + 1 * (y 2).val := rfl
  show pb (c := c) (V m c main_arg0) (256 * (t.val / 8) + (y 1).val) (1536 * (t.val % 8) + (y 2).val)
    = pb (c := c) (V m c main_arg0) ((((cfg0.win 0).blk t).view.emb y) (1 : Fin 3)).val ((((cfg0.win 0).blk t).view.emb y) (2 : Fin 3)).val
  rw [e1, e2, h1, h2]
  congr 1 <;> omega

theorem meanBlock_covers : (win0_4).Covers := by decide +kernel

/-- The array of the mean after the last point. -/
theorem meanArr_eq (c : Dev nD) : (dats m 0 c).arrAt 4 cfg0.N = meanBlk (c := c) (V m c main_arg0) :=
  Pipeline.Dat.arrAt_eq_of_covers (dats m 0 c) 4 (meanBlk (c := c) (V m c main_arg0)) meanBlock_covers (fun t _ y => rfl)

/-- The run leaves the packed codes in its first result, the maxima in its second, their mean in its fifth, and its argument as it was. -/
theorem values : θ_run defs (onTc (τ := τ) (main (F := Ideal))) ⟨m, fun _ => 0, ρ⟩ (fun r => ∀ c : Dev nD,
      r.2.mem ((c.tc : Thread nD τ).loc main_v0_0) = packArr (c := c) (V m c main_arg0)
      ∧ r.2.mem ((c.tc : Thread nD τ).loc main_v0_1) = maxArr (c := c) (V m c main_arg0)
      ∧ r.2.mem ((c.tc : Thread nD τ).loc main_v0_4) = meanBlk (c := c) (V m c main_arg0)
      ∧ r.2.mem ((c.tc : Thread nD τ).loc main_arg0) = m ((c.tc : Thread nD τ).loc main_arg0)) :=
  (θ_run defs _ _).mono (fun r h c => ⟨(((dats m 0 c).toRForget_arrAt_iff (fgt := forgets0) (w := 0) rfl _ _).mp ((h.1 c).1 0)).trans (packArr_eq m c),
      (((dats m 0 c).toRForget_arrAt_iff (fgt := forgets0) (w := 1) rfl _ _).mp ((h.1 c).1 1)).trans (maxArr_eq m c),
      (((dats m 0 c).toRForget_arrAt_iff (fgt := forgets0) (w := 4) rfl _ _).mp ((h.1 c).1 4)).trans (meanArr_eq m c), h.2 c⟩)
    (θ_run_and (run_main m ρ) (unchanged m ρ))

end Cert.KernelIdeal.Hand

end
-- ==== Proof.VRef.lean ====
/- The maxima that the reference takes, and their mean. -/
module

public import proofs.«01_k».proof.Proof.VSum
public import proofs.«01_k».proof.Proof.Gen.ReferenceIdeal.Run
public import Idealize.ShloMosaic.Lib.Pointwise

@[expose] public section

set_option maxRecDepth 16384

noncomputable section

namespace Cert.KernelIdeal.Hand

open Idealize.ShloMosaic Idealize.ShloMosaic.TcCoe

/-- A maximum taken from the left is below a bound exactly if what it starts from and every element are. -/
theorem foldl_max_le {ι : Type} (g : ι → EReal) (b : EReal) : ∀ (l : List ι) (a : EReal), l.foldl (fun r n => max r (g n)) a ≤ b ↔ a ≤ b ∧ ∀ n ∈ l, g n ≤ b
  | [], a => by simp
  | n :: l, a => by
    rw [List.foldl_cons, foldl_max_le g b l]
    simp only [max_le_iff, List.mem_cons, forall_eq_or_imp, and_assoc]

/-- A maximum over some axes is below a bound exactly if its elements are. -/
theorem hostMax_le {s t u : Shape} {axes : List (Fin s.rank)} (x : s.Idx → EReal) (init : u.Idx → EReal) (h : s.ReducesTo axes t) (hu : 0 < u.numel) (j : t.Idx) (b : EReal) :
    Host.reduce (fun a b => max a b) x init h hu j ≤ b ↔ init (Shape.Idx.first hu) ≤ b ∧ ∀ i : s.Idx, h.drop i = j → x i ≤ b := by
  unfold Host.reduce
  rw [foldl_max_le (fun n => x (s.rowMajor.symm n)) b]
  refine and_congr_right fun _ => ⟨fun hl i hi => ?_, fun hl n hn => ?_⟩
  · have := hl (s.rowMajor i) (by rw [List.mem_filter]; exact ⟨List.mem_finRange _, by simp [hi]⟩)
    rwa [Equiv.symm_apply_apply] at this
  · rw [List.mem_filter] at hn
    exact hl _ (by simpa using hn.2)

variable {c : Dev Cert.KernelIdeal.nD}

theorem negInf_ideal : (FloatOps.ofBits (F := Ideal) .f32 0xFF800000#32 : EReal) = ⊥ := by
  show Ideal.ofBits .f32 0xFF800000#32 = ⊥
  simp [Ideal.ofBits, Ideal.ieee]

open Cert.ReferenceIdeal Cert.ReferenceIdeal.Gen in
/-- The weights as the reference lays them out. -/
theorem ref_weight1 (W : HbBuf0 (F := Ideal) c hbM0_0)
    (blk : Fin 32) (a : Fin 32) (p : Fin 2) (col : Fin 12288) :
    (shapeCast S1x32x32x2x12288 (extf (F := Ideal) (φ := .bf16) .f32 (W : Vec Ideal S1x2048x12288 .bf16) bitsLt_bf16_f32) shapeCasts_S1x2048x12288_S1x32x32x2x12288
        (ix5 (0 : Fin 1) blk a p col) : EReal)
      = wel W (64 * blk.val + (2 * a.val + p.val)) col.val := by
  have hb : 64 * blk.val + (2 * a.val + p.val) < 2048 ∧ col.val < 12288 := by omega
  unfold wel
  rw [dif_pos hb]
  have e : ∀ (v : S1x2048x12288.Idx → EReal), shapeCast S1x32x32x2x12288 v shapeCasts_S1x2048x12288_S1x32x32x2x12288 (ix5 (0 : Fin 1) blk a p col)
      = v (ix3 (0 : Fin 1) (⟨64 * blk.val + (2 * a.val + p.val), hb.1⟩ : Fin 2048) col) := fun v => by
    pointwise
    exact congrArg v (congrArg (ix3 0 · col) (Fin.ext (by show blk.val * 64 + a.val * 2 + p.val = 64 * blk.val + (2 * a.val + p.val); omega)))
  exact e W

open Cert.ReferenceIdeal Cert.ReferenceIdeal.Gen in
/-- The absolute values it takes the maxima of. -/
theorem ref_weight (W : HbBuf0 (F := Ideal) c hbM0_0)
    (blk : Fin 32) (a : Fin 32) (p : Fin 2) (col : Fin 12288) :
    (Host.absf (shapeCast S1x32x32x2x12288 (extf (F := Ideal) (φ := .bf16) .f32 (W : Vec Ideal S1x2048x12288 .bf16) bitsLt_bf16_f32) shapeCasts_S1x2048x12288_S1x32x32x2x12288)
        (ix5 (0 : Fin 1) blk a p col) : EReal)
      = eabs (wel W (64 * blk.val + (2 * a.val + p.val)) col.val) :=
  congrArg eabs (ref_weight1 W blk a p col)

open Cert.ReferenceIdeal Cert.ReferenceIdeal.Gen in
/-- The maxima the reference takes. -/
theorem ref_max (W : HbBuf0 (F := Ideal) c hbM0_0) (j : S1x32x12288.Idx) :
    (Host.reduce (FloatOps.maximumf (F := Ideal) (φ := .f32)) (Host.absf (shapeCast S1x32x32x2x12288 (extf (F := Ideal) (φ := .bf16) .f32 (W : Vec Ideal S1x2048x12288 .bf16) bitsLt_bf16_f32) shapeCasts_S1x2048x12288_S1x32x32x2x12288))
      (constant (F := Ideal) S_ .f32 0xFF800000#32) reducesTo_S1x32x32x2x12288_S1x32x12288_d2_3 h_S_ j : Ideal .f32) = AM W (j 1).val (j 2).val := by
  refine eq_of_forall_ge_iff fun b => ?_
  refine (hostMax_le _ _ reducesTo_S1x32x32x2x12288_S1x32x12288_d2_3 h_S_ j b).trans ?_
  unfold AM
  rw [Finset.sup_le_iff]
  constructor
  · rintro ⟨-, h⟩ r -
    have := h (ix5 (0 : Fin 1) (j 1 : Fin 32) (⟨r.val / 2, by omega⟩ : Fin 32) (⟨r.val % 2, by omega⟩ : Fin 2) (j 2 : Fin 12288)) (by
      funext a
      fin_cases a
      · exact Subsingleton.elim (α := Fin 1) _ _
      · rfl
      · rfl)
    have e : 2 * (r.val / 2) + r.val % 2 = r.val := by omega
    have := (ref_weight W (j 1 : Fin 32) (⟨r.val / 2, by omega⟩ : Fin 32) (⟨r.val % 2, by omega⟩ : Fin 2) (j 2 : Fin 12288)).symm.trans_le this
    simpa only [e] using this
  · intro h
    refine ⟨by rw [show (constant (F := Ideal) S_ .f32 0xFF800000#32 (Shape.Idx.first h_S_) : EReal) = ⊥ from negInf_ideal]; exact bot_le, fun i hi => ?_⟩
    have hx : i = ix5 (0 : Fin 1) (i 1 : Fin 32) (i 2 : Fin 32) (i 3 : Fin 2) (i 4 : Fin 12288) := by
      funext a
      fin_cases a
      · exact Subsingleton.elim (α := Fin 1) _ _
      all_goals rfl
    have h1 : (j 1).val = (i 1).val := by rw [← hi]; rfl
    have h2 : (j 2).val = (i 4).val := by rw [← hi]; rfl
    have hr : 2 * (i 2).val + (i 3).val < 64 := by
      have := lt_of_lt_of_eq (i 2).isLt (show S1x32x32x2x12288.size 2 = 32 from rfl)
      have := lt_of_lt_of_eq (i 3).isLt (show S1x32x32x2x12288.size 3 = 2 from rfl)
      omega
    rw [hx]
    refine (ref_weight W (i 1 : Fin 32) (i 2 : Fin 32) (i 3 : Fin 2) (i 4 : Fin 12288)).trans_le ?_
    have := h ⟨_, hr⟩ (Finset.mem_univ _)
    rwa [h1, h2] at this

theorem count_ideal : (Ideal.ofBits .f32 0x48C00000#32 : EReal) = ((393216 : ℝ) : EReal) := by
  simp [Ideal.ofBits, Ideal.ieee]
  rw [← EReal.coe_mul]
  norm_num

open Cert.ReferenceIdeal Cert.ReferenceIdeal.Gen in
/-- The mean the reference takes of the maxima. -/
theorem ref_mean (W : HbBuf0 (F := Ideal) c hbM0_0) (x : FVec Ideal S1x32x12288 .f32) (hx : ∀ j, (x j : EReal) = AM W (j 1).val (j 2).val) (j : S1x1.Idx) :
    (shapeCast S1x1 (Host.divf (F := Ideal) (φ := .f32) (Host.reduceAdd (F := Ideal) (φ := .f32) x (constant (F := Ideal) S_ .f32 0x00000000#32) reducesTo_S1x32x12288_S_d0_1_2 h_S_) (constant (F := Ideal) S_ .f32 0x48C00000#32)) shapeCasts_S_S1x1 j : EReal)
      = meanAM W := by
  have e : ∀ i, (Host.reduceAdd (F := Ideal) (φ := .f32) x (constant (F := Ideal) S_ .f32 0x00000000#32) reducesTo_S1x32x12288_S_d0_1_2 h_S_ i : EReal) = sumAM W := fun i => by
    refine (Ideal.hostReduceAdd_total reducesTo_S1x32x12288_S_d0_1_2 (fun b => b.elim0) x _ i).trans ?_
    rw [show ((constant (F := Ideal) S_ .f32 0x00000000#32 (Shape.Idx.first h_S_)) : EReal) = 0 from Ideal.ofBits_zero_f32, zero_add]
    refine (sum_idx3 (n0 := 1) (n1 := 32) (n2 := 12288) _).trans ?_
    rw [Fin.sum_univ_one]
    exact Finset.sum_congr rfl fun a _ => Finset.sum_congr rfl fun l _ => hx _
  show Ideal.div _ (Ideal.ofBits .f32 0x48C00000#32) = _
  rw [count_ideal, e]
  unfold Ideal.div meanAM
  rw [if_neg (by norm_num)]
  refine congrArg (sumAM W * ·) ?_
  rw [← EReal.coe_inv]
  norm_num

end Cert.KernelIdeal.Hand

end
-- ==== Proof.VLine.lean ====
/- The number the kernel rounds to a code, off the thresholds: the rounding gives the code the thresholds give. -/
module

public import proofs.«01_k».proof.Proof.VEnc

@[expose] public section

set_option maxRecDepth 16384

noncomputable section

namespace Cert.KernelIdeal.Hand

open Cert.KernelIdeal.Gen
open Idealize.ShloMosaic Idealize.ShloMosaic.TcCoe Idealize.ShloMosaic.Tactic

/-- The ends of the eight cells of the scaled weights: a weight between them looks up that cell's line. -/
def cellLo : Fin 8 → ℝ := ![-(1 / 1), -(5242880 / 11156849), -(3145728 / 11156849), -(1048576 / 11156849), 1048576 / 11156849, 3145728 / 11156849, 5242880 / 11156849, 7340032 / 11156849]
def cellHi : Fin 8 → ℝ := ![-(5242880 / 11156849), -(3145728 / 11156849), -(1048576 / 11156849), 1048576 / 11156849, 3145728 / 11156849, 5242880 / 11156849, 7340032 / 11156849, 1 / 1]

/-- The thresholds between the sixteen codes and the widths about them, as they stand in the reference, -/
def bitsT : Fin 15 → BitVec 32 := ![0xBF591CD8#32, 0xBF1C5270#32, 0xBEEB8480#32, 0xBEADEA76#32, 0xBE703CEC#32, 0xBE0D38BC#32, 0xBD3A7871#32, 0x3D22FAFF#32, 0x3DF64862#32, 0x3E5067E0#32, 0x3E9582D4#32, 0x3EC753F9#32, 0x3F006D04#32, 0x3F248DAF#32, 0x3F5C89DA#32]
def bitsE : Fin 15 → BitVec 32 := ![0x3827C5AC#32, 0x368637BD#32, 0x3827C5AC#32, 0x36A7C5AC#32, 0x358637BD#32, 0x37A7C5AC#32, 0x360637BD#32, 0x358637BD#32, 0x360637BD#32, 0x360637BD#32, 0x3727C5AC#32, 0x37A7C5AC#32, 0x3A378034#32, 0x38D1B717#32, 0x360637BD#32]

/-- and as numbers. -/
def thr : Fin 15 → ℝ := ![-(1778587 / 2097152), -(640295 / 1048576), -(120585 / 262144), -(5698875 / 16777216), -(3936059 / 16777216), -(2313775 / 16777216), -(12220529 / 268435456), 10681087 / 268435456, 8070193 / 67108864, 426815 / 2097152, 2449589 / 8388608, 13063161 / 33554432, 2104129 / 4194304, 10784175 / 16777216, 7226605 / 8388608]
def wid : Fin 15 → ℝ := ![2748779 / 68719476736, 8796093 / 2199023255552, 2748779 / 68719476736, 2748779 / 549755813888, 8796093 / 8796093022208, 2748779 / 137438953472, 8796093 / 4398046511104, 8796093 / 8796093022208, 8796093 / 4398046511104, 8796093 / 4398046511104, 2748779 / 274877906944, 2748779 / 137438953472, 3006477 / 4294967296, 13743895 / 137438953472, 8796093 / 4398046511104]

/-- The ends of the codes' stretches, the widths taken off. -/
def codeLo : Fin 16 → ℝ := ![-(1 / 1), -(58277990037 / 68719476736), -(1342787143747 / 2199023255552), -(31607885461 / 68719476736), -(186737987221 / 549755813888), -(2063619704899 / 8796093022208), -(18951696021 / 137438953472), -(200212351043 / 4398046511104), 350006654909 / 8796093022208, 528896964541 / 4398046511104, 895104726973 / 4398046511104, 80270881131 / 274877906944, 53509456235 / 137438953472, 2157634573 / 4294967296, 88357705495 / 137438953472, 3788831078333 / 4398046511104]
def codeHi : Fin 16 → ℝ := ![-(58283487595 / 68719476736), -(1342804735933 / 2199023255552), -(31613383019 / 68719476736), -(186743484779 / 549755813888), -(2063637297085 / 8796093022208), -(18957193579 / 137438953472), -(200229943229 / 4398046511104), 349989062723 / 8796093022208, 528879372355 / 4398046511104, 895087134787 / 4398046511104, 80265383573 / 274877906944, 53503958677 / 137438953472, 2151621619 / 4294967296, 88330217705 / 137438953472, 3788813486147 / 4398046511104, 1 / 1]

theorem thr_bits (i : Fin 15) : (Ideal.ofBits .f32 (bitsT i) : EReal) = ((thr i : ℝ) : EReal) := by
  fin_cases i <;> simp [Ideal.ofBits, Ideal.ieee, thr, bitsT] <;> (try rw [← EReal.coe_neg]) <;> rw [← EReal.coe_mul] <;> norm_num

theorem wid_bits (i : Fin 15) : (Ideal.ofBits .f32 (bitsE i) : EReal) = ((wid i : ℝ) : EReal) := by
  fin_cases i <;> simp [Ideal.ofBits, Ideal.ieee, wid, bitsE] <;> rw [← EReal.coe_mul] <;> norm_num

/-- Rounding moves a number by no more than a half. -/
theorem round_near (r : ℝ) : |((Ideal.roundHalfEven r : ℤ) : ℝ) - r| ≤ 1 / 2 := by
  have h1 := Int.floor_le r
  have h2 := Int.lt_floor_add_one r
  unfold Ideal.roundHalfEven
  dsimp only
  rw [abs_le]
  split_ifs <;> push_cast <;> constructor <;> linarith

/-- A number of four times a table's line rounds to `n` above 192 if it is less than a half from it. -/
theorem round_code (r : ℝ) (z : ℤ) (h : |r - z| < 1 / 2) : Ideal.roundHalfEven r = z := by
  have h1 := abs_le.mp (round_near r)
  have h2 := abs_lt.mp h
  have h3 : ((Ideal.roundHalfEven r : ℤ) : ℝ) - z < 1 := by linarith
  have h4 : -1 < ((Ideal.roundHalfEven r : ℤ) : ℝ) - z := by linarith
  have h5 : Ideal.roundHalfEven r - z < 1 := by exact_mod_cast h3
  have h6 : -1 < Ideal.roundHalfEven r - z := by exact_mod_cast h4
  omega

set_option maxHeartbeats 8000000 in
/-- THE LINES: where the thresholds give code `n`, the line of the cell looked up is less than a half from `n`. -/
theorem line_near (c : Fin 8) (n : Fin 16) (x : ℝ) (h1 : cellLo c ≤ x) (h2 : x ≤ cellHi c) (h3 : codeLo n ≤ x) (h4 : x ≤ codeHi n) :
    |4 * (x * tabS c + tabO c) - (192 + (n.val : ℝ))| < 1 / 2 := by
  rw [abs_lt]
  fin_cases c <;> fin_cases n <;> simp [cellLo, cellHi, codeLo, codeHi, tabS, tabO] at h1 h2 h3 h4 ⊢ <;> constructor <;> linarith

end Cert.KernelIdeal.Hand

end
-- ==== Proof.VCode.lean ====
/- The code the kernel finds of a weight, against the thresholds. -/
module

public import proofs.«01_k».proof.Proof.VLine
public import proofs.«01_k».proof.Proof.VSpec

@[expose] public section

set_option maxRecDepth 16384

noncomputable section

namespace Cert.KernelIdeal.Hand

open Cert.KernelIdeal.Gen
open Idealize.ShloMosaic Idealize.ShloMosaic.TcCoe Idealize.ShloMosaic.Tactic

/-! ## The constants -/

theorem clipHi_ideal : (FloatOps.ofBits (F := Ideal) .bf16 0x3F88#16 : EReal) = ((17 / 16 : ℝ) : EReal) := by
  show Ideal.ofBits .bf16 0x3F88#16 = _
  simp [Ideal.ofBits, Ideal.ieee]; rw [← EReal.coe_mul]; norm_num

theorem clipLo_ideal : (FloatOps.ofBits (F := Ideal) .bf16 0xBF50#16 : EReal) = ((-(13 / 16) : ℝ) : EReal) := by
  show Ideal.ofBits .bf16 0xBF50#16 = _
  simp [Ideal.ofBits, Ideal.ieee]; rw [← EReal.coe_mul]; norm_num

theorem four_ideal : (FloatOps.ofBits (F := Ideal) .f32 0x40800000#32 : EReal) = ((4 : ℝ) : EReal) := by
  show Ideal.ofBits .f32 0x40800000#32 = _
  simp [Ideal.ofBits, Ideal.ieee]; rw [← EReal.coe_mul]; norm_num

/-- The width of a cell's inverse. -/
def kap : ℝ := 11156849 / 8388608

theorem kap_ideal : (FloatOps.ofBits (F := Ideal) .f32 1068121457#32 : EReal) = ((kap : ℝ) : EReal) := by
  show Ideal.ofBits .f32 1068121457#32 = _
  unfold kap
  simp [Ideal.ofBits, Ideal.ieee]; rw [← EReal.coe_mul]; norm_num

/-- A small integer as a word. -/
theorem word_int (R : ℤ) (h : -1000 ≤ R ∧ R ≤ 1000) : Ideal.fptosi 32 (((R : ℤ) : ℝ) : EReal) = BitVec.ofInt 32 R := by
  unfold Ideal.fptosi
  rw [Ideal.toIntClamped_coe]
  congr 1
  rw [Int.floor_intCast, Int.ceil_intCast, ite_self]
  norm_num
  omega

/-! ## The cell a weight looks up -/

theorem cell_word : ∀ s c : Fin 8, (((((BitVec.ofInt 32 (189 + (c.val : ℤ) - (s.val : ℤ))).setWidth 16 + 16768#16) - 16957#16).signExtend 32 : BitVec 32) + BitVec.ofNat 32 s.val).toNat % 8 = c.val := by
  decide

theorem cell_bounds (c : Fin 8) (x y : ℝ) (h1 : -1 ≤ x) (h2 : x ≤ 1) (hA : y ≤ kap * x ∨ y ≤ -(13 / 16)) (hB : kap * x ≤ y ∨ 17 / 16 ≤ y)
    (hlo : (c.val : ℝ) - 7 / 2 ≤ 4 * y) (hhi : 4 * y ≤ (c.val : ℝ) - 5 / 2) : cellLo c ≤ x ∧ x ≤ cellHi c := by
  unfold kap at hA hB
  fin_cases c <;> simp [cellLo, cellHi] at hlo hhi ⊢ <;> constructor <;> rcases hA with hA | hA <;> rcases hB with hB | hB <;> linarith

theorem cell_of (x : ℝ) (h1 : -1 ≤ x) (h2 : x ≤ 1) (s : Fin 8) (w sc : EReal) (h : w * sc = ((kap * x : ℝ) : EReal)) :
    ∃ c : Fin 8, cellRow (BitVec.ofNat 32 s.val) w sc ((magic s : ℝ) : EReal) = c ∧ cellLo c ≤ x ∧ x ≤ cellHi c := by
  have hA : max (min (kap * x) (17 / 16)) (-(13 / 16)) ≤ kap * x ∨ max (min (kap * x) (17 / 16)) (-(13 / 16)) ≤ -(13 / 16 : ℝ) := by
    rcases le_total (min (kap * x) (17 / 16)) (-(13 / 16) : ℝ) with h | h
    · exact Or.inr (by rw [max_eq_right h])
    · exact Or.inl (by rw [max_eq_left h]; exact min_le_left _ _)
  have hB : kap * x ≤ max (min (kap * x) (17 / 16)) (-(13 / 16)) ∨ (17 / 16 : ℝ) ≤ max (min (kap * x) (17 / 16)) (-(13 / 16)) := by
    rcases le_total (kap * x) (17 / 16 : ℝ) with h | h
    · exact Or.inl (by rw [min_eq_left h]; exact le_max_left _ _)
    · exact Or.inr (by rw [min_eq_right h]; exact le_max_left _ _)
  have hC : max (min (kap * x) (17 / 16)) (-(13 / 16)) ≤ (17 / 16 : ℝ) := max_le (min_le_right _ _) (by norm_num)
  have hD : -(13 / 16 : ℝ) ≤ max (min (kap * x) (17 / 16)) (-(13 / 16)) := le_max_right _ _
  have hcell : cell16 w sc ((magic s : ℝ) : EReal)
      = ((Ideal.fptosi 32 (((Ideal.roundHalfEven ((max (min (kap * x) (17 / 16)) (-(13 / 16)) + magic s) * 4) : ℤ) : ℝ) : EReal)).setWidth 16 + 16768#16) - 16957#16 := by
    unfold cell16
    rw [h, clipHi_ideal, clipLo_ideal, four_ideal, ← EReal.coe_strictMono.monotone.map_min, ← EReal.coe_strictMono.monotone.map_max, ← EReal.coe_add, ← EReal.coe_mul, Ideal.liftRound_coe]
  generalize hy : max (min (kap * x) (17 / 16)) (-(13 / 16)) = y at hA hB hC hD hcell
  generalize hR : Ideal.roundHalfEven ((y + magic s) * 4) = R at hcell
  have hn := abs_le.mp (round_near ((y + magic s) * 4))
  rw [hR] at hn
  have hm : magic s = 48 - (s.val : ℝ) / 4 := rfl
  rw [hm] at hn
  have l1 : (188 : ℝ) < ((R + (s.val : ℤ) : ℤ) : ℝ) := by push_cast; linarith
  have l2 : ((R + (s.val : ℤ) : ℤ) : ℝ) < 197 := by push_cast; linarith
  have l1' : 188 < R + (s.val : ℤ) := by exact_mod_cast l1
  have l2' : R + (s.val : ℤ) < 197 := by exact_mod_cast l2
  obtain ⟨c, hc⟩ : ∃ c : Fin 8, R = 189 + (c.val : ℤ) - (s.val : ℤ) := ⟨⟨(R + (s.val : ℤ) - 189).toNat, by omega⟩, by
    show R = 189 + (((R + (s.val : ℤ) - 189).toNat : ℕ) : ℤ) - (s.val : ℤ)
    rw [Int.toNat_of_nonneg (by omega)]; ring⟩
  refine ⟨c, ?_, ?_⟩
  · refine Fin.ext ?_
    show ((cell16 w sc ((magic s : ℝ) : EReal)).signExtend 32 + BitVec.ofNat 32 s.val).toNat % 8 = c.val
    rw [hcell, word_int R (by have := s.isLt; omega), hc]
    exact cell_word s c
  · have hc' : (R : ℝ) = 189 + (c.val : ℝ) - (s.val : ℝ) := by rw [hc]; push_cast; ring
    exact cell_bounds c x y h1 h2 hA hB (by linarith) (by linarith)

/-! ## The code of the number rounded -/

theorem code_word : ∀ n : Fin 16, (BitVec.ofInt 32 (192 + (n.val : ℤ))).setWidth 16 + 16768#16 = BitVec.ofNat 16 (16960 + n.val) := by decide

theorem code16_of (n : Fin 16) (r : ℝ) (h : |4 * r - (192 + (n.val : ℝ))| < 1 / 2) : code16 ((r : ℝ) : EReal) = BitVec.ofNat 16 (16960 + n.val) := by
  unfold code16
  rw [four_ideal, ← EReal.coe_mul, Ideal.liftRound_coe, round_code (r * 4) (192 + (n.val : ℤ)) (by push_cast; rw [mul_comm]; exact h), word_int _ (by have := n.isLt; omega)]
  exact code_word n

theorem byte_word : ∀ n m : Fin 16, ((((BitVec.ofNat 16 (16960 + m.val)) &&& 0x0F0F#16) ||| (((BitVec.ofNat 16 (16960 + n.val)) &&& 0x0F0F#16) <<< 4)).setWidth 8 : BitVec 8)
    = (BitVec.ofNat 32 n.val * 16#32 + BitVec.ofNat 32 m.val).setWidth 8 := by decide

/-! ## The code the thresholds give -/

section
variable (t : Fin 15 → EReal) (x : EReal)

/-- The thresholds the bisection looks at, one after the other, -/
def t2 : EReal := if t 7 < x then t 11 else t 3
def t1 : EReal := if t 7 < x then (if t2 t x < x then t 13 else t 9) else (if t2 t x < x then t 5 else t 1)
def t0 : EReal :=
  if t 7 < x then (if t2 t x < x then (if t1 t x < x then t 14 else t 12) else (if t1 t x < x then t 10 else t 8))
  else (if t2 t x < x then (if t1 t x < x then t 6 else t 4) else (if t1 t x < x then t 2 else t 0))

/-- and the code it ends at. -/
def bisect : BitVec 32 :=
  (BitVec.ofBool (decide (t 7 < x))).setWidth 32 * 8#32 + (BitVec.ofBool (decide (t2 t x < x))).setWidth 32 * 4#32
    + (BitVec.ofBool (decide (t1 t x < x))).setWidth 32 * 2#32 + (BitVec.ofBool (decide (t0 t x < x))).setWidth 32

theorem bisect_spec : ∃ n : Fin 16, bisect t x = BitVec.ofNat 32 n.val ∧ (∀ i : Fin 15, i.val + 1 = n.val → t i < x) ∧ (∀ i : Fin 15, i.val = n.val → ¬ t i < x) := by
  have step : ∀ (k : ℕ) (h : k < 16), (∀ j : Fin 15, j.val + 1 = k → t j < x) → (∀ j : Fin 15, j.val = k → ¬ t j < x) → bisect t x = BitVec.ofNat 32 k →
      ∃ n : Fin 16, bisect t x = BitVec.ofNat 32 n.val ∧ (∀ i : Fin 15, i.val + 1 = n.val → t i < x) ∧ (∀ i : Fin 15, i.val = n.val → ¬ t i < x) :=
    fun k h a b e => ⟨⟨k, h⟩, e, a, b⟩
  have up : ∀ (i : Fin 15), t i < x → ∀ j : Fin 15, j.val + 1 = i.val + 1 → t j < x := fun i h j e => by rwa [show j = i from Fin.ext (by omega)]
  have dn : ∀ (i : Fin 15), ¬ t i < x → ∀ j : Fin 15, j.val = i.val → ¬ t j < x := fun i h j e => by rwa [show j = i from Fin.ext e]
  have none : ∀ j : Fin 15, j.val + 1 = 0 → t j < x := fun j e => absurd e (by omega)
  have all : ∀ j : Fin 15, j.val = 15 → ¬ t j < x := fun j e => absurd e (by omega)
  by_cases h3 : t 7 < x
  · have e2 : t2 t x = t 11 := by unfold t2; rw [if_pos h3]
    by_cases h2 : t 11 < x
    · have e1 : t1 t x = t 13 := by unfold t1; rw [e2, if_pos h3, if_pos h2]
      by_cases h1 : t 13 < x
      · have e0 : t0 t x = t 14 := by unfold t0; rw [e2, e1, if_pos h3, if_pos h2, if_pos h1]
        by_cases h0 : t 14 < x
        · exact step 15 (by decide) (up 14 h0) all (by unfold bisect; rw [e2, e1, e0]; simp [h3, h2, h1, h0])
        · exact step 14 (by decide) (up 13 h1) (dn 14 h0) (by unfold bisect; rw [e2, e1, e0]; simp [h3, h2, h1, h0])
      · have e0 : t0 t x = t 12 := by unfold t0; rw [e2, e1, if_pos h3, if_pos h2, if_neg h1]
        by_cases h0 : t 12 < x
        · exact step 13 (by decide) (up 12 h0) (dn 13 h1) (by unfold bisect; rw [e2, e1, e0]; simp [h3, h2, h1, h0])
        · exact step 12 (by decide) (up 11 h2) (dn 12 h0) (by unfold bisect; rw [e2, e1, e0]; simp [h3, h2, h1, h0])
    · have e1 : t1 t x = t 9 := by unfold t1; rw [e2, if_pos h3, if_neg h2]
      by_cases h1 : t 9 < x
      · have e0 : t0 t x = t 10 := by unfold t0; rw [e2, e1, if_pos h3, if_neg h2, if_pos h1]
        by_cases h0 : t 10 < x
        · exact step 11 (by decide) (up 10 h0) (dn 11 h2) (by unfold bisect; rw [e2, e1, e0]; simp [h3, h2, h1, h0])
        · exact step 10 (by decide) (up 9 h1) (dn 10 h0) (by unfold bisect; rw [e2, e1, e0]; simp [h3, h2, h1, h0])
      · have e0 : t0 t x = t 8 := by unfold t0; rw [e2, e1, if_pos h3, if_neg h2, if_neg h1]
        by_cases h0 : t 8 < x
        · exact step 9 (by decide) (up 8 h0) (dn 9 h1) (by unfold bisect; rw [e2, e1, e0]; simp [h3, h2, h1, h0])
        · exact step 8 (by decide) (up 7 h3) (dn 8 h0) (by unfold bisect; rw [e2, e1, e0]; simp [h3, h2, h1, h0])
  · have e2 : t2 t x = t 3 := by unfold t2; rw [if_neg h3]
    by_cases h2 : t 3 < x
    · have e1 : t1 t x = t 5 := by unfold t1; rw [e2, if_neg h3, if_pos h2]
      by_cases h1 : t 5 < x
      · have e0 : t0 t x = t 6 := by unfold t0; rw [e2, e1, if_neg h3, if_pos h2, if_pos h1]
        by_cases h0 : t 6 < x
        · exact step 7 (by decide) (up 6 h0) (dn 7 h3) (by unfold bisect; rw [e2, e1, e0]; simp [h3, h2, h1, h0])
        · exact step 6 (by decide) (up 5 h1) (dn 6 h0) (by unfold bisect; rw [e2, e1, e0]; simp [h3, h2, h1, h0])
      · have e0 : t0 t x = t 4 := by unfold t0; rw [e2, e1, if_neg h3, if_pos h2, if_neg h1]
        by_cases h0 : t 4 < x
        · exact step 5 (by decide) (up 4 h0) (dn 5 h1) (by unfold bisect; rw [e2, e1, e0]; simp [h3, h2, h1, h0])
        · exact step 4 (by decide) (up 3 h2) (dn 4 h0) (by unfold bisect; rw [e2, e1, e0]; simp [h3, h2, h1, h0])
    · have e1 : t1 t x = t 1 := by unfold t1; rw [e2, if_neg h3, if_neg h2]
      by_cases h1 : t 1 < x
      · have e0 : t0 t x = t 2 := by unfold t0; rw [e2, e1, if_neg h3, if_neg h2, if_pos h1]
        by_cases h0 : t 2 < x
        · exact step 3 (by decide) (up 2 h0) (dn 3 h2) (by unfold bisect; rw [e2, e1, e0]; simp [h3, h2, h1, h0])
        · exact step 2 (by decide) (up 1 h1) (dn 2 h0) (by unfold bisect; rw [e2, e1, e0]; simp [h3, h2, h1, h0])
      · have e0 : t0 t x = t 0 := by unfold t0; rw [e2, e1, if_neg h3, if_neg h2, if_neg h1]
        by_cases h0 : t 0 < x
        · exact step 1 (by decide) (up 0 h0) (dn 1 h1) (by unfold bisect; rw [e2, e1, e0]; simp [h3, h2, h1, h0])
        · exact step 0 (by decide) none (dn 0 h0) (by unfold bisect; rw [e2, e1, e0]; simp [h3, h2, h1, h0])

end

theorem codeLo_succ (i : Fin 15) : codeLo i.succ = thr i + wid i := by
  fin_cases i <;> simp [codeLo, thr, wid] <;> norm_num

theorem codeHi_castSucc (i : Fin 15) : codeHi i.castSucc = thr i - wid i := by
  fin_cases i <;> simp [codeHi, thr, wid] <;> norm_num

/-- Off the thresholds the bisection's code is that of a stretch the weight lies in. -/
theorem bisect_bounds (x : ℝ) (h1 : -1 ≤ x) (h2 : x ≤ 1) (hm : ∀ i : Fin 15, wid i < |x - thr i|) :
    ∃ n : Fin 16, bisect (fun i => ((thr i : ℝ) : EReal)) ((x : ℝ) : EReal) = BitVec.ofNat 32 n.val ∧ codeLo n ≤ x ∧ x ≤ codeHi n := by
  obtain ⟨n, e, hl, hh⟩ := bisect_spec (fun i => ((thr i : ℝ) : EReal)) ((x : ℝ) : EReal)
  refine ⟨n, e, ?_, ?_⟩
  · rcases Nat.eq_zero_or_pos n.val with h0 | h0
    · rw [show n = 0 from Fin.ext h0]; simpa [codeLo] using h1
    · have hi := n.isLt
      have en : n = (⟨n.val - 1, by omega⟩ : Fin 15).succ := Fin.ext (by show n.val = n.val - 1 + 1; omega)
      have hx := EReal.coe_lt_coe_iff.mp (hl ⟨n.val - 1, by omega⟩ (by show n.val - 1 + 1 = n.val; omega))
      have := hm ⟨n.val - 1, by omega⟩
      rw [abs_of_pos (by linarith)] at this
      rw [en, codeLo_succ]
      linarith
  · by_cases h15 : n.val = 15
    · rw [show n = 15 from Fin.ext h15]; simpa [codeHi] using h2
    · have hi := n.isLt
      have en : n = (⟨n.val, by omega⟩ : Fin 15).castSucc := rfl
      have hn : n.val < 15 := by omega
      have hx : x ≤ thr ⟨n.val, hn⟩ := not_lt.mp fun hlt => hh ⟨n.val, hn⟩ rfl (EReal.coe_lt_coe_iff.mpr hlt)
      have := hm ⟨n.val, by omega⟩
      rw [abs_of_nonpos (by linarith)] at this
      rw [en, codeHi_castSucc]
      linarith

/-- THE CODE: off the thresholds the kernel's number rounds to the code the bisection gives. -/
theorem code_kr (x : ℝ) (h1 : -1 ≤ x) (h2 : x ≤ 1) (hm : ∀ i : Fin 15, wid i < |x - thr i|) (w inv : EReal) (h : w * inv = ((x : ℝ) : EReal)) (s : Fin 8) :
    ∃ n : Fin 16, code16 (kr s w inv (inv * (FloatOps.ofBits (F := Ideal) .f32 1068121457#32 : EReal))) = BitVec.ofNat 16 (16960 + n.val)
      ∧ bisect (fun i => ((thr i : ℝ) : EReal)) ((x : ℝ) : EReal) = BitVec.ofNat 32 n.val := by
  obtain ⟨n, e, hl, hh⟩ := bisect_bounds x h1 h2 hm
  obtain ⟨c, hc, hcl, hch⟩ := cell_of x h1 h2 s w (inv * (FloatOps.ofBits (F := Ideal) .f32 1068121457#32 : EReal)) (by
    rw [← mul_assoc, h, kap_ideal, ← EReal.coe_mul, mul_comm])
  refine ⟨n, ?_, e⟩
  unfold kr
  rw [hc, ← mul_assoc, h, ← EReal.coe_mul, ← EReal.coe_add]
  exact code16_of n _ (line_near c n x hcl hch hl hh)

/-! ## The scaled weight -/

theorem einv_eq (a : EReal) : einv a = Ideal.div 1 (if a = 0 then 1 else a) := by
  unfold einv
  pointwise

/-- A weight no larger than the maximum, times the maximum's inverse, is a number no larger than one. -/
theorem scaled (w a : EReal) (h : eabs w ≤ a) : ∃ x : ℝ, w * einv a = ((x : ℝ) : EReal) ∧ -1 ≤ x ∧ x ≤ 1 := by
  have hw : w ≤ a := le_trans (le_max_left _ _) h
  have hw' : -w ≤ a := le_trans (le_max_right _ _) h
  rw [einv_eq]
  by_cases ha : a = 0
  · subst ha
    have : w = 0 := le_antisymm hw (by rwa [EReal.neg_le, neg_zero] at hw')
    exact ⟨0, by rw [this, zero_mul]; rfl, by norm_num, by norm_num⟩
  rw [if_neg ha]
  unfold Ideal.div
  rw [if_neg ha]
  induction a with
  | bot =>
    have e1 : w = ⊥ := le_bot_iff.mp hw
    rw [e1] at hw'
    exact absurd hw' (by simp)
  | top => exact ⟨0, by rw [EReal.inv_top, mul_zero, mul_zero]; rfl, by norm_num, by norm_num⟩
  | coe r =>
    induction w with
    | bot => exact absurd hw' (by simp)
    | top => exact absurd hw (by simp)
    | coe v =>
      have b1 : v ≤ r := EReal.coe_le_coe_iff.mp hw
      have b2 : -v ≤ r := EReal.coe_le_coe_iff.mp (by rw [EReal.coe_neg]; exact hw')
      have r0 : r ≠ 0 := fun e => ha (by rw [e]; rfl)
      have rp : 0 < r := lt_of_le_of_ne (by linarith) (Ne.symm r0)
      refine ⟨v * r⁻¹, by rw [one_mul, ← EReal.coe_inv, ← EReal.coe_mul], ?_, ?_⟩
      · rw [← div_eq_mul_inv, le_div_iff₀ rp]; linarith
      · rw [← div_eq_mul_inv, div_le_iff₀ rp]; linarith

end Cert.KernelIdeal.Hand

end
-- ==== Proof.VRefCode.lean ====
/- The reference's codes, place by place, and where the claim compares them. -/
module

public import proofs.«01_k».proof.Proof.VRef
public import proofs.«01_k».proof.Proof.VCode
public import proofs.«01_k».proof.Proof.VMax
public import proofs.«01_k».proof.Proof.Gen.ReferenceIdeal.Run
public import proofs.«01_k».proof.On_off_thresholds

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Cert.KernelIdeal.Hand (wel AM einv eabs HbBuf0 hbM0_0 bisect bitsT bitsE thr wid)

/-- Two codes in a byte, as the reference packs them. -/
theorem packed_apply (v : S1x32x32x2x12288.Idx → BitVec 32) (a : Fin 32) (b : Fin 32) (col : Fin 12288) :
    shapeCast S1x1024x12288 (trunci 8 (addi (muli (shapeCast S1x32x32x12288 (extractStridedSlice S1x32x32x1x12288 ![0, 0, 0, 0, 0] v slices_S1x32x32x2x12288_S1x32x32x1x12288_0_0_0_0_0) shapeCasts_S1x32x32x1x12288_S1x32x32x12288)
        (broadcastInDim S1x32x32x12288 ![] bcast_S_S1x32x32x12288 (constantI S_ 32 16#32))) (shapeCast S1x32x32x12288 (extractStridedSlice S1x32x32x1x12288 ![0, 0, 0, 1, 0] v slices_S1x32x32x2x12288_S1x32x32x1x12288_0_0_0_1_0) shapeCasts_S1x32x32x1x12288_S1x32x32x12288)) natLt_8_32)
        shapeCasts_S1x32x32x12288_S1x1024x12288 (ix3 (0 : Fin 1) (⟨32 * a.val + b.val, by omega⟩ : Fin 1024) col)
      = (v (ix5 (0 : Fin 1) a b (0 : Fin 2) col) * 16#32 + v (ix5 (0 : Fin 1) a b (1 : Fin 2) col)).setWidth 8 := by
  pointwise
  rfl

/-- The code of one place. -/
theorem code_apply (V : Valuation τ sig (Elt Ideal)) (a : Fin 32) (b : Fin 32) (p : Fin 2) (col : Fin 12288) :
    res_main_v40 V (ix5 (0 : Fin 1) a b p col) = bisect (fun i => Ideal.ofBits .f32 (bitsT i)) (res_main_v11 V (ix5 (0 : Fin 1) a b p col) : EReal) := by
  unfold res_main_v40 res_main_v19 res_main_v15 res_main_v13
  generalize res_main_v11 V = x
  pointwise
  simp only [bisect, Cert.KernelIdeal.Hand.t0, Cert.KernelIdeal.Hand.t1, Cert.KernelIdeal.Hand.t2, (show bitsT 0 = 3210288344#32 from rfl), (show bitsT 1 = 3206304368#32 from rfl), (show bitsT 2 = 3203105920#32 from rfl), (show bitsT 3 = 3199068790#32 from rfl), (show bitsT 4 = 3195026668#32 from rfl), (show bitsT 5 = 3188537532#32 from rfl), (show bitsT 6 = 3174725745#32 from rfl), (show bitsT 7 = 1025702655#32 from rfl), (show bitsT 8 = 1039550562#32 from rfl), (show bitsT 9 = 1045456864#32 from rfl), (show bitsT 10 = 1049985748#32 from rfl), (show bitsT 11 = 1053250553#32 from rfl), (show bitsT 12 = 1056992516#32 from rfl), (show bitsT 13 = 1059360175#32 from rfl), (show bitsT 14 = 1063029210#32 from rfl)]
  rfl

variable {c : Dev Cert.KernelIdeal.nD}

/-- The maxima, the weights and the scaled weights of the reference, place by place. -/
theorem v3_apply (W : HbBuf0 (F := Ideal) c hbM0_0) (V : Valuation τ sig (Elt Ideal)) (hV : V (Proc.devRef .tc main_arg0) = W) (j : S1x32x12288.Idx) :
    (res_main_v3 V j : EReal) = AM W (j 1).val (j 2).val := by
  unfold res_main_v3 res_main_v1
  rw [hV]
  exact Cert.KernelIdeal.Hand.ref_max W j

theorem v1_apply (W : HbBuf0 (F := Ideal) c hbM0_0) (V : Valuation τ sig (Elt Ideal)) (hV : V (Proc.devRef .tc main_arg0) = W) (a : Fin 32) (b : Fin 32) (p : Fin 2) (col : Fin 12288) :
    (res_main_v1 V (ix5 (0 : Fin 1) a b p col) : EReal) = wel W (64 * a.val + (2 * b.val + p.val)) col.val := by
  unfold res_main_v1
  rw [hV]
  exact Cert.KernelIdeal.Hand.ref_weight1 W a b p col

/-- A row of inverses laid along the rows of its block, -/
theorem rows_apply (d : S1x32x12288.Idx → EReal) (a : Fin 32) (b : Fin 32) (p : Fin 2) (col : Fin 12288) :
    broadcastInDim S1x32x32x2x12288 ![0, 1, 2, 3, 4] bcast_S1x32x1x1x12288_S1x32x32x2x12288_0_1_2_3_4 (broadcastInDim S1x32x1x1x12288 ![0, 1, 4] bcast_S1x32x12288_S1x32x1x1x12288_0_1_4 d) (ix5 (0 : Fin 1) a b p col)
      = d (ix3 (0 : Fin 1) a col) := by
  pointwise

/-- and the inverse of one maximum. -/
theorem inverse_apply (x3 : FVec Ideal S1x32x12288 .f32) (j : S1x32x12288.Idx) :
    (Host.divf (F := Ideal) (φ := .f32) (broadcastInDim S1x32x12288 ![] bcast_S_S1x32x12288 (constant S_ .f32 0x3F800000#32))
      (select (cmpf .oeq x3 (broadcastInDim S1x32x12288 ![] bcast_S_S1x32x12288 (constant S_ .f32 0x00000000#32))) (broadcastInDim S1x32x12288 ![] bcast_S_S1x32x12288 (constant S_ .f32 0x3F800000#32)) x3) j : EReal)
      = einv (x3 j : EReal) := rfl

theorem v11_apply (V : Valuation τ sig (Elt Ideal)) (a : Fin 32) (b : Fin 32) (p : Fin 2) (col : Fin 12288) (w e : EReal)
    (h1 : (res_main_v1 V (ix5 (0 : Fin 1) a b p col) : EReal) = w) (h3 : (res_main_v3 V (ix3 (0 : Fin 1) a col) : EReal) = e) :
    (res_main_v11 V (ix5 (0 : Fin 1) a b p col) : EReal) = w * einv e := by
  rw [← h1, ← h3]
  unfold res_main_v11
  exact congrArg (HMul.hMul (α := EReal) (β := EReal) (γ := EReal) (res_main_v1 V (ix5 (0 : Fin 1) a b p col))) ((rows_apply _ a b p col).trans (inverse_apply (res_main_v3 V) (ix3 (0 : Fin 1) a col)))

theorem x_apply (W : HbBuf0 (F := Ideal) c hbM0_0) (V : Valuation τ sig (Elt Ideal)) (hV : V (Proc.devRef .tc main_arg0) = W) (a : Fin 32) (b : Fin 32) (p : Fin 2) (col : Fin 12288) :
    (res_main_v11 V (ix5 (0 : Fin 1) a b p col) : EReal) = wel W (64 * a.val + (2 * b.val + p.val)) col.val * einv (AM W a.val col.val) :=
  v11_apply V a b p col _ _ (v1_apply W V hV a b p col) (v3_apply W V hV (ix3 (0 : Fin 1) a col))

end Cert.ReferenceIdeal.Hand

namespace Cert.On_off_thresholds

open Idealize.ShloMosaic Idealize.ShloMosaic.TcCoe Idealize.ShloMosaic.Tactic
open Facts
open Cert.KernelIdeal.Hand (bitsT bitsE eabs)

variable [Facts]

/-- Which scaled weights are off threshold `k`, and which are off all of them. -/
def far (x : FVec Ideal S1x32x32x2x12288 .f32) (k : Fin 15) : IVec S1x32x32x2x12288 1 :=
  cmpf .ogt (Host.absf (subf x (broadcastInDim S1x32x32x2x12288 ![] bcast_S_S1x32x32x2x12288 (constant S_ .f32 (bitsT k))))) (broadcastInDim S1x32x32x2x12288 ![] bcast_S_S1x32x32x2x12288 (constant S_ .f32 (bitsE k)))

def ok (x : FVec Ideal S1x32x32x2x12288 .f32) : IVec S1x32x32x2x12288 1 :=
  andi (andi (andi (andi (andi (andi (andi (andi (andi (andi (andi (andi (andi (andi (far x 0) (far x 1)) (far x 2)) (far x 3)) (far x 4)) (far x 5)) (far x 6)) (far x 7)) (far x 8)) (far x 9)) (far x 10)) (far x 11)) (far x 12)) (far x 13)) (far x 14)

theorem far_apply (x : FVec Ideal S1x32x32x2x12288 .f32) (k : Fin 15) (i : S1x32x32x2x12288.Idx) :
    far x k i = BitVec.ofBool (decide (Ideal.ofBits .f32 (bitsE k) < eabs (x i - Ideal.ofBits .f32 (bitsT k)))) := rfl

theorem and_one (a b : BitVec 1) (h : a &&& b = 1#1) : a = 1#1 ∧ b = 1#1 := by
  revert a b; decide

theorem andi_one {S : Shape} (a b : IVec S 1) (i : S.Idx) (h : andi a b i = 1#1) : a i = 1#1 ∧ b i = 1#1 := and_one _ _ h

theorem ok_apply (x : FVec Ideal S1x32x32x2x12288 .f32) (i : S1x32x32x2x12288.Idx) (h : ok x i = 1#1) (k : Fin 15) : far x k i = 1#1 := by
  unfold ok at h
  obtain ⟨h, h14⟩ := andi_one _ _ _ h
  obtain ⟨h, h13⟩ := andi_one _ _ _ h
  obtain ⟨h, h12⟩ := andi_one _ _ _ h
  obtain ⟨h, h11⟩ := andi_one _ _ _ h
  obtain ⟨h, h10⟩ := andi_one _ _ _ h
  obtain ⟨h, h9⟩ := andi_one _ _ _ h
  obtain ⟨h, h8⟩ := andi_one _ _ _ h
  obtain ⟨h, h7⟩ := andi_one _ _ _ h
  obtain ⟨h, h6⟩ := andi_one _ _ _ h
  obtain ⟨h, h5⟩ := andi_one _ _ _ h
  obtain ⟨h, h4⟩ := andi_one _ _ _ h
  obtain ⟨h, h3⟩ := andi_one _ _ _ h
  obtain ⟨h, h2⟩ := andi_one _ _ _ h
  obtain ⟨h0, h1⟩ := andi_one _ _ _ h
  fin_cases k
  · exact h0
  · exact h1
  · exact h2
  · exact h3
  · exact h4
  · exact h5
  · exact h6
  · exact h7
  · exact h8
  · exact h9
  · exact h10
  · exact h11
  · exact h12
  · exact h13
  · exact h14

/-- Both weights of a byte. -/
def pair (v : IVec S1x32x32x2x12288 1) : IVec S1x1024x12288 1 :=
  shapeCast S1x1024x12288 (andi (shapeCast S1x32x32x12288 (extractStridedSlice S1x32x32x1x12288 ![0, 0, 0, 0, 0] v slices_S1x32x32x2x12288_S1x32x32x1x12288_0_0_0_0_0) shapeCasts_S1x32x32x1x12288_S1x32x32x12288)
        (shapeCast S1x32x32x12288 (extractStridedSlice S1x32x32x1x12288 ![0, 0, 0, 1, 0] v slices_S1x32x32x2x12288_S1x32x32x1x12288_0_0_0_1_0) shapeCasts_S1x32x32x1x12288_S1x32x32x12288))
        shapeCasts_S1x32x32x12288_S1x1024x12288

theorem pair_apply (v : IVec S1x32x32x2x12288 1) (a : Fin 32) (b : Fin 32) (col : Fin 12288) :
    pair v (ix3 (0 : Fin 1) (⟨32 * a.val + b.val, by omega⟩ : Fin 1024) col) = v (ix5 (0 : Fin 1) a b (0 : Fin 2) col) &&& v (ix5 (0 : Fin 1) a b (1 : Fin 2) col) := by
  unfold pair
  pointwise
  rfl

theorem part1_eq (x : FVec Ideal S1x32x32x2x12288 .f32) : (fn_part1 x (far x 0) (constant S_ .f32 (bitsT 1))).1 = pair (ok x) := rfl

end Cert.On_off_thresholds

namespace Cert.ReferenceIdeal.Hand

open Cert.ReferenceIdeal Cert.ReferenceIdeal.Gen Cert.ReferenceIdeal.Value
open Idealize.ShloMosaic Idealize.ShloMosaic.TcCoe Idealize.ShloMosaic.Tactic

theorem mask_eq [Cert.On_off_thresholds.Facts] (V : Valuation τ sig (Elt Ideal)) (w : FVec Ideal S1x2048x12288 .bf16) (hV : V (Proc.devRef .tc main_arg0) = w) :
    (Cert.On_off_thresholds.fn (F := Ideal) w).1 = Cert.On_off_thresholds.pair (Cert.On_off_thresholds.ok (res_main_v11 V)) := by
  rw [← Cert.On_off_thresholds.part1_eq]
  unfold res_main_v11 res_main_v3 res_main_v1
  rw [hV]
  rfl

open Cert.KernelIdeal.Hand (pb packArr wel AM einv eabs HbBuf0 hbM0_0 bisect bitsT bitsE thr wid)

variable {c : Dev nD}

/-- A scaled weight of the mask's bytes is off every threshold. -/
theorem off_all [Cert.On_off_thresholds.Facts] (v : FVec Ideal S1x32x32x2x12288 .f32) (i : S1x32x32x2x12288.Idx) (x : ℝ) (hx : (v i : EReal) = ((x : ℝ) : EReal)) (h : Cert.On_off_thresholds.ok v i = 1#1) (k : Fin 15) :
    wid k < |x - thr k| := by
  have h := Cert.On_off_thresholds.ok_apply v i h k
  rw [Cert.On_off_thresholds.far_apply, hx, Cert.KernelIdeal.Hand.thr_bits, Cert.KernelIdeal.Hand.wid_bits, ← EReal.coe_sub] at h
  have e : ∀ r : ℝ, eabs ((r : ℝ) : EReal) = ((|r| : ℝ) : EReal) := fun r => by
    unfold Cert.KernelIdeal.Hand.eabs
    rw [← EReal.coe_neg, ← EReal.coe_strictMono.monotone.map_max]; rfl
  rw [e] at h
  by_contra hn
  rw [decide_eq_false (fun hl => hn (EReal.coe_lt_coe_iff.mp hl))] at h
  exact absurd h (by decide)

/-- THE CODES: where both weights of a byte are off the thresholds, the kernel's byte is the reference's. -/
theorem codes_eq [Cert.On_off_thresholds.Facts] (W : HbBuf0 (F := Ideal) c hbM0_0) (V : Valuation τ sig (Elt Ideal)) (w : FVec Ideal S1x2048x12288 .bf16) (hV : V (Proc.devRef .tc main_arg0) = W) (hw : V (Proc.devRef .tc main_arg0) = w)
    (i : S1x1024x12288.Idx) (h : (Cert.On_off_thresholds.fn (F := Ideal) w).1 i = 1#1) :
    packArr W i = shapeCast S1x1024x12288 (trunci 8 (addi (muli (shapeCast S1x32x32x12288 (extractStridedSlice S1x32x32x1x12288 ![0, 0, 0, 0, 0] (res_main_v40 V) slices_S1x32x32x2x12288_S1x32x32x1x12288_0_0_0_0_0) shapeCasts_S1x32x32x1x12288_S1x32x32x12288)
        (broadcastInDim S1x32x32x12288 ![] bcast_S_S1x32x32x12288 (constantI S_ 32 16#32))) (shapeCast S1x32x32x12288 (extractStridedSlice S1x32x32x1x12288 ![0, 0, 0, 1, 0] (res_main_v40 V) slices_S1x32x32x2x12288_S1x32x32x1x12288_0_0_0_1_0) shapeCasts_S1x32x32x1x12288_S1x32x32x12288)) natLt_8_32)
        shapeCasts_S1x32x32x12288_S1x1024x12288 i := by
  rw [mask_eq V w hw] at h
  obtain ⟨a, b, col, hi⟩ : ∃ (a : Fin 32) (b : Fin 32) (col : Fin 12288), i = ix3 (0 : Fin 1) (⟨32 * a.val + b.val, by omega⟩ : Fin 1024) col := by
    have h1 : (i 1).val < 1024 := (i 1).isLt
    refine ⟨⟨(i 1).val / 32, by omega⟩, ⟨(i 1).val % 32, by omega⟩, i 2, ?_⟩
    funext k
    fin_cases k
    · exact Subsingleton.elim (α := Fin 1) _ _
    · exact Fin.ext (by show (i 1).val = 32 * ((i 1).val / 32) + (i 1).val % 32; omega)
    · rfl
  subst hi
  rw [packed_apply, code_apply, code_apply]
  rw [Cert.On_off_thresholds.pair_apply] at h
  obtain ⟨h0, h1⟩ := Cert.On_off_thresholds.and_one _ _ h
  have hA : ∀ p : Fin 2, eabs (wel W (64 * a.val + (2 * b.val + p.val)) col.val) ≤ AM W a.val col.val := fun p =>
    Finset.le_sup (f := fun r : Fin 64 => eabs (wel W (64 * a.val + r.val) col.val)) (Finset.mem_univ (⟨2 * b.val + p.val, by omega⟩ : Fin 64))
  obtain ⟨x0, e0, l0, u0⟩ := Cert.KernelIdeal.Hand.scaled _ _ (hA 0)
  obtain ⟨x1, e1, l1, u1⟩ := Cert.KernelIdeal.Hand.scaled _ _ (hA 1)
  have f0 := (x_apply W V hV a b 0 col).trans e0
  have f1 := (x_apply W V hV a b 1 col).trans e1
  have m0 := off_all (res_main_v11 V) _ x0 f0 h0
  have m1 := off_all (res_main_v11 V) _ x1 f1 h1
  obtain ⟨n0, c0, d0⟩ := Cert.KernelIdeal.Hand.code_kr x0 l0 u0 m0 _ _ e0 ⟨(32 * a.val + b.val) % 8, Nat.mod_lt _ (by decide)⟩
  obtain ⟨n1, c1, d1⟩ := Cert.KernelIdeal.Hand.code_kr x1 l1 u1 m1 _ _ e1 ⟨(32 * a.val + b.val) % 8, Nat.mod_lt _ (by decide)⟩
  have ht : (fun k => Ideal.ofBits .f32 (bitsT k) : Fin 15 → EReal) = fun k => ((thr k : ℝ) : EReal) := funext Cert.KernelIdeal.Hand.thr_bits
  rw [f0, f1, ht, d0, d1, ← Cert.KernelIdeal.Hand.byte_word]
  show pb W (32 * a.val + b.val) col.val = _
  unfold Cert.KernelIdeal.Hand.pb
  have q1 : (32 * a.val + b.val) / 32 = a.val := by omega
  have q2 : 2 * (32 * a.val + b.val) = 64 * a.val + (2 * b.val + (0 : Fin 2).val) := by show _ = 64 * a.val + (2 * b.val + 0); omega
  have q3 : 2 * (32 * a.val + b.val) + 1 = 64 * a.val + (2 * b.val + (1 : Fin 2).val) := by show _ = 64 * a.val + (2 * b.val + 1); omega
  rw [q1, q3, q2]
  unfold Cert.KernelIdeal.Hand.byteOf
  unfold Cert.KernelIdeal.Hand.esc
  rw [c0, c1]

end Cert.ReferenceIdeal.Hand

end
-- ==== Proof.PRing.lean ====
/- The printed program's streaming ring: its operand block by block through three slots, the families the
   invariant is stated over, and the names the body's transfers take at a point. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The frame claim's post from the frame run's -/

/-- The frame from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post . -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points before point 30 — decided over the grid. -/
theorem hcond0_1 : ∀ t : Fin cfg0.N, cond0_1 (grid0.coords t) ↔ t.val < 30 :=
  (by decide +kernel : ∀ t : Fin grid0.N, cond0_1 (grid0.coords t) ↔ t.val < 30)

/-- The condition of the body's last branch. -/
abbrev cond0_2 (i : grid0.Coords) : Prop := k0_cond3 i = 1#1
/-- It holds at the last point only. -/
theorem hcond0_2 : ∀ t : Fin cfg0.N, cond0_2 (grid0.coords t) ↔ t.val = 31 :=
  (by decide +kernel : ∀ t : Fin grid0.N, cond0_2 (grid0.coords t) ↔ t.val = 31)

/-! ## The kernel body on any staging memrefs: a subtype the run finds -/

/-- Each window's current staging memref at point `t`. -/
abbrev ms0_0 (t : Fin cfg0.N) : Memref sig .tc .vmem S1x256x1536 .i8 := win0_0.stage (cfg0.slots t 0)
abbrev ms0_1 (t : Fin cfg0.N) : Memref sig .tc .vmem S1x8x1536 .f32 := win0_1.stage (cfg0.slots t 1)
abbrev ms0_2 (t : Fin cfg0.N) : Memref sig .tc .vmem S1536x256 .i8 := win0_2.stage (cfg0.slots t 2)
abbrev ms0_3 (t : Fin cfg0.N) : Memref sig .tc .vmem S12x128 .f32 := win0_3.stage (cfg0.slots t 3)
abbrev ms0_4 (t : Fin cfg0.N) : Memref sig .tc .smem S1x1 .f32 := win0_4.stage (cfg0.slots t 4)
/-- The scratch operands: whole scoped buffers of the kernel's own. -/
abbrev scM0_0 : Memref sig .tc .vmem S3x512x1536 .bf16 := Memref.whole cc0_scratch0
abbrev scM0_1 : Memref sig .tc .vmem S12x64x128 .i32 := Memref.whole cc0_scratch2
abbrev scM0_2 : Memref sig .tc .vmem S32x12288 .f32 := Memref.whole cc0_scratch3
abbrev scM0_3 : Memref sig .tc .vmem S8x1536 .f32 := Memref.whole cc0_scratch4
abbrev scM0_4 : Memref sig .tc .vmem S8x1536 .i32 := Memref.whole cc0_scratch5
abbrev scM0_5 : Memref sig .tc .vmem S384x128 .i32 := Memref.whole cc0_scratch6
abbrev scM0_6 : Memref sig .tc .vmem S384x128 .i32 := Memref.whole cc0_scratch7
/-- The operands left in HBM that the body copies into scratch itself, whole. -/
abbrev hbM0_0 : Memref sig .tc .hbm S1x2048x12288 .bf16 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 7, SemLoc.dma 8, SemLoc.dma 9] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg0))) := by
  rw [Pipeline.ΦD_eq, scopedRest0_eq, ownSems00_eq, hbmPts0_eq]; simp only [scM0_0, scM0_1, scM0_2, scM0_3, scM0_4, scM0_5, scM0_6, owns_whole]; try rfl

/-! ## Ring 0 of kernel 0: `main_arg0` streamed through the 3 slots of `cc0_scratch0` on the cells of `cc0_scratch1`, 2 block ahead, in 32 steps -/

instance : NeZero grid0.N := ⟨by rw [N_0]; decide⟩
theorem inb_slot0_0 (s : Fin 3) : ∀ a, (![s.val, 0, 0] : Fin 3 → Nat) a + S1x512x1536.size a ≤ S3x512x1536.size a := by
  have := s.isLt; intro a; fin_cases a <;> simp <;> omega
theorem inb_src0_0 (b : Fin 32) : ∀ a, (![0, 512 * (b.val / 8), 1536 * (b.val % 8)] : Fin 3 → Nat) a + S1x512x1536.size a ≤ S1x2048x12288.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S512x1536 .bf16 :=
  (scM0_0.slice (Rect.unit (s := S3x512x1536) ![s.val, 0, 0] S1x512x1536.size (inb_slot0_0 s)) (fun _ => rfl)).squeeze S512x1536 squeezes_S1x512x1536_S512x1536
/-- Block `b` of the operand (the block step `b` waits), spelt as the transfers spell their source, at offsets in `b`. -/
def srcB0_0 (b : Fin 32) : Memref sig .tc .hbm S512x1536 .bf16 :=
  (hbM0_0.slice (Rect.unit (s := S1x2048x12288) ![0, 512 * (b.val / 8), 1536 * (b.val % 8)] S1x512x1536.size (inb_src0_0 b)) (fun _ => rfl)).squeeze S512x1536 squeezes_S1x512x1536_S512x1536
/-- Cell `s` of `cc0_scratch1`, spelt as the body spells a cell; its number in the pool. -/
def cellA0_0 (s : Fin 3) : DmaSems sig S_ := (cc0_scratch1.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 7 := by decide
theorem cellR0_0_1 : cellR0_0 1 = SemLoc.dma 8 := by decide
theorem cellR0_0_2 : cellR0_0 2 = SemLoc.dma 9 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 32) : sProp 𝕄 := (srcB0_0 b).view.loc (c : Thread nD τ) ↦[(srcB0_0 b).view.set]{qs0_0 s} W
/-- (a `def`: no run reads this rest, and folded it stays out of the executor's table of held buffers) -/
def restP0_0 (s : Fin 3) (b : Fin 32) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 32) (f : HbBuf0 (F := F) c (rslot0_0 s)) : HbBuf0 (F := F) c (rslot0_0 s) :=
  (rslot0_0 s).view.writes (Elt F) f [⟨Rect.whole S512x1536, ReadAs.same.apply ((srcB0_0 b).view.read (Elt F) W)⟩]
abbrev flightP0_0 (s : Fin 3) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 32) (f : HbBuf0 (F := F) c (rslot0_0 s)) : sProp 𝕄 := iprop(flightP0_0 c W s b f ∗ restP0_0 c W s b)
abbrev noHome0_0 (b : Fin 32) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [BitOps F] in
theorem cellP0_0_0 : cellP0_0 (F := F) c 0 = semVal ((c : Thread nD τ), SemLoc.dma 7) 0 := congrArg (fun x => (semVal ((c : Thread nD τ), x) 0 : sProp 𝕄)) cellR0_0_0
omit [BitOps F] in
theorem cellP0_0_1 : cellP0_0 (F := F) c 1 = semVal ((c : Thread nD τ), SemLoc.dma 8) 0 := congrArg (fun x => (semVal ((c : Thread nD τ), x) 0 : sProp 𝕄)) cellR0_0_1
omit [BitOps F] in
theorem cellP0_0_2 : cellP0_0 (F := F) c 2 = semVal ((c : Thread nD τ), SemLoc.dma 9) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x512x1536.Idx := (Rect.unit (s := S3x512x1536) ![s.val, 0, 0] S1x512x1536.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x512x1536) (0 : Fin 3) 1 (fun s : Fin 3 => (![s.val, 0, 0] : Fin 3 → Nat)) S1x512x1536.size inb_slot0_0 (fun s => by simp) rfl s s' h
theorem slots0_0_cover : Finset.univ.biUnion slotSet0_0 = Finset.univ :=
  Ring.lead_cover (s := S3x512x1536) (0 : Fin 3) 1 (fun s : Fin 3 => (![s.val, 0, 0] : Fin 3 → Nat)) S1x512x1536.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 32) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ (∃ f, slotP0_0 (F := F) c 1 f) ∗ ∃ f, slotP0_0 (F := F) c 2 f) : sProp 𝕄) := by
  simp only [scM0_0, owns_whole]
  exact Ring.slots3_split (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- Into the ring: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 7) 0 ∗ semVal ((c : Thread nD τ), SemLoc.dma 8) 0 ∗ semVal ((c : Thread nD τ), SemLoc.dma 9) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- Out of the ring: after the last step (every slot kept or free: the kept blocks forgotten) those pieces again. -/
theorem ring0_0_out (c : Dev nD) :
    ringAt0_0 c (V m c main_arg0) 32
      ⊢ iprop((∃ d, owns (c : Thread nD τ) scM0_0 fullShare d) ∗ (semVal ((c : Thread nD τ), SemLoc.dma 7) 0 ∗ semVal ((c : Thread nD τ), SemLoc.dma 8) 0 ∗ semVal ((c : Thread nD τ), SemLoc.dma 9) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

/-! ### Ring 0's steps at each case's points, and its canonical names: the body's operands at point `t` are the ring's slots, blocks and cells -/

section Canon0_0
omit [BitOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 2 < 32 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ 32 ≤ t.val + 2 ∧ t.val < 32 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) :
    (scM0_0.slice (Rect.unit (s := S3x512x1536) ![0, 0, 0] S1x512x1536.size inb_S3x512x1536_S1x512x1536_0_0_0) (fun _ => rfl)).squeeze S512x1536 squeezes_S1x512x1536_S512x1536 = rslot0_0 (Ring.sl 3 t.val) :=
  congrArg (fun M : Memref sig .tc .vmem S1x512x1536 .bf16 => M.squeeze S512x1536 squeezes_S1x512x1536_S512x1536) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) :
    (cc0_scratch1.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0, 0] : Fin 3 → Nat) = ![0, 512 * ((Ring.bk 32 t.val).val / 8), 1536 * ((Ring.bk 32 t.val).val % 8)] := by decide +kernel
@[sl_canon] theorem canon0_0_3 (t : Fin grid0.N) (h0 : cond0_0 (grid0.coords t)) (h1 : cond0_1 (grid0.coords t)) :
    (hbM0_0.slice (Rect.unit (s := S1x2048x12288) ![0, 0, 0] S1x512x1536.size inb_S1x2048x12288_S1x512x1536_0_0_0) (fun _ => rfl)).squeeze S512x1536 squeezes_S1x512x1536_S512x1536 = srcB0_0 (Ring.bk 32 t.val) :=
  congrArg (fun M : Memref sig .tc .hbm S1x512x1536 .bf16 => M.squeeze S512x1536 squeezes_S1x512x1536_S512x1536) (Memref.slice_unit_congr _ (coff0_0_3 t h0 h1) _ _ (fun _ => rfl) (fun _ => rfl))
set_option synthInstance.maxSize 4096 in
theorem coff0_0_4 : ∀ t : Fin grid0.N, cond0_0 (grid0.coords t) → cond0_1 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) :
    (scM0_0.slice (Rect.unit (s := S3x512x1536) ![1, 0, 0] S1x512x1536.size inb_S3x512x1536_S1x512x1536_1_0_0) (fun _ => rfl)).squeeze S512x1536 squeezes_S1x512x1536_S512x1536 = rslot0_0 (Ring.sl 3 (t.val + 1)) :=
  congrArg (fun M : Memref sig .tc .vmem S1x512x1536 .bf16 => M.squeeze S512x1536 squeezes_S1x512x1536_S512x1536) (Memref.slice_unit_congr _ (coff0_0_4 t h0 h1) _ _ (fun _ => rfl) (fun _ => rfl))
set_option synthInstance.maxSize 4096 in
theorem coff0_0_5 : ∀ t : Fin grid0.N, cond0_0 (grid0.coords t) → cond0_1 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) :
    (cc0_scratch1.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1) _ _)
set_option synthInstance.maxSize 4096 in
theorem coff0_0_6 : ∀ t : Fin grid0.N, cond0_0 (grid0.coords t) → cond0_1 (grid0.coords t) → (![0, 0, 1536] : Fin 3 → Nat) = ![0, 512 * ((Ring.bk 32 (t.val + 1)).val / 8), 1536 * ((Ring.bk 32 (t.val + 1)).val % 8)] := by decide +kernel
@[sl_canon] theorem canon0_0_6 (t : Fin grid0.N) (h0 : cond0_0 (grid0.coords t)) (h1 : cond0_1 (grid0.coords t)) :
    (hbM0_0.slice (Rect.unit (s := S1x2048x12288) ![0, 0, 1536] S1x512x1536.size inb_S1x2048x12288_S1x512x1536_0_0_1536) (fun _ => rfl)).squeeze S512x1536 squeezes_S1x512x1536_S512x1536 = srcB0_0 (Ring.bk 32 (t.val + 1)) :=
  congrArg (fun M : Memref sig .tc .hbm S1x512x1536 .bf16 => M.squeeze S512x1536 squeezes_S1x512x1536_S512x1536) (Memref.slice_unit_congr _ (coff0_0_6 t h0 h1) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_0.slice (Rect.unit (s := S3x512x1536) (k0_off2 (grid0.coords t)) S1x512x1536.size (k0_off2_inb (grid0.coords t) h1)) (fun _ => rfl)).squeeze S512x1536 squeezes_S1x512x1536_S512x1536 = rslot0_0 (Ring.sl 3 (t.val + 2)) :=
  congrArg (fun M : Memref sig .tc .vmem S1x512x1536 .bf16 => M.squeeze S512x1536 squeezes_S1x512x1536_S512x1536) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch1.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → k0_off3 (grid0.coords t) = ![0, 512 * ((Ring.bk 32 (t.val + 2)).val / 8), 1536 * ((Ring.bk 32 (t.val + 2)).val % 8)] := by decide +kernel
@[sl_canon] theorem canon0_0_9 (t : Fin grid0.N) (h0 : cond0_0 (grid0.coords t)) (h1 : cond0_1 (grid0.coords t)) :
    (hbM0_0.slice (Rect.unit (s := S1x2048x12288) (k0_off3 (grid0.coords t)) S1x512x1536.size (k0_off3_inb (grid0.coords t) h1)) (fun _ => rfl)).squeeze S512x1536 squeezes_S1x512x1536_S512x1536 = srcB0_0 (Ring.bk 32 (t.val + 2)) :=
  congrArg (fun M : Memref sig .tc .hbm S1x512x1536 .bf16 => M.squeeze S512x1536 squeezes_S1x512x1536_S512x1536) (Memref.slice_unit_congr _ (coff0_0_9 t h0 h1) _ _ (fun _ => rfl) (fun _ => rfl))
set_option synthInstance.maxSize 4096 in
theorem coff0_0_10 : ∀ t : Fin grid0.N, k0_off5 (grid0.coords t) = ![(Ring.sl 3 t.val).val, 0, 0] := by decide +kernel
@[sl_canon] theorem canon0_0_10 (t : Fin grid0.N) :
    (scM0_0.slice (Rect.unit (s := S3x512x1536) (k0_off5 (grid0.coords t)) S1x512x1536.size (k0_off5_inb (grid0.coords t))) (fun _ => rfl)).squeeze S512x1536 squeezes_S1x512x1536_S512x1536 = rslot0_0 (Ring.sl 3 t.val) :=
  congrArg (fun M : Memref sig .tc .vmem S1x512x1536 .bf16 => M.squeeze S512x1536 squeezes_S1x512x1536_S512x1536) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch1.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → k0_off3 (grid0.coords t) = ![0, 512 * ((Ring.bk 32 (t.val + 2)).val / 8), 1536 * ((Ring.bk 32 (t.val + 2)).val % 8)] := by decide +kernel
@[sl_canon] theorem canon0_0_12 (t : Fin grid0.N) (h0 : ¬cond0_0 (grid0.coords t)) (h1 : cond0_1 (grid0.coords t)) :
    (hbM0_0.slice (Rect.unit (s := S1x2048x12288) (k0_off3 (grid0.coords t)) S1x512x1536.size (k0_off3_inb (grid0.coords t) h1)) (fun _ => rfl)).squeeze S512x1536 squeezes_S1x512x1536_S512x1536 = srcB0_0 (Ring.bk 32 (t.val + 2)) :=
  congrArg (fun M : Memref sig .tc .hbm S1x512x1536 .bf16 => M.squeeze S512x1536 squeezes_S1x512x1536_S512x1536) (Memref.slice_unit_congr _ (coff0_0_12 t h0 h1) _ _ (fun _ => rfl) (fun _ => rfl))
/-- The slot a point reads, in the words the loads' offsets use. -/
theorem slotOf : ∀ t : Fin grid0.N, (Ring.sl 3 t.val).val = (grid0.coords t 0).val % 3 := by decide +kernel
end Canon0_0

end Cert.Kernel.Hand

end
-- ==== Proof.PLoops.lean ====
/- What each loop of the body keeps from trip to trip. -/
module

public import proofs.«01_k».proof.Proof.PRing

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- Memref `M` held whole on core `c` at some contents. -/
abbrev some0 (c : Dev nD) {sp : Space} {S : Shape} {e : EltTy} (M : Memref sig .tc sp S e) : sProp 𝕄 :=
  iprop(∃ f : HbBuf0 (F := F) c M, M.view.loc (c : Thread nD τ) ↦[M.view.set]{fullShare} f)

set_option maxHeartbeats 4000000 in
set_option warn.classDefReducibility false in
/-- Before each trip of the loop that takes the maxima: the block this point waited for in its slot, and what the trips write at some contents. -/
@[sl_loop] def loopInv_t1 (c : Dev nD) (t : Fin cfg0.N) (X : HbBuf0 (F := F) c (rslot0_0 (Ring.sl 3 t.val))) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (v7 : BitVec 32) (v72 : BitVec 32) (v74 : BitVec 32) (c0_i32_31 : BitVec 32) (c12_i32 : BitVec 32) :
    LoopInvTy_k0_t1 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) v7 v72 v74 c0_i32_31 c12_i32 where
  inv := fun _ _ => iprop(slotP0_0 c (Ring.sl 3 t.val) X ∗ some0 c arg3 ∗ some0 c scM0_1 ∗ some0 c scM0_2 ∗ some0 c scM0_3 ∗ some0 c scM0_4)
  step := fun k acc => by
    have hk : k.val < 12 := Nat.lt_of_lt_of_le k.isLt k0_t1_abs.2.1
    have hsl := slotOf t
    unfold k0_t1_body
    iintro ⟨HS, ⟨%f1, H1⟩, ⟨%f2, H2⟩, ⟨%f3, H3⟩, ⟨%f4, H4⟩, ⟨%f5, H5⟩⟩
    sl_exec
    sl_step
    isplitl [HS]; · iexact HS
    isplitl [H1]; · iexists _; iexact H1
    isplitl [H2]; · iexists _; iexact H2
    isplitl [H3]; · iexists _; iexact H3
    isplitl [H4]; · iexists _; iexact H4
    iexists _; iexact H5

set_option maxHeartbeats 4000000 in
set_option warn.classDefReducibility false in
/-- Before each trip of the loop that encodes: the block in its slot, the inverse scales and the scales, and the packed codes at some contents. -/
@[sl_loop] def loopInv_t2 (c : Dev nD) (t : Fin cfg0.N) (X : HbBuf0 (F := F) c (rslot0_0 (Ring.sl 3 t.val))) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (v7 : BitVec 32) (v76 : IVec S8x128 32) (v83 : FVec F S16x128 .bf16) (v113 : FVec F S8x128 .f32) (v114 : IVec S8x128 32) :
    LoopInvTy_k0_t2 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) v7 v76 v83 v113 v114 where
  inv := fun _ _ => iprop(slotP0_0 c (Ring.sl 3 t.val) X ∗ some0 c arg2 ∗ some0 c scM0_3 ∗ some0 c scM0_4)
  step := fun k acc => by
    have hk : k.val < 12 := Nat.lt_of_lt_of_le k.isLt k0_t2_abs.2.1
    have hsl := slotOf t
    unfold k0_t2_body
    iintro ⟨HS, ⟨%f1, H1⟩, ⟨%f2, H2⟩, ⟨%f3, H3⟩⟩
    sl_exec
    sl_step
    isplitl [HS]; · iexact HS
    isplitl [H1]; · iexists _; iexact H1
    isplitl [H2]; · iexists _; iexact H2
    iexists _; iexact H3

set_option maxHeartbeats 4000000 in
set_option warn.classDefReducibility false in
/-- Before each trip of the loop that sums the maxima: the maxima. -/
@[sl_loop] def loopInv_t3 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (init : FVec F S8x128 .f32) :
    LoopInvTy_k0_t3 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 init where
  inv := fun _ _ => iprop(some0 c scM0_2)
  step := fun k acc => by
    have hk : k.val < 96 := Nat.lt_of_lt_of_le k.isLt k0_t3_abs.2.1
    have hsl := slotOf t
    unfold k0_t3_body
    iintro ⟨%f0, H0⟩
    sl_exec
    sl_step
    iexists _; iexact H0

set_option maxHeartbeats 4000000 in
set_option warn.classDefReducibility false in
/-- Before each trip of a loop that quantises a quarter of the scales: the maxima, and the two halves of the words at some contents. -/
@[sl_loop] def loopInv_t4 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v150 : FVec F S8x128 .f32) (v158 : IVec S8x128 32) (init : FVec F S8x128 .f32) :
    LoopInvTy_k0_t4 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v150 v158 init where
  inv := fun _ _ => iprop(some0 c scM0_2 ∗ some0 c scM0_5 ∗ some0 c scM0_6)
  step := fun k acc => by
    have hk : k.val < 12 := Nat.lt_of_lt_of_le k.isLt k0_t4_abs.2.1
    have hsl := slotOf t
    unfold k0_t4_body
    iintro ⟨⟨%f0, H0⟩, ⟨%f1, H1⟩, ⟨%f2, H2⟩⟩
    sl_exec
    sl_step
    isplitl [H0]; · iexists _; iexact H0
    isplitl [H1]; · iexists _; iexact H1
    iexists _; iexact H2

set_option maxHeartbeats 4000000 in
set_option warn.classDefReducibility false in
/-- Before each trip of a loop that quantises a quarter of the scales: the maxima, and the two halves of the words at some contents. -/
@[sl_loop] def loopInv_t5 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v155 : F .f32) (v158 : IVec S8x128 32) (v160 : IVec S8x128 32) (v163 : FVec F S8x128 .f32) (v172 : IVec S8x128 32) (v180 : IVec S8x128 32) (init : FVec F S8x128 .f32) :
    LoopInvTy_k0_t5 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v155 v158 v160 v163 v172 v180 init where
  inv := fun _ _ => iprop(some0 c scM0_2 ∗ some0 c scM0_5 ∗ some0 c scM0_6)
  step := fun k acc => by
    have hk : k.val < 12 := Nat.lt_of_lt_of_le k.isLt k0_t5_abs.2.1
    have hsl := slotOf t
    unfold k0_t5_body
    iintro ⟨⟨%f0, H0⟩, ⟨%f1, H1⟩, ⟨%f2, H2⟩⟩
    sl_exec
    sl_step
    isplitl [H0]; · iexists _; iexact H0
    isplitl [H1]; · iexists _; iexact H1
    iexists _; iexact H2

set_option maxHeartbeats 4000000 in
set_option warn.classDefReducibility false in
/-- Before each trip of a loop that quantises a quarter of the scales: the maxima, and the two halves of the words at some contents. -/
@[sl_loop] def loopInv_t6 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v155 : F .f32) (v158 : IVec S8x128 32) (v160 : IVec S8x128 32) (v196 : FVec F S8x128 .f32) (v205 : IVec S8x128 32) (v213 : IVec S8x128 32) (init : FVec F S8x128 .f32) :
    LoopInvTy_k0_t6 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v155 v158 v160 v196 v205 v213 init where
  inv := fun _ _ => iprop(some0 c scM0_2 ∗ some0 c scM0_5 ∗ some0 c scM0_6)
  step := fun k acc => by
    have hk : k.val < 12 := Nat.lt_of_lt_of_le k.isLt k0_t6_abs.2.1
    have hsl := slotOf t
    unfold k0_t6_body
    iintro ⟨⟨%f0, H0⟩, ⟨%f1, H1⟩, ⟨%f2, H2⟩⟩
    sl_exec
    sl_step
    isplitl [H0]; · iexists _; iexact H0
    isplitl [H1]; · iexists _; iexact H1
    iexists _; iexact H2

set_option maxHeartbeats 4000000 in
set_option warn.classDefReducibility false in
/-- Before each trip of a loop that quantises a quarter of the scales: the maxima, and the two halves of the words at some contents. -/
@[sl_loop] def loopInv_t7 (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (k0_h3 : k0_cond3 (grid0.coords t) = 1#1) (v155 : F .f32) (v158 : IVec S8x128 32) (v160 : IVec S8x128 32) (v229 : FVec F S8x128 .f32) (v238 : IVec S8x128 32) (v246 : IVec S8x128 32) (init : FVec F S8x128 .f32) :
    LoopInvTy_k0_t7 (F := F) Unit ℕ (Pipeline.UD sig nD τ) ℕ Variants.none c none Set.univ (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _) k0_h3 v155 v158 v160 v229 v238 v246 init where
  inv := fun _ _ => iprop(some0 c scM0_2 ∗ some0 c scM0_5 ∗ some0 c scM0_6)
  step := fun k acc => by
    have hk : k.val < 12 := Nat.lt_of_lt_of_le k.isLt k0_t7_abs.2.1
    have hsl := slotOf t
    unfold k0_t7_body
    iintro ⟨⟨%f0, H0⟩, ⟨%f1, H1⟩, ⟨%f2, H2⟩⟩
    sl_exec
    sl_step
    isplitl [H0]; · iexists _; iexact H0
    isplitl [H1]; · iexists _; iexact H1
    iexists _; iexact H2

end Cert.Kernel.Hand

end
-- ==== Proof.PRunA.lean ====
/- The body at one kind of point. -/
module

public import proofs.«01_k».proof.Proof.PLoops

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

set_option maxHeartbeats 16000000 in
/-- At the first point: the body runs, hands every buffer back at some contents, and moves the ring one step. -/
theorem kernelRun0_A (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : cond0_0 (grid0.coords t)) (hc1 : cond0_1 (grid0.coords t)) (hc2 : ¬cond0_2 (grid0.coords t)) (fh0 : HbBuf0 (F := F) c hbM0_0) :
      ∀ (W : Waits sig Unit) (K : PUnit → sProp 𝕄),
        iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2))) ∗ owes (c : Thread nD τ) 0 W
            ∗ (iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val)) ∗ (∃ W', owes (c : Thread nD τ) 0 W')) -∗ K ⟨⟩))
          ⊢ wp frame (wpE (defs₀ (F := F)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (cond0_0 (grid0.coords t)) := ⟨hc0⟩
    haveI : Fact (cond0_1 (grid0.coords t)) := ⟨hc1⟩
    simp only [cc0_nf4_encode_eq_skeleton]; unfold cc0_nf4_encode_skel; simp only [k0_part86_eq_skeleton, k0_part87_eq_skeleton, k0_part88_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    have hcanon0 := canon0_0_1 t hc0 hc1
    have hcanon1 := canon0_0_2 t hc0 hc1
    have hcanon2 := canon0_0_3 t hc0 hc1
    have hcanon3 := canon0_0_4 t hc0 hc1
    have hcanon4 := canon0_0_5 t hc0 hc1
    have hcanon5 := canon0_0_6 t hc0 hc1
    have hsl := slotOf t
    unfold Ring.free Ring.inflight
    iintro ⟨⟨⟨%f_H2, H2⟩, ⟨%f_H3, H3⟩, ⟨%f_H4, H4⟩, ⟨%f_H5, H5⟩, ⟨%f_H6, H6⟩, ⟨%f_HS1, HS1⟩, ⟨%f_HS2, HS2⟩, ⟨%f_HS3, HS3⟩, ⟨%f_HS4, HS4⟩, ⟨%f_HS5, HS5⟩, ⟨%f_HS6, HS6⟩⟩, ⟨⟨Hc0, ⟨%fs0, Hs0, Hw0⟩⟩, ⟨Hc1, ⟨%fs1, Hs1, Hw1⟩⟩, ⟨Hc2, ⟨%fs2, Hs2, Hw2⟩⟩⟩, HW, Hk⟩
    ihave Hsp0 := (src0_0_split c fh0 (Ring.sl 3 t.val) (Ring.bk 32 t.val)).1 $$ Hw0
    icases Hsp0 with ⟨Hh0, Hr0⟩
    ihave Hsp1 := (src0_0_split c fh0 (Ring.sl 3 (t.val + 1)) (Ring.bk 32 (t.val + 1))).1 $$ Hw1
    icases Hsp1 with ⟨Hh1, Hr1⟩
    ihave Hsp2 := (src0_0_split c fh0 (Ring.sl 3 (t.val + 2)) (Ring.bk 32 (t.val + 2))).1 $$ Hw2
    icases Hsp2 with ⟨Hh2, Hr2⟩
    sl_exec (disch := first | sl_exact hc0 | sl_exact hc1 | sl_exact hc2)
    sl_step
    iapply Hk
    isplitl [H2 H3 H4 H5 H6 HS1 HS2 HS3 HS4 HS5 HS6]
    · isplitl [H2]; · iexists _; iexact H2
      isplitl [H3]; · iexists _; iexact H3
      isplitl [H4]; · iexists _; iexact H4
      isplitl [H5]; · iexists _; iexact H5
      isplitl [H6]; · iexists _; iexact H6
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    isplitl [Hc1 Hr1 Hc2 Hr2 Hc0 Hs0 Hh0 Hr0]
    · isplitl [Hc1 Hr1]
      · iexists _; isplitl [Hc1]; · iexact Hc1
        iexact Hr1
      isplitl [Hc2 Hr2]
      · iexists _; isplitl [Hc2]; · iexact Hc2
        iexact Hr2
      isplitl [Hc0]; · iexact Hc0
      iexists _; isplitl [Hs0]; · iexact Hs0
      iapply (src0_0_split c fh0 (Ring.sl 3 t.val) (Ring.bk 32 t.val)).2; isplitl [Hh0]; · iexact Hh0
      iexact Hr0
    iexists _; iexact HW

end Cert.Kernel.Hand

end
-- ==== Proof.PRunB.lean ====
/- The body at one kind of point. -/
module

public import proofs.«01_k».proof.Proof.PRunA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

set_option maxHeartbeats 16000000 in
/-- At a point that still starts a block: the body runs, hands every buffer back at some contents, and moves the ring one step. -/
theorem kernelRun0_B (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : ¬cond0_0 (grid0.coords t)) (hc1 : cond0_1 (grid0.coords t)) (hc2 : ¬cond0_2 (grid0.coords t)) (fh0 : HbBuf0 (F := F) c hbM0_0) :
      ∀ (W : Waits sig Unit) (K : PUnit → sProp 𝕄),
        iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.inflight (flightW0_0 c fh0) (Ring.sl 3 t.val) (Ring.bk 32 t.val) ∗ Ring.inflight (flightW0_0 c fh0) (Ring.sl 3 (t.val + 1)) (Ring.bk 32 (t.val + 1)) ∗ Ring.free (cellP0_0 c) (slotW0_0 c fh0) (Ring.sl 3 (t.val + 2))) ∗ owes (c : Thread nD τ) 0 W
            ∗ (iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val)) ∗ (∃ W', owes (c : Thread nD τ) 0 W')) -∗ K ⟨⟩))
          ⊢ wp frame (wpE (defs₀ (F := F)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (¬cond0_0 (grid0.coords t)) := ⟨hc0⟩
    haveI : Fact (cond0_1 (grid0.coords t)) := ⟨hc1⟩
    simp only [cc0_nf4_encode_eq_skeleton]; unfold cc0_nf4_encode_skel; simp only [k0_part86_eq_skeleton, k0_part87_eq_skeleton, k0_part88_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    have hsl := slotOf t
    unfold Ring.free Ring.inflight
    iintro ⟨⟨⟨%f_H2, H2⟩, ⟨%f_H3, H3⟩, ⟨%f_H4, H4⟩, ⟨%f_H5, H5⟩, ⟨%f_H6, H6⟩, ⟨%f_HS1, HS1⟩, ⟨%f_HS2, HS2⟩, ⟨%f_HS3, HS3⟩, ⟨%f_HS4, HS4⟩, ⟨%f_HS5, HS5⟩, ⟨%f_HS6, HS6⟩⟩, ⟨⟨%ff0, Hf0, Hrf0⟩, ⟨%ff1, Hf1, Hrf1⟩, ⟨Hc2, ⟨%fs2, Hs2, Hw2⟩⟩⟩, HW, Hk⟩
    ihave Hsp2 := (src0_0_split c fh0 (Ring.sl 3 (t.val + 2)) (Ring.bk 32 (t.val + 2))).1 $$ Hw2
    icases Hsp2 with ⟨Hh2, Hr2⟩
    sl_exec (disch := first | sl_exact hc0 | sl_exact hc1 | sl_exact hc2)
    sl_step
    iapply Hk
    isplitl [H2 H3 H4 H5 H6 HS1 HS2 HS3 HS4 HS5 HS6]
    · isplitl [H2]; · iexists _; iexact H2
      isplitl [H3]; · iexists _; iexact H3
      isplitl [H4]; · iexists _; iexact H4
      isplitl [H5]; · iexists _; iexact H5
      isplitl [H6]; · iexists _; iexact H6
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    isplitl [Hf1 Hrf1 Hc2 Hr2 Hf0 Hf0_dst Hf0_src Hrf0]
    · isplitl [Hf1 Hrf1]
      · iexists ff1; isplitl [Hf1]; · iexact Hf1
        iexact Hrf1
      isplitl [Hc2 Hr2]
      · iexists _; isplitl [Hc2]; · iexact Hc2
        iexact Hr2
      isplitl [Hf0]; · iexact Hf0
      iexists _; isplitl [Hf0_dst]; · iexact Hf0_dst
      iapply (src0_0_split c fh0 (Ring.sl 3 t.val) (Ring.bk 32 t.val)).2; isplitl [Hf0_src]; · iexact Hf0_src
      iexact Hrf0
    iexists _; iexact HW

end Cert.Kernel.Hand

end
-- ==== Proof.PRunC.lean ====
/- The body at one kind of point. -/
module

public import proofs.«01_k».proof.Proof.PRunB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

set_option maxHeartbeats 16000000 in
/-- At the last point but one: the body runs, hands every buffer back at some contents, and moves the ring one step. -/
theorem kernelRun0_C (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : ¬cond0_0 (grid0.coords t)) (hc1 : ¬cond0_1 (grid0.coords t)) (hc2 : ¬cond0_2 (grid0.coords t)) (fh0 : HbBuf0 (F := F) c hbM0_0) :
      ∀ (W : Waits sig Unit) (K : PUnit → sProp 𝕄),
        iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.inflight (flightW0_0 c fh0) (Ring.sl 3 t.val) (Ring.bk 32 t.val) ∗ Ring.slotAt 2 (cellP0_0 c) (slotW0_0 c fh0) (flightW0_0 c fh0) t.val 1 ∗ Ring.free (cellP0_0 c) (slotW0_0 c fh0) (Ring.sl 3 (t.val + 2))) ∗ owes (c : Thread nD τ) 0 W
            ∗ (iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val)) ∗ (∃ W', owes (c : Thread nD τ) 0 W')) -∗ K ⟨⟩))
          ⊢ wp frame (wpE (defs₀ (F := F)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (¬cond0_0 (grid0.coords t)) := ⟨hc0⟩
    haveI : Fact (¬cond0_1 (grid0.coords t)) := ⟨hc1⟩
    simp only [cc0_nf4_encode_eq_skeleton]; unfold cc0_nf4_encode_skel; simp only [k0_part86_eq_skeleton, k0_part87_eq_skeleton, k0_part88_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    have hsl := slotOf t
    unfold Ring.free Ring.inflight
    iintro ⟨⟨⟨%f_H2, H2⟩, ⟨%f_H3, H3⟩, ⟨%f_H4, H4⟩, ⟨%f_H5, H5⟩, ⟨%f_H6, H6⟩, ⟨%f_HS1, HS1⟩, ⟨%f_HS2, HS2⟩, ⟨%f_HS3, HS3⟩, ⟨%f_HS4, HS4⟩, ⟨%f_HS5, HS5⟩, ⟨%f_HS6, HS6⟩⟩, ⟨⟨%ff0, Hf0, Hrf0⟩, Hro, ⟨Hc2, ⟨%fs2, Hs2, Hw2⟩⟩⟩, HW, Hk⟩
    sl_exec (disch := first | sl_exact hc0 | sl_exact hc1 | sl_exact hc2)
    sl_step
    iapply Hk
    isplitl [H2 H3 H4 H5 H6 HS1 HS2 HS3 HS4 HS5 HS6]
    · isplitl [H2]; · iexists _; iexact H2
      isplitl [H3]; · iexists _; iexact H3
      isplitl [H4]; · iexists _; iexact H4
      isplitl [H5]; · iexists _; iexact H5
      isplitl [H6]; · iexists _; iexact H6
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    isplitl [Hro Hc2 Hs2 Hw2 Hf0 Hf0_dst Hf0_src Hrf0]
    · isplitl [Hro]; · iexact Hro
      isplitl [Hc2 Hs2 Hw2]
      · isplitl [Hc2]; · iexact Hc2
        iexists _; isplitl [Hs2]; · iexact Hs2
        iexact Hw2
      isplitl [Hf0]; · iexact Hf0
      iexists _; isplitl [Hf0_dst]; · iexact Hf0_dst
      iapply (src0_0_split c fh0 (Ring.sl 3 t.val) (Ring.bk 32 t.val)).2; isplitl [Hf0_src]; · iexact Hf0_src
      iexact Hrf0
    iexists _; iexact HW

end Cert.Kernel.Hand

end
-- ==== Proof.PRunD.lean ====
/- The body at one kind of point. -/
module

public import proofs.«01_k».proof.Proof.PRunC

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

set_option maxHeartbeats 16000000 in
/-- At the last point, where the scales are quantised: the body runs, hands every buffer back at some contents, and moves the ring one step. -/
theorem kernelRun0_D (c : Dev nD) (t : Fin cfg0.N) (arg2 : Memref sig .tc .vmem S1x256x1536 .i8) (harg2 : arg2.IsWhole) (arg3 : Memref sig .tc .vmem S1x8x1536 .f32) (harg3 : arg3.IsWhole) (arg4 : Memref sig .tc .vmem S1536x256 .i8) (harg4 : arg4.IsWhole) (arg5 : Memref sig .tc .vmem S12x128 .f32) (harg5 : arg5.IsWhole) (arg6 : Memref sig .tc .smem S1x1 .f32) (harg6 : arg6.IsWhole) (hc0 : ¬cond0_0 (grid0.coords t)) (hc1 : ¬cond0_1 (grid0.coords t)) (hc2 : cond0_2 (grid0.coords t)) (fh0 : HbBuf0 (F := F) c hbM0_0) :
      ∀ (W : Waits sig Unit) (K : PUnit → sProp 𝕄),
        iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.inflight (flightW0_0 c fh0) (Ring.sl 3 t.val) (Ring.bk 32 t.val) ∗ Ring.slotAt 2 (cellP0_0 c) (slotW0_0 c fh0) (flightW0_0 c fh0) t.val 1 ∗ Ring.free (cellP0_0 c) (slotW0_0 c fh0) (Ring.sl 3 (t.val + 2))) ∗ owes (c : Thread nD τ) 0 W
            ∗ (iprop((some0 c arg2 ∗ some0 c arg3 ∗ some0 c arg4 ∗ some0 c arg5 ∗ some0 c arg6 ∗ some0 c scM0_1 ∗ some0 c scM0_2 ∗ some0 c scM0_3 ∗ some0 c scM0_4 ∗ some0 c scM0_5 ∗ some0 c scM0_6) ∗ (Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val)) ∗ (∃ W', owes (c : Thread nD τ) 0 W')) -∗ K ⟨⟩))
          ⊢ wp frame (wpE (defs₀ (F := F)) Variants.none c none) Set.univ (cc0_nf4_encode (grid0.coords t) (Memref.whole main_arg0) (Memref.isWhole_whole _) arg2 harg2 arg3 harg3 arg4 harg4 arg5 harg5 arg6 harg6 scM0_0 (Memref.isWhole_whole _) cc0_scratch1 scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
    intro W K
    haveI : Fact (¬cond0_0 (grid0.coords t)) := ⟨hc0⟩
    haveI : Fact (¬cond0_1 (grid0.coords t)) := ⟨hc1⟩
    simp only [cc0_nf4_encode_eq_skeleton]; unfold cc0_nf4_encode_skel; simp only [k0_part86_eq_skeleton, k0_part87_eq_skeleton, k0_part88_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    have hsl := slotOf t
    unfold Ring.free Ring.inflight
    iintro ⟨⟨⟨%f_H2, H2⟩, ⟨%f_H3, H3⟩, ⟨%f_H4, H4⟩, ⟨%f_H5, H5⟩, ⟨%f_H6, H6⟩, ⟨%f_HS1, HS1⟩, ⟨%f_HS2, HS2⟩, ⟨%f_HS3, HS3⟩, ⟨%f_HS4, HS4⟩, ⟨%f_HS5, HS5⟩, ⟨%f_HS6, HS6⟩⟩, ⟨⟨%ff0, Hf0, Hrf0⟩, Hro, ⟨Hc2, ⟨%fs2, Hs2, Hw2⟩⟩⟩, HW, Hk⟩
    sl_exec (disch := first | sl_exact hc0 | sl_exact hc1 | sl_exact hc2)
    sl_step
    iapply Hk
    isplitl [H2 H3 H4 H5 H6 HS1 HS2 HS3 HS4 HS5 HS6]
    · isplitl [H2]; · iexists _; iexact H2
      isplitl [H3]; · iexists _; iexact H3
      isplitl [H4]; · iexists _; iexact H4
      isplitl [H5]; · iexists _; iexact H5
      isplitl [H6]; · iexists _; iexact H6
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    isplitl [Hro Hc2 Hs2 Hw2 Hf0 Hf0_dst Hf0_src Hrf0]
    · isplitl [Hro]; · iexact Hro
      isplitl [Hc2 Hs2 Hw2]
      · isplitl [Hc2]; · iexact Hc2
        iexists _; isplitl [Hs2]; · iexact Hs2
        iexact Hw2
      isplitl [Hf0]; · iexact Hf0
      iexists _; isplitl [Hf0_dst]; · iexact Hf0_dst
      iapply (src0_0_split c fh0 (Ring.sl 3 t.val) (Ring.bk 32 t.val)).2; isplitl [Hf0_src]; · iexact Hf0_src
      iexact Hrf0
    iexists _; iexact HW

end Cert.Kernel.Hand

end
-- ==== Proof.PFrame.lean ====
/- The whole run: the pipeline's proof data, the body at any point, and the frame. -/
module

public import proofs.«01_k».proof.Proof.PRunD
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- A memref owned whole at something is its cells at some contents, -/
theorem some0_of_owns (c : Dev nD) {sp : Space} {S : Shape} {e : EltTy} (M : Memref sig .tc sp S e) :
    iprop(∃ d, owns (c : Thread nD τ) M fullShare d) ⊢ (some0 (F := F) c M : sProp 𝕄) := by
  unfold owns
  iintro ⟨%d, %f, -, H⟩
  iexists _; iexact H

/-- and conversely. -/
theorem owns_of_some0 (c : Dev nD) {sp : Space} {S : Shape} {e : EltTy} (M : Memref sig .tc sp S e) :
    (some0 (F := F) c M : sProp 𝕄) ⊢ iprop(∃ d, owns (c : Thread nD τ) M fullShare d) := by
  unfold owns
  iintro ⟨%f, H⟩
  iexists _, _; isplitr; swap; · iexact H
  ipureintro; rfl

/-! ## The pipeline's proof data -/

/-- What is held of the scratch buffers between points. -/
def scr0 (c : Dev nD) : sProp 𝕄 := iprop((∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d))

/-- The region invariant before point `k`: the scratch at anything, the generator register at some state, the ring before the point. -/
def PhiR (c : Dev nD) (k : ℕ) : sProp 𝕄 := iprop(scr0 (F := F) c ∗ (∃ r, prngReg c r) ∗ ringAt0_0 c (V m c main_arg0) k)

/-- Nothing is named of what is left in a window. -/
def forgets0 : Fin 5 → Bool := fun _ => true

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- The windows' staging memrefs at anything. -/
def win0 (c : Dev nD) (t : Fin cfg0.N) : sProp 𝕄 := iprop((∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d))

/-- What the body takes and gives back, at any contents. -/
def held0 (c : Dev nD) (t : Fin cfg0.N) : sProp 𝕄 :=
  iprop(some0 c (ms0_0 t) ∗ some0 c (ms0_1 t) ∗ some0 c (ms0_2 t) ∗ some0 c (ms0_3 t) ∗ some0 c (ms0_4 t) ∗ some0 c scM0_1 ∗ some0 c scM0_2 ∗ some0 c scM0_3 ∗ some0 c scM0_4 ∗ some0 c scM0_5 ∗ some0 c scM0_6)

theorem held0_in (c : Dev nD) (t : Fin cfg0.N) : iprop(scr0 (F := F) c ∗ win0 c t) ⊢ (held0 (F := F) c t : sProp 𝕄) := by
  unfold scr0 win0 held0
  iintro ⟨⟨HS1, HS2, HS3, HS4, HS5, HS6⟩, H0, H1, H2, H3, H4⟩
  isplitl [H0]; · iapply some0_of_owns; iexact H0
  isplitl [H1]; · iapply some0_of_owns; iexact H1
  isplitl [H2]; · iapply some0_of_owns; iexact H2
  isplitl [H3]; · iapply some0_of_owns; iexact H3
  isplitl [H4]; · iapply some0_of_owns; iexact H4
  isplitl [HS1]; · iapply some0_of_owns; iexact HS1
  isplitl [HS2]; · iapply some0_of_owns; iexact HS2
  isplitl [HS3]; · iapply some0_of_owns; iexact HS3
  isplitl [HS4]; · iapply some0_of_owns; iexact HS4
  isplitl [HS5]; · iapply some0_of_owns; iexact HS5
  iapply some0_of_owns; iexact HS6

theorem held0_out (c : Dev nD) (t : Fin cfg0.N) : (held0 (F := F) c t : sProp 𝕄) ⊢ iprop(scr0 (F := F) c ∗ win0 c t) := by
  unfold scr0 win0 held0
  iintro ⟨H0, H1, H2, H3, H4, HS1, HS2, HS3, HS4, HS5, HS6⟩
  isplitl [HS1 HS2 HS3 HS4 HS5 HS6]
  · isplitl [HS1]; · iapply owns_of_some0; iexact HS1
    isplitl [HS2]; · iapply owns_of_some0; iexact HS2
    isplitl [HS3]; · iapply owns_of_some0; iexact HS3
    isplitl [HS4]; · iapply owns_of_some0; iexact HS4
    isplitl [HS5]; · iapply owns_of_some0; iexact HS5
    iapply owns_of_some0; iexact HS6
  isplitl [H0]; · iapply owns_of_some0; iexact H0
  isplitl [H1]; · iapply owns_of_some0; iexact H1
  isplitl [H2]; · iapply owns_of_some0; iexact H2
  isplitl [H3]; · iapply owns_of_some0; iexact H3
  iapply owns_of_some0; iexact H4

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc ∗ win0 c t)

/-- and what it returns. -/
def bodyPost (c : Dev nD) (t : Fin cfg0.N) : sProp 𝕄 :=
  iprop((dats m 0 c).Φ t.succ ∗ (dats m 0 c).owesAt () t.succ ∗ win0 c t)

set_option maxHeartbeats 1600000 in
/-- The body at any point: the closed forms of its conditions say which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 32 := N_0
  have hN : t.val < 32 := lt_of_lt_of_eq t.isLt (show cfg0.N = 32 from N_0)
  by_cases h0 : t.val % 32 = 0
  · have h1 : t.val < 30 := by omega
    have hr0 := rstep0_0_A t ((hcond0_0 t).mpr h0) ((hcond0_1 t).mpr h1)
    obtain ⟨hK00, hK10⟩ := hr0
    rw [if_pos hK00, if_neg (show ¬t.val + 1 = 0 by omega)]
    rw [Ring.At₀_eq3' _ _ _ t.val hK00 (by decide : 3 ≤ 32), Ring.At3_one' _ _ _ _ t.val hK00 (by decide : 3 ≤ 32)]
    iintro ⟨⟨HS, Hg, ⟨-, Hfr0, Hfr1, Hfr2⟩⟩, ⟨%W, -, HW⟩, Hw⟩
    ihave HH := (held0_in (F := F) c t) $$ [HS Hw]
    · isplitl [HS]; · iexact HS
      iexact Hw
    unfold held0
    iapply ((kernelRun0_A c t _ _ _ _ _ _ _ _ _ _ ((hcond0_0 t).mpr h0) ((hcond0_1 t).mpr h1) (fun h => absurd ((hcond0_2 t).mp h) (by omega)) (V m c main_arg0)) W _)
    isplitl [HH]; · iexact HH
    isplitl [Hfr0 Hfr1 Hfr2]
    · isplitl [Hfr0]; · iexact Hfr0
      isplitl [Hfr1]; · iexact Hfr1
      iexact Hfr2
    isplitl [HW]; · iexact HW
    iintro ⟨HH, ⟨Hfa, Hfb, Hfc⟩, ⟨%W', HW'⟩⟩
    ihave HB := (held0_out (F := F) c t) $$ [HH]
    · unfold held0; iexact HH
    icases HB with ⟨HS, Hw⟩
    isplitl [HS Hg Hfa Hfb Hfc]
    · isplitl [HS]; · iexact HS
      isplitl [Hg]; · iexact Hg
      iapply (Ring.with_homes (Idealize.SL.BI.Entails.refl _))
      isplitl [Hfa]; · iexact Hfa
      isplitl [Hfb]; · iexact Hfb
      iexact Hfc
    isplitl [HW']
    · iexists W'; isplitr; · ipureintro; exact fun _ _ => Or.inl trivial
      iexact HW'
    iexact Hw
  · by_cases h1 : t.val < 30
    · have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      iintro ⟨⟨HS, Hg, ⟨-, Hfr0, Hfr1, Hfr2⟩⟩, ⟨%W, -, HW⟩, Hw⟩
      ihave HH := (held0_in (F := F) c t) $$ [HS Hw]
      · isplitl [HS]; · iexact HS
        iexact Hw
      unfold held0
      iapply ((kernelRun0_B c t _ _ _ _ _ _ _ _ _ _ (fun h => h0 ((hcond0_0 t).mp h)) ((hcond0_1 t).mpr h1) (fun h => absurd ((hcond0_2 t).mp h) (by omega)) (V m c main_arg0)) W _)
      isplitl [HH]; · iexact HH
      isplitl [Hfr0 Hfr1 Hfr2]
      · isplitl [Hfr0]; · iexact Hfr0
        isplitl [Hfr1]; · iexact Hfr1
        iexact Hfr2
      isplitl [HW]; · iexact HW
      iintro ⟨HH, ⟨Hfa, Hfb, Hfc⟩, ⟨%W', HW'⟩⟩
      ihave HB := (held0_out (F := F) c t) $$ [HH]
      · unfold held0; iexact HH
      icases HB with ⟨HS, Hw⟩
      isplitl [HS Hg Hfa Hfb Hfc]
      · isplitl [HS]; · iexact HS
        isplitl [Hg]; · iexact Hg
        iapply (Ring.with_homes (Idealize.SL.BI.Entails.refl _))
        isplitl [Hfa]; · iexact Hfa
        isplitl [Hfb]; · iexact Hfb
        iexact Hfc
      isplitl [HW']
      · iexists W'; isplitr; · ipureintro; exact fun _ _ => Or.inl trivial
        iexact HW'
      iexact Hw
    · have hr0 := rstep0_0_C t (fun h => h0 ((hcond0_0 t).mp h)) (fun h => h1 ((hcond0_1 t).mp h))
      obtain ⟨hK10, hKB0, hKlt0, hKs0⟩ := hr0
      rw [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      by_cases h2 : t.val = 31
      · iintro ⟨⟨HS, Hg, ⟨-, Hfr0, Hfr1, Hfr2⟩⟩, ⟨%W, -, HW⟩, Hw⟩
        ihave HH := (held0_in (F := F) c t) $$ [HS Hw]
        · isplitl [HS]; · iexact HS
          iexact Hw
        unfold held0
        iapply ((kernelRun0_D c t _ _ _ _ _ _ _ _ _ _ (fun h => h0 ((hcond0_0 t).mp h)) (fun h => h1 ((hcond0_1 t).mp h)) ((hcond0_2 t).mpr h2) (V m c main_arg0)) W _)
        isplitl [HH]; · iexact HH
        isplitl [Hfr0 Hfr1 Hfr2]
        · isplitl [Hfr0]; · iexact Hfr0
          isplitl [Hfr1]; · iexact Hfr1
          iexact Hfr2
        isplitl [HW]; · iexact HW
        iintro ⟨HH, ⟨Hfa, Hfb, Hfc⟩, ⟨%W', HW'⟩⟩
        ihave HB := (held0_out (F := F) c t) $$ [HH]
        · unfold held0; iexact HH
        icases HB with ⟨HS, Hw⟩
        isplitl [HS Hg Hfa Hfb Hfc]
        · isplitl [HS]; · iexact HS
          isplitl [Hg]; · iexact Hg
          iapply (Ring.with_homes (Idealize.SL.BI.Entails.refl _))
          isplitl [Hfa]; · iexact Hfa
          isplitl [Hfb]; · iexact Hfb
          iexact Hfc
        isplitl [HW']
        · iexists W'; isplitr; · ipureintro; exact fun _ _ => Or.inl trivial
          iexact HW'
        iexact Hw
      · iintro ⟨⟨HS, Hg, ⟨-, Hfr0, Hfr1, Hfr2⟩⟩, ⟨%W, -, HW⟩, Hw⟩
        ihave HH := (held0_in (F := F) c t) $$ [HS Hw]
        · isplitl [HS]; · iexact HS
          iexact Hw
        unfold held0
        iapply ((kernelRun0_C c t _ _ _ _ _ _ _ _ _ _ (fun h => h0 ((hcond0_0 t).mp h)) (fun h => h1 ((hcond0_1 t).mp h)) (fun h => h2 ((hcond0_2 t).mp h)) (V m c main_arg0)) W _)
        isplitl [HH]; · iexact HH
        isplitl [Hfr0 Hfr1 Hfr2]
        · isplitl [Hfr0]; · iexact Hfr0
          isplitl [Hfr1]; · iexact Hfr1
          iexact Hfr2
        isplitl [HW]; · iexact HW
        iintro ⟨HH, ⟨Hfa, Hfb, Hfc⟩, ⟨%W', HW'⟩⟩
        ihave HB := (held0_out (F := F) c t) $$ [HH]
        · unfold held0; iexact HH
        icases HB with ⟨HS, Hw⟩
        isplitl [HS Hg Hfa Hfb Hfc]
        · isplitl [HS]; · iexact HS
          isplitl [Hg]; · iexact Hg
          iapply (Ring.with_homes (Idealize.SL.BI.Entails.refl _))
          isplitl [Hfa]; · iexact Hfa
          isplitl [Hfb]; · iexact Hfb
          iexact Hfc
        isplitl [HW']
        · iexists W'; isplitr; · ipureintro; exact fun _ _ => Or.inl trivial
          iexact HW'
        iexact Hw

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR scr0
  iintro ⟨⟨HR0_0, HS⟩, Hg, ⟨Hq0, Hq1, Hq2⟩, Hh0⟩
  isplitl [HS]; · iexact HS
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR scr0
  rw [show grid0.N = 32 by rw [N_0]]
  iintro ⟨HS, Hg, HR0_0⟩
  ihave HX0_0 := (ring0_0_out (F := F) m c) $$ HR0_0
  icases HX0_0 with ⟨HR0_0, ⟨Hq0, Hq1, Hq2⟩, Hh0⟩
  isplitl [HR0_0 HS]
  · isplitl [HR0_0]; · iexact HR0_0
    iexact HS
  isplitl [Hg]
  · iexact Hg
  isplitl [Hq0 Hq1 Hq2]
  · isplitl [Hq0]; · iexact Hq0
    isplitl [Hq1]; · iexact Hq1
    iexact Hq2
  iexact Hh0

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every weakly fair execution of @main terminates, every buffer but the outputs' arrays as it was. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- The frame: the argument ends unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel.Hand

end
-- ==== Proof.Preserves.lean ====
/- Every rewrite of the idealized program is one its rule proves. -/
module

public import proofs.«01_k».proof.Defs
public import Idealize.ShloMosaic.Lib.Bf16Pair
public import Idealize.ShloMosaic.Lib.Bf16PairInverse

@[expose] public section

set_option maxRecDepth 16384

noncomputable section

namespace Cert.Proof

open Idealize.ShloMosaic

/-- The idealized program is the kernel's sanctioned idealization: each conjunct is its rule's own theorem. -/
theorem preserves : Cert.preserves_Kernel_KernelIdeal :=
  ⟨IdealRules.bf16_pair.bufferStatement _ _, IdealRules.bf16_pair.bufferStatement _ _,
    IdealRules.bf16_pair.statement _ _, IdealRules.bf16_pair.statement _ _, IdealRules.bf16_pair.statement _ _,
    IdealRules.bf16_pair.packStatement _, IdealRules.bf16_pair.statement _ _, IdealRules.bf16_pair.statement _ _,
    IdealRules.named_const.statement _ _ _ _ _ rfl, IdealRules.named_const.statement _ _ _ _ _ rfl⟩

end Cert.Proof

end
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import proofs.«01_k».proof.Proof.VMax
public import proofs.«01_k».proof.Proof.VRef
public import proofs.«01_k».proof.Proof.VRefCode
public import proofs.«01_k».proof.Proof.PFrame
public import proofs.«01_k».proof.Proof.Preserves

@[expose] public section

noncomputable section

open Idealize.ShloMosaic Idealize.ShloMosaic.TcCoe Idealize.SL.Sem Idealize.ShloMosaic.StableHlo

/-- The reference runs and leaves its argument as it was; it has no semaphore. -/
theorem Cert.Proof.frame_r : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Idealize.ShloMosaic.Ideal) m ρ)

/-- What the mask states of shapes, from the same statements of the reference. -/
theorem Cert.Proof.maskFacts : Cert.On_off_thresholds.Facts :=
  ⟨Cert.ReferenceIdeal.Gen.bitsLt_bf16_f32, Cert.ReferenceIdeal.Gen.shapeCasts_S1x2048x12288_S1x32x32x2x12288, Cert.ReferenceIdeal.Gen.reducesTo_S1x32x32x2x12288_S1x32x12288_d2_3,
    Cert.ReferenceIdeal.Gen.h_S_, Cert.ReferenceIdeal.Gen.bcast_S_S1x32x12288, Cert.ReferenceIdeal.Gen.bcast_S1x32x12288_S1x32x1x1x12288_0_1_4,
    Cert.ReferenceIdeal.Gen.bcast_S1x32x1x1x12288_S1x32x32x2x12288_0_1_2_3_4, Cert.ReferenceIdeal.Gen.bcast_S_S1x32x32x2x12288,
    Cert.ReferenceIdeal.Gen.slices_S1x32x32x2x12288_S1x32x32x1x12288_0_0_0_0_0, Cert.ReferenceIdeal.Gen.shapeCasts_S1x32x32x1x12288_S1x32x32x12288,
    Cert.ReferenceIdeal.Gen.slices_S1x32x32x2x12288_S1x32x32x1x12288_0_0_0_1_0, Cert.ReferenceIdeal.Gen.shapeCasts_S1x32x32x12288_S1x1024x12288,
    by decide⟩

/-- On the same weights the idealized kernel and the reference leave the same maxima and the same mean of them, and the same packed codes
    wherever both weights of a byte are off the thresholds. -/
theorem Cert.Proof.algebraic [hM : Cert.On_off_thresholds.Facts] : Cert.algebraic_KernelIdeal_ReferenceIdeal_on_off_thresholds := by
  intro m g m' g' _ hag
  refine ⟨fun c => Cert.KernelIdeal.Hand.packArr (c := c) (m ((c.tc : Thread Cert.KernelIdeal.nD Cert.KernelIdeal.τ).loc Cert.KernelIdeal.main_arg0)),
    fun c => Cert.KernelIdeal.Hand.maxArr (c := c) (m ((c.tc : Thread Cert.KernelIdeal.nD Cert.KernelIdeal.τ).loc Cert.KernelIdeal.main_arg0)),
    fun c => Cert.KernelIdeal.Hand.meanBlk (c := c) (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Hand.values m g)
    obtain ⟨h0, h1, h2, h3⟩ := h c
    exact ⟨fun i _ => congrFun h0 i, fun i _ => congrFun h1 i, fun i _ => congrFun h2 i, h3⟩
  · refine (θ_run Cert.ReferenceIdeal.defs _ _).mono (fun r h c => ?_) (Cert.ReferenceIdeal.Value.run (F := Idealize.ShloMosaic.Ideal) m' g')
    obtain ⟨h0, h1, h2, h3⟩ := h c
    have hc := hag c
    refine ⟨fun i hi => ?_, fun i _ => ?_, fun i _ => ?_, h3⟩
    · refine (congrFun h0 i).trans ?_
      exact (Cert.ReferenceIdeal.Hand.codes_eq (c := c) (m ((c.tc : Thread Cert.KernelIdeal.nD Cert.KernelIdeal.τ).loc Cert.KernelIdeal.main_arg0)) (launchContents m' c) _ hc hc i hi).symm
    · refine (congrFun h1 i).trans ?_
      exact Cert.ReferenceIdeal.Hand.v3_apply (c := c) _ (launchContents m' c) hc i
    · refine (congrFun h2 i).trans ?_
      exact Cert.KernelIdeal.Hand.ref_mean (c := c) _ _ (fun j => Cert.ReferenceIdeal.Hand.v3_apply (c := c) _ (launchContents m' c) hc j) i

/-- Both programs and the reference run and leave their argument as it was, the idealization is sanctioned, and the packed codes off the
    thresholds, the maxima and their mean are the reference's. -/
theorem Cert.Proof.claim : Cert.Claim :=
  ⟨Cert.Kernel.Gen.facts, Cert.KernelIdeal.Gen.facts, Cert.ReferenceIdeal.Gen.facts, Cert.Proof.maskFacts,
    fun m ρ _ => Cert.Kernel.Hand.frame m ρ, fun m ρ _ => Cert.KernelIdeal.Hand.frame m ρ,
    Cert.Proof.frame_r, Cert.Proof.preserves, Cert.Proof.algebraic (hM := Cert.Proof.maskFacts)⟩

end
